-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S1024x128 : Shape := ⟨2, ![1024, 128]⟩
abbrev S8x4096 : Shape := ⟨2, ![8, 4096]⟩
abbrev S8x128 : Shape := ⟨2, ![8, 128]⟩
abbrev S_ : Shape := ⟨0, ![]⟩
abbrev S16 : Shape := ⟨1, ![16]⟩
abbrev S4096x128 : Shape := ⟨2, ![4096, 128]⟩
abbrev S16384x128 : Shape := ⟨2, ![16384, 128]⟩
abbrev S1024x4096 : Shape := ⟨2, ![1024, 4096]⟩

abbrev nBuf : Table → Nat
  | .hbm => 13
  | .local .tc .vmem => 5
  | .local .scVector .vmem => 4
  | _ => 0

abbrev bufTy : (tb : Table) → Fin (nBuf tb) → BufTy
  | .hbm, ⟨0, _⟩ => ⟨S16384x4096, .f32⟩
  | .hbm, ⟨1, _⟩ => ⟨S1024x128, .f32⟩
  | .hbm, ⟨2, _⟩ => ⟨S4096x128, .i32⟩
  | .hbm, ⟨3, _⟩ => ⟨S_, .i32⟩
  | .hbm, ⟨4, _⟩ => ⟨S4096x128, .i32⟩
  | .hbm, ⟨5, _⟩ => ⟨S4096x128, .i32⟩
  | .hbm, ⟨6, _⟩ => ⟨S4096x128, .i32⟩
  | .hbm, ⟨7, _⟩ => ⟨S4096x128, .i1⟩
  | .hbm, ⟨8, _⟩ => ⟨S4096x128, .f32⟩
  | .hbm, ⟨9, _⟩ => ⟨S16384x128, .f32⟩
  | .hbm, ⟨10, _⟩ => ⟨S_, .i32⟩
  | .hbm, ⟨11, _⟩ => ⟨S_, .i32⟩
  | .hbm, ⟨12, _⟩ => ⟨S16384x128, .f32⟩
  | .local .tc .vmem, ⟨0, _⟩ => ⟨S1024x4096, .f32⟩
  | .local .tc .vmem, ⟨1, _⟩ => ⟨S1024x4096, .f32⟩
  | .local .tc .vmem, ⟨2, _⟩ => ⟨S4096x128, .f32⟩
  | .local .tc .vmem, ⟨3, _⟩ => ⟨S1024x128, .f32⟩
  | .local .tc .vmem, ⟨4, _⟩ => ⟨S1024x128, .f32⟩
  | .local .scVector .vmem, ⟨0, _⟩ => ⟨S8x4096, .f32⟩
  | .local .scVector .vmem, ⟨1, _⟩ => ⟨S8x4096, .f32⟩
  | .local .scVector .vmem, ⟨2, _⟩ => ⟨S8x128, .f32⟩
  | .local .scVector .vmem, ⟨3, _⟩ => ⟨S8x128, .f32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_c_1 : Ref sig .tc := ⟨.hbm, 11, rfl⟩
abbrev main_v8 : Ref sig .tc := ⟨.hbm, 12, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c15360_i32 : BitVec 32 := 15360#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15360_i32 v2
  let c0_i32_3 : BitVec 32 := 0#32
  let v74 : BitVec 32 := Scalar.addi v3 c0_i32_3
  let c0_i32_4 : BitVec 32 := 0#32
  ![v74.toNat, 0]
@[reducible] def k0_t1_loop : Scf.Loop 32 :=
  let c0_i32_7 : BitVec 32 := 0#32
  let c2_i32_8 : BitVec 32 := 2#32
  let v77 : BitVec 32 := Scalar.addi c0_i32_7 c2_i32_8
  let c1_i32_9 : BitVec 32 := 1#32
  ⟨c0_i32_7, v77, c1_i32_9⟩
def k0_cond1 (k0_t1 : Fin k0_t1_loop.trips) : BitVec 1 :=
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let c0_i32_18 : BitVec 32 := 0#32
  let v85 : BitVec 32 := Scalar.addi v84 c0_i32_18
  let c2_i32_19 : BitVec 32 := 2#32
  let v86 : BitVec 32 := Scalar.addi v85 c2_i32_19
  let c1_i32_20 : BitVec 32 := 1#32
  let v87 : BitVec 32 := Scalar.subi v86 c1_i32_20
  let c4_i32_21 : BitVec 32 := 4#32
  let v88 : BitVec 1 := Scalar.cmpi .slt v87 c4_i32_21
  let v89 : BitVec 32 := Scalar.extui v88
  let c0_i32_22 : BitVec 32 := 0#32
  let v90 : BitVec 1 := Scalar.cmpi .ne v89 c0_i32_22
  v90

def k0_off2 (i : grid0.Coords) (k0_t1 : Fin k0_t1_loop.trips) : Fin 2 → Nat :=
  let c15360_i32 : BitVec 32 := 15360#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15360_i32 v2
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let c0_i32_18 : BitVec 32 := 0#32
  let v85 : BitVec 32 := Scalar.addi v84 c0_i32_18
  let c2_i32_55 : BitVec 32 := 2#32
  let v122 : BitVec 32 := Scalar.addi v85 c2_i32_55
  let c1_i32_56 : BitVec 32 := 1#32
  let v123 : BitVec 32 := Scalar.subi v122 c1_i32_56
  let c8_i32_57 : BitVec 32 := 8#32
  let v124 : BitVec 32 := Scalar.muli v123 c8_i32_57
  let v125 : BitVec 32 := Scalar.addi v3 v124
  let c0_i32_58 : BitVec 32 := 0#32
  ![v125.toNat, 0]
def k0_off3 (i : grid0.Coords) (k0_t1 : Fin k0_t1_loop.trips) (c0_i32_18 : BitVec 32) : Fin 2 → Nat :=
  let c15360_i32 : BitVec 32 := 15360#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15360_i32 v2
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let v85 : BitVec 32 := Scalar.addi v84 c0_i32_18
  let c8_i32_23 : BitVec 32 := 8#32
  let v91 : BitVec 32 := Scalar.muli v85 c8_i32_23
  let v92 : BitVec 32 := Scalar.addi v3 v91
  let c0_i32_24 : BitVec 32 := 0#32
  ![v92.toNat, 0]
def k0_cond2 (k0_t1 : Fin k0_t1_loop.trips) : BitVec 1 :=
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let c0_i32_18 : BitVec 32 := 0#32
  let v85 : BitVec 32 := Scalar.addi v84 c0_i32_18
  let c2_i32_26 : BitVec 32 := 2#32
  let v95 : BitVec 1 := Scalar.cmpi .sge v85 c2_i32_26
  let v96 : BitVec 32 := Scalar.extui v95
  let c0_i32_27 : BitVec 32 := 0#32
  let v97 : BitVec 1 := Scalar.cmpi .ne v96 c0_i32_27
  v97

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_0 : BitVec 32 := 32#32
  let v4 : BitVec 32 := Scalar.muli v1 c32_i32_0
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let c0_i32_18 : BitVec 32 := 0#32
  let v85 : BitVec 32 := Scalar.addi v84 c0_i32_18
  let c2_i32_55 : BitVec 32 := 2#32
  let v122 : BitVec 32 := Scalar.subi v85 c2_i32_55
  let c8_i32_56 : BitVec 32 := 8#32
  let v123 : BitVec 32 := Scalar.muli v122 c8_i32_56
  let v124 : BitVec 32 := Scalar.addi v4 v123
  let c0_i32_57 : BitVec 32 := 0#32
  ![v124.toNat, 0]
@[reducible] def k0_t2_loop : Scf.Loop 32 :=
  let c0_i32_29 : BitVec 32 := 0#32
  let c8_i32_30 : BitVec 32 := 8#32
  let v98 : BitVec 32 := Scalar.addi c0_i32_29 c8_i32_30
  let c1_i32_31 : BitVec 32 := 1#32
  ⟨c0_i32_29, v98, c1_i32_31⟩

def k0_chk1 (v123 : IVec S16 32) (v125 : IVec S16 32) : Prop :=
  (∀ a x, ((![v123, v125] : Fin 2 → IVec S16 32) a x).toNat < S8x4096.size a)
theorem k0_idx1_inb : ∀ (v123 : IVec S16 32) (v125 : IVec S16 32) (k0_hw1 : k0_chk1 v123 v125), ∀ a x, ((![v123, v125] : Fin 2 → IVec S16 32) a x).toNat < S8x4096.size a := fun v123 v125 k0_hw1 => k0_hw1

def k0_chk2 (v123 : IVec S16 32) (v128 : IVec S16 32) : Prop :=
  (∀ a x, ((![v123, v128] : Fin 2 → IVec S16 32) a x).toNat < S8x4096.size a)
theorem k0_idx2_inb : ∀ (v123 : IVec S16 32) (v128 : IVec S16 32) (k0_hw2 : k0_chk2 v123 v128), ∀ a x, ((![v123, v128] : Fin 2 → IVec S16 32) a x).toNat < S8x4096.size a := fun v123 v128 k0_hw2 => k0_hw2

def k0_chk3 (v123 : IVec S16 32) (v132 : IVec S16 32) : Prop :=
  (∀ a x, ((![v123, v132] : Fin 2 → IVec S16 32) a x).toNat < S8x4096.size a)
theorem k0_idx3_inb : ∀ (v123 : IVec S16 32) (v132 : IVec S16 32) (k0_hw3 : k0_chk3 v123 v132), ∀ a x, ((![v123, v132] : Fin 2 → IVec S16 32) a x).toNat < S8x4096.size a := fun v123 v132 k0_hw3 => k0_hw3

def k0_chk4 (v123 : IVec S16 32) (v136 : IVec S16 32) : Prop :=
  (∀ a x, ((![v123, v136] : Fin 2 → IVec S16 32) a x).toNat < S8x4096.size a)
theorem k0_idx4_inb : ∀ (v123 : IVec S16 32) (v136 : IVec S16 32) (k0_hw4 : k0_chk4 v123 v136), ∀ a x, ((![v123, v136] : Fin 2 → IVec S16 32) a x).toNat < S8x4096.size a := fun v123 v136 k0_hw4 => k0_hw4

def k0_chk5 (v123 : IVec S16 32) (v140 : IVec S16 32) : Prop :=
  (∀ a x, ((![v123, v140] : Fin 2 → IVec S16 32) a x).toNat < S8x4096.size a)
theorem k0_idx5_inb : ∀ (v123 : IVec S16 32) (v140 : IVec S16 32) (k0_hw5 : k0_chk5 v123 v140), ∀ a x, ((![v123, v140] : Fin 2 → IVec S16 32) a x).toNat < S8x4096.size a := fun v123 v140 k0_hw5 => k0_hw5

def k0_chk6 (v123 : IVec S16 32) (v144 : IVec S16 32) : Prop :=
  (∀ a x, ((![v123, v144] : Fin 2 → IVec S16 32) a x).toNat < S8x4096.size a)
theorem k0_idx6_inb : ∀ (v123 : IVec S16 32) (v144 : IVec S16 32) (k0_hw6 : k0_chk6 v123 v144), ∀ a x, ((![v123, v144] : Fin 2 → IVec S16 32) a x).toNat < S8x4096.size a := fun v123 v144 k0_hw6 => k0_hw6

def k0_chk7 (v123 : IVec S16 32) (v148 : IVec S16 32) : Prop :=
  (∀ a x, ((![v123, v148] : Fin 2 → IVec S16 32) a x).toNat < S8x4096.size a)
theorem k0_idx7_inb : ∀ (v123 : IVec S16 32) (v148 : IVec S16 32) (k0_hw7 : k0_chk7 v123 v148), ∀ a x, ((![v123, v148] : Fin 2 → IVec S16 32) a x).toNat < S8x4096.size a := fun v123 v148 k0_hw7 => k0_hw7

def k0_chk8 (v123 : IVec S16 32) (v152 : IVec S16 32) : Prop :=
  (∀ a x, ((![v123, v152] : Fin 2 → IVec S16 32) a x).toNat < S8x4096.size a)
theorem k0_idx8_inb : ∀ (v123 : IVec S16 32) (v152 : IVec S16 32) (k0_hw8 : k0_chk8 v123 v152), ∀ a x, ((![v123, v152] : Fin 2 → IVec S16 32) a x).toNat < S8x4096.size a := fun v123 v152 k0_hw8 => k0_hw8

def k0_chk9 (v123 : IVec S16 32) (v156 : IVec S16 32) : Prop :=
  (∀ a x, ((![v123, v156] : Fin 2 → IVec S16 32) a x).toNat < S8x4096.size a)
theorem k0_idx9_inb : ∀ (v123 : IVec S16 32) (v156 : IVec S16 32) (k0_hw9 : k0_chk9 v123 v156), ∀ a x, ((![v123, v156] : Fin 2 → IVec S16 32) a x).toNat < S8x4096.size a := fun v123 v156 k0_hw9 => k0_hw9

def k0_chk10 (v123 : IVec S16 32) (v160 : IVec S16 32) : Prop :=
  (∀ a x, ((![v123, v160] : Fin 2 → IVec S16 32) a x).toNat < S8x4096.size a)
theorem k0_idx10_inb : ∀ (v123 : IVec S16 32) (v160 : IVec S16 32) (k0_hw10 : k0_chk10 v123 v160), ∀ a x, ((![v123, v160] : Fin 2 → IVec S16 32) a x).toNat < S8x4096.size a := fun v123 v160 k0_hw10 => k0_hw10

def k0_chk11 (v123 : IVec S16 32) (v164 : IVec S16 32) : Prop :=
  (∀ a x, ((![v123, v164] : Fin 2 → IVec S16 32) a x).toNat < S8x4096.size a)
theorem k0_idx11_inb : ∀ (v123 : IVec S16 32) (v164 : IVec S16 32) (k0_hw11 : k0_chk11 v123 v164), ∀ a x, ((![v123, v164] : Fin 2 → IVec S16 32) a x).toNat < S8x4096.size a := fun v123 v164 k0_hw11 => k0_hw11

def k0_chk12 (v123 : IVec S16 32) (v168 : IVec S16 32) : Prop :=
  (∀ a x, ((![v123, v168] : Fin 2 → IVec S16 32) a x).toNat < S8x4096.size a)
theorem k0_idx12_inb : ∀ (v123 : IVec S16 32) (v168 : IVec S16 32) (k0_hw12 : k0_chk12 v123 v168), ∀ a x, ((![v123, v168] : Fin 2 → IVec S16 32) a x).toNat < S8x4096.size a := fun v123 v168 k0_hw12 => k0_hw12

def k0_chk13 (v123 : IVec S16 32) (v172 : IVec S16 32) : Prop :=
  (∀ a x, ((![v123, v172] : Fin 2 → IVec S16 32) a x).toNat < S8x4096.size a)
theorem k0_idx13_inb : ∀ (v123 : IVec S16 32) (v172 : IVec S16 32) (k0_hw13 : k0_chk13 v123 v172), ∀ a x, ((![v123, v172] : Fin 2 → IVec S16 32) a x).toNat < S8x4096.size a := fun v123 v172 k0_hw13 => k0_hw13

def k0_chk14 (v123 : IVec S16 32) (v176 : IVec S16 32) : Prop :=
  (∀ a x, ((![v123, v176] : Fin 2 → IVec S16 32) a x).toNat < S8x4096.size a)
theorem k0_idx14_inb : ∀ (v123 : IVec S16 32) (v176 : IVec S16 32) (k0_hw14 : k0_chk14 v123 v176), ∀ a x, ((![v123, v176] : Fin 2 → IVec S16 32) a x).toNat < S8x4096.size a := fun v123 v176 k0_hw14 => k0_hw14

def k0_chk15 (v123 : IVec S16 32) (v180 : IVec S16 32) : Prop :=
  (∀ a x, ((![v123, v180] : Fin 2 → IVec S16 32) a x).toNat < S8x4096.size a)
theorem k0_idx15_inb : ∀ (v123 : IVec S16 32) (v180 : IVec S16 32) (k0_hw15 : k0_chk15 v123 v180), ∀ a x, ((![v123, v180] : Fin 2 → IVec S16 32) a x).toNat < S8x4096.size a := fun v123 v180 k0_hw15 => k0_hw15

def k0_chk16 (v123 : IVec S16 32) (v184 : IVec S16 32) : Prop :=
  (∀ a x, ((![v123, v184] : Fin 2 → IVec S16 32) a x).toNat < S8x4096.size a)
theorem k0_idx16_inb : ∀ (v123 : IVec S16 32) (v184 : IVec S16 32) (k0_hw16 : k0_chk16 v123 v184), ∀ a x, ((![v123, v184] : Fin 2 → IVec S16 32) a x).toNat < S8x4096.size a := fun v123 v184 k0_hw16 => k0_hw16

def k0_chk17 (v123 : IVec S16 32) (v188 : IVec S16 32) : Prop :=
  (∀ a x, ((![v123, v188] : Fin 2 → IVec S16 32) a x).toNat < S8x4096.size a)
theorem k0_idx17_inb : ∀ (v123 : IVec S16 32) (v188 : IVec S16 32) (k0_hw17 : k0_chk17 v123 v188), ∀ a x, ((![v123, v188] : Fin 2 → IVec S16 32) a x).toNat < S8x4096.size a := fun v123 v188 k0_hw17 => k0_hw17

def k0_chk18 (v123 : IVec S16 32) (v192 : IVec S16 32) : Prop :=
  (∀ a x, ((![v123, v192] : Fin 2 → IVec S16 32) a x).toNat < S8x4096.size a)
theorem k0_idx18_inb : ∀ (v123 : IVec S16 32) (v192 : IVec S16 32) (k0_hw18 : k0_chk18 v123 v192), ∀ a x, ((![v123, v192] : Fin 2 → IVec S16 32) a x).toNat < S8x4096.size a := fun v123 v192 k0_hw18 => k0_hw18

def k0_chk19 (v123 : IVec S16 32) (v196 : IVec S16 32) : Prop :=
  (∀ a x, ((![v123, v196] : Fin 2 → IVec S16 32) a x).toNat < S8x4096.size a)
theorem k0_idx19_inb : ∀ (v123 : IVec S16 32) (v196 : IVec S16 32) (k0_hw19 : k0_chk19 v123 v196), ∀ a x, ((![v123, v196] : Fin 2 → IVec S16 32) a x).toNat < S8x4096.size a := fun v123 v196 k0_hw19 => k0_hw19

def k0_chk20 (v123 : IVec S16 32) (v200 : IVec S16 32) : Prop :=
  (∀ a x, ((![v123, v200] : Fin 2 → IVec S16 32) a x).toNat < S8x4096.size a)
theorem k0_idx20_inb : ∀ (v123 : IVec S16 32) (v200 : IVec S16 32) (k0_hw20 : k0_chk20 v123 v200), ∀ a x, ((![v123, v200] : Fin 2 → IVec S16 32) a x).toNat < S8x4096.size a := fun v123 v200 k0_hw20 => k0_hw20

def k0_chk21 (v123 : IVec S16 32) (v204 : IVec S16 32) : Prop :=
  (∀ a x, ((![v123, v204] : Fin 2 → IVec S16 32) a x).toNat < S8x4096.size a)
theorem k0_idx21_inb : ∀ (v123 : IVec S16 32) (v204 : IVec S16 32) (k0_hw21 : k0_chk21 v123 v204), ∀ a x, ((![v123, v204] : Fin 2 → IVec S16 32) a x).toNat < S8x4096.size a := fun v123 v204 k0_hw21 => k0_hw21

def k0_chk22 (v123 : IVec S16 32) (v208 : IVec S16 32) : Prop :=
  (∀ a x, ((![v123, v208] : Fin 2 → IVec S16 32) a x).toNat < S8x4096.size a)
theorem k0_idx22_inb : ∀ (v123 : IVec S16 32) (v208 : IVec S16 32) (k0_hw22 : k0_chk22 v123 v208), ∀ a x, ((![v123, v208] : Fin 2 → IVec S16 32) a x).toNat < S8x4096.size a := fun v123 v208 k0_hw22 => k0_hw22

def k0_chk23 (v123 : IVec S16 32) (v212 : IVec S16 32) : Prop :=
  (∀ a x, ((![v123, v212] : Fin 2 → IVec S16 32) a x).toNat < S8x4096.size a)
theorem k0_idx23_inb : ∀ (v123 : IVec S16 32) (v212 : IVec S16 32) (k0_hw23 : k0_chk23 v123 v212), ∀ a x, ((![v123, v212] : Fin 2 → IVec S16 32) a x).toNat < S8x4096.size a := fun v123 v212 k0_hw23 => k0_hw23

def k0_chk24 (v123 : IVec S16 32) (v216 : IVec S16 32) : Prop :=
  (∀ a x, ((![v123, v216] : Fin 2 → IVec S16 32) a x).toNat < S8x4096.size a)
theorem k0_idx24_inb : ∀ (v123 : IVec S16 32) (v216 : IVec S16 32) (k0_hw24 : k0_chk24 v123 v216), ∀ a x, ((![v123, v216] : Fin 2 → IVec S16 32) a x).toNat < S8x4096.size a := fun v123 v216 k0_hw24 => k0_hw24

def k0_chk25 (v123 : IVec S16 32) (v220 : IVec S16 32) : Prop :=
  (∀ a x, ((![v123, v220] : Fin 2 → IVec S16 32) a x).toNat < S8x4096.size a)
theorem k0_idx25_inb : ∀ (v123 : IVec S16 32) (v220 : IVec S16 32) (k0_hw25 : k0_chk25 v123 v220), ∀ a x, ((![v123, v220] : Fin 2 → IVec S16 32) a x).toNat < S8x4096.size a := fun v123 v220 k0_hw25 => k0_hw25

def k0_chk26 (v123 : IVec S16 32) (v224 : IVec S16 32) : Prop :=
  (∀ a x, ((![v123, v224] : Fin 2 → IVec S16 32) a x).toNat < S8x4096.size a)
theorem k0_idx26_inb : ∀ (v123 : IVec S16 32) (v224 : IVec S16 32) (k0_hw26 : k0_chk26 v123 v224), ∀ a x, ((![v123, v224] : Fin 2 → IVec S16 32) a x).toNat < S8x4096.size a := fun v123 v224 k0_hw26 => k0_hw26

def k0_chk27 (v123 : IVec S16 32) (v228 : IVec S16 32) : Prop :=
  (∀ a x, ((![v123, v228] : Fin 2 → IVec S16 32) a x).toNat < S8x4096.size a)
theorem k0_idx27_inb : ∀ (v123 : IVec S16 32) (v228 : IVec S16 32) (k0_hw27 : k0_chk27 v123 v228), ∀ a x, ((![v123, v228] : Fin 2 → IVec S16 32) a x).toNat < S8x4096.size a := fun v123 v228 k0_hw27 => k0_hw27

def k0_chk28 (v123 : IVec S16 32) (v232 : IVec S16 32) : Prop :=
  (∀ a x, ((![v123, v232] : Fin 2 → IVec S16 32) a x).toNat < S8x4096.size a)
theorem k0_idx28_inb : ∀ (v123 : IVec S16 32) (v232 : IVec S16 32) (k0_hw28 : k0_chk28 v123 v232), ∀ a x, ((![v123, v232] : Fin 2 → IVec S16 32) a x).toNat < S8x4096.size a := fun v123 v232 k0_hw28 => k0_hw28

def k0_chk29 (v123 : IVec S16 32) (v236 : IVec S16 32) : Prop :=
  (∀ a x, ((![v123, v236] : Fin 2 → IVec S16 32) a x).toNat < S8x4096.size a)
theorem k0_idx29_inb : ∀ (v123 : IVec S16 32) (v236 : IVec S16 32) (k0_hw29 : k0_chk29 v123 v236), ∀ a x, ((![v123, v236] : Fin 2 → IVec S16 32) a x).toNat < S8x4096.size a := fun v123 v236 k0_hw29 => k0_hw29

def k0_chk30 (v123 : IVec S16 32) (v240 : IVec S16 32) : Prop :=
  (∀ a x, ((![v123, v240] : Fin 2 → IVec S16 32) a x).toNat < S8x4096.size a)
theorem k0_idx30_inb : ∀ (v123 : IVec S16 32) (v240 : IVec S16 32) (k0_hw30 : k0_chk30 v123 v240), ∀ a x, ((![v123, v240] : Fin 2 → IVec S16 32) a x).toNat < S8x4096.size a := fun v123 v240 k0_hw30 => k0_hw30

def k0_chk31 (v123 : IVec S16 32) (v244 : IVec S16 32) : Prop :=
  (∀ a x, ((![v123, v244] : Fin 2 → IVec S16 32) a x).toNat < S8x4096.size a)
theorem k0_idx31_inb : ∀ (v123 : IVec S16 32) (v244 : IVec S16 32) (k0_hw31 : k0_chk31 v123 v244), ∀ a x, ((![v123, v244] : Fin 2 → IVec S16 32) a x).toNat < S8x4096.size a := fun v123 v244 k0_hw31 => k0_hw31

def k0_chk32 (v123 : IVec S16 32) (v248 : IVec S16 32) : Prop :=
  (∀ a x, ((![v123, v248] : Fin 2 → IVec S16 32) a x).toNat < S8x4096.size a)
theorem k0_idx32_inb : ∀ (v123 : IVec S16 32) (v248 : IVec S16 32) (k0_hw32 : k0_chk32 v123 v248), ∀ a x, ((![v123, v248] : Fin 2 → IVec S16 32) a x).toNat < S8x4096.size a := fun v123 v248 k0_hw32 => k0_hw32

def k0_chk33 (v123 : IVec S16 32) (v252 : IVec S16 32) : Prop :=
  (∀ a x, ((![v123, v252] : Fin 2 → IVec S16 32) a x).toNat < S8x128.size a)
theorem k0_idx33_inb : ∀ (v123 : IVec S16 32) (v252 : IVec S16 32) (k0_hw33 : k0_chk33 v123 v252), ∀ a x, ((![v123, v252] : Fin 2 → IVec S16 32) a x).toNat < S8x128.size a := fun v123 v252 k0_hw33 => k0_hw33

def k0_chk34 (v123 : IVec S16 32) (v254 : IVec S16 32) : Prop :=
  (∀ a x, ((![v123, v254] : Fin 2 → IVec S16 32) a x).toNat < S8x4096.size a)
theorem k0_idx34_inb : ∀ (v123 : IVec S16 32) (v254 : IVec S16 32) (k0_hw34 : k0_chk34 v123 v254), ∀ a x, ((![v123, v254] : Fin 2 → IVec S16 32) a x).toNat < S8x4096.size a := fun v123 v254 k0_hw34 => k0_hw34

def k0_chk35 (v123 : IVec S16 32) (v257 : IVec S16 32) : Prop :=
  (∀ a x, ((![v123, v257] : Fin 2 → IVec S16 32) a x).toNat < S8x4096.size a)
theorem k0_idx35_inb : ∀ (v123 : IVec S16 32) (v257 : IVec S16 32) (k0_hw35 : k0_chk35 v123 v257), ∀ a x, ((![v123, v257] : Fin 2 → IVec S16 32) a x).toNat < S8x4096.size a := fun v123 v257 k0_hw35 => k0_hw35

def k0_chk36 (v123 : IVec S16 32) (v261 : IVec S16 32) : Prop :=
  (∀ a x, ((![v123, v261] : Fin 2 → IVec S16 32) a x).toNat < S8x4096.size a)
theorem k0_idx36_inb : ∀ (v123 : IVec S16 32) (v261 : IVec S16 32) (k0_hw36 : k0_chk36 v123 v261), ∀ a x, ((![v123, v261] : Fin 2 → IVec S16 32) a x).toNat < S8x4096.size a := fun v123 v261 k0_hw36 => k0_hw36

def k0_chk37 (v123 : IVec S16 32) (v265 : IVec S16 32) : Prop :=
  (∀ a x, ((![v123, v265] : Fin 2 → IVec S16 32) a x).toNat < S8x4096.size a)
theorem k0_idx37_inb : ∀ (v123 : IVec S16 32) (v265 : IVec S16 32) (k0_hw37 : k0_chk37 v123 v265), ∀ a x, ((![v123, v265] : Fin 2 → IVec S16 32) a x).toNat < S8x4096.size a := fun v123 v265 k0_hw37 => k0_hw37

def k0_chk38 (v123 : IVec S16 32) (v269 : IVec S16 32) : Prop :=
  (∀ a x, ((![v123, v269] : Fin 2 → IVec S16 32) a x).toNat < S8x4096.size a)
theorem k0_idx38_inb : ∀ (v123 : IVec S16 32) (v269 : IVec S16 32) (k0_hw38 : k0_chk38 v123 v269), ∀ a x, ((![v123, v269] : Fin 2 → IVec S16 32) a x).toNat < S8x4096.size a := fun v123 v269 k0_hw38 => k0_hw38

def k0_chk39 (v123 : IVec S16 32) (v273 : IVec S16 32) : Prop :=
  (∀ a x, ((![v123, v273] : Fin 2 → IVec S16 32) a x).toNat < S8x4096.size a)
theorem k0_idx39_inb : ∀ (v123 : IVec S16 32) (v273 : IVec S16 32) (k0_hw39 : k0_chk39 v123 v273), ∀ a x, ((![v123, v273] : Fin 2 → IVec S16 32) a x).toNat < S8x4096.size a := fun v123 v273 k0_hw39 => k0_hw39

def k0_chk40 (v123 : IVec S16 32) (v277 : IVec S16 32) : Prop :=
  (∀ a x, ((![v123, v277] : Fin 2 → IVec S16 32) a x).toNat < S8x4096.size a)
theorem k0_idx40_inb : ∀ (v123 : IVec S16 32) (v277 : IVec S16 32) (k0_hw40 : k0_chk40 v123 v277), ∀ a x, ((![v123, v277] : Fin 2 → IVec S16 32) a x).toNat < S8x4096.size a := fun v123 v277 k0_hw40 => k0_hw40

def k0_chk41 (v123 : IVec S16 32) (v281 : IVec S16 32) : Prop :=
  (∀ a x, ((![v123, v281] : Fin 2 → IVec S16 32) a x).toNat < S8x4096.size a)
theorem k0_idx41_inb : ∀ (v123 : IVec S16 32) (v281 : IVec S16 32) (k0_hw41 : k0_chk41 v123 v281), ∀ a x, ((![v123, v281] : Fin 2 → IVec S16 32) a x).toNat < S8x4096.size a := fun v123 v281 k0_hw41 => k0_hw41

def k0_chk42 (v123 : IVec S16 32) (v285 : IVec S16 32) : Prop :=
  (∀ a x, ((![v123, v285] : Fin 2 → IVec S16 32) a x).toNat < S8x4096.size a)
theorem k0_idx42_inb : ∀ (v123 : IVec S16 32) (v285 : IVec S16 32) (k0_hw42 : k0_chk42 v123 v285), ∀ a x, ((![v123, v285] : Fin 2 → IVec S16 32) a x).toNat < S8x4096.size a := fun v123 v285 k0_hw42 => k0_hw42

def k0_chk43 (v123 : IVec S16 32) (v289 : IVec S16 32) : Prop :=
  (∀ a x, ((![v123, v289] : Fin 2 → IVec S16 32) a x).toNat < S8x4096.size a)
theorem k0_idx43_inb : ∀ (v123 : IVec S16 32) (v289 : IVec S16 32) (k0_hw43 : k0_chk43 v123 v289), ∀ a x, ((![v123, v289] : Fin 2 → IVec S16 32) a x).toNat < S8x4096.size a := fun v123 v289 k0_hw43 => k0_hw43

def k0_chk44 (v123 : IVec S16 32) (v293 : IVec S16 32) : Prop :=
  (∀ a x, ((![v123, v293] : Fin 2 → IVec S16 32) a x).toNat < S8x4096.size a)
theorem k0_idx44_inb : ∀ (v123 : IVec S16 32) (v293 : IVec S16 32) (k0_hw44 : k0_chk44 v123 v293), ∀ a x, ((![v123, v293] : Fin 2 → IVec S16 32) a x).toNat < S8x4096.size a := fun v123 v293 k0_hw44 => k0_hw44

def k0_chk45 (v123 : IVec S16 32) (v297 : IVec S16 32) : Prop :=
  (∀ a x, ((![v123, v297] : Fin 2 → IVec S16 32) a x).toNat < S8x4096.size a)
theorem k0_idx45_inb : ∀ (v123 : IVec S16 32) (v297 : IVec S16 32) (k0_hw45 : k0_chk45 v123 v297), ∀ a x, ((![v123, v297] : Fin 2 → IVec S16 32) a x).toNat < S8x4096.size a := fun v123 v297 k0_hw45 => k0_hw45

def k0_chk46 (v123 : IVec S16 32) (v301 : IVec S16 32) : Prop :=
  (∀ a x, ((![v123, v301] : Fin 2 → IVec S16 32) a x).toNat < S8x4096.size a)
theorem k0_idx46_inb : ∀ (v123 : IVec S16 32) (v301 : IVec S16 32) (k0_hw46 : k0_chk46 v123 v301), ∀ a x, ((![v123, v301] : Fin 2 → IVec S16 32) a x).toNat < S8x4096.size a := fun v123 v301 k0_hw46 => k0_hw46

def k0_chk47 (v123 : IVec S16 32) (v305 : IVec S16 32) : Prop :=
  (∀ a x, ((![v123, v305] : Fin 2 → IVec S16 32) a x).toNat < S8x4096.size a)
theorem k0_idx47_inb : ∀ (v123 : IVec S16 32) (v305 : IVec S16 32) (k0_hw47 : k0_chk47 v123 v305), ∀ a x, ((![v123, v305] : Fin 2 → IVec S16 32) a x).toNat < S8x4096.size a := fun v123 v305 k0_hw47 => k0_hw47

def k0_chk48 (v123 : IVec S16 32) (v309 : IVec S16 32) : Prop :=
  (∀ a x, ((![v123, v309] : Fin 2 → IVec S16 32) a x).toNat < S8x4096.size a)
theorem k0_idx48_inb : ∀ (v123 : IVec S16 32) (v309 : IVec S16 32) (k0_hw48 : k0_chk48 v123 v309), ∀ a x, ((![v123, v309] : Fin 2 → IVec S16 32) a x).toNat < S8x4096.size a := fun v123 v309 k0_hw48 => k0_hw48

def k0_chk49 (v123 : IVec S16 32) (v313 : IVec S16 32) : Prop :=
  (∀ a x, ((![v123, v313] : Fin 2 → IVec S16 32) a x).toNat < S8x4096.size a)
theorem k0_idx49_inb : ∀ (v123 : IVec S16 32) (v313 : IVec S16 32) (k0_hw49 : k0_chk49 v123 v313), ∀ a x, ((![v123, v313] : Fin 2 → IVec S16 32) a x).toNat < S8x4096.size a := fun v123 v313 k0_hw49 => k0_hw49

def k0_chk50 (v123 : IVec S16 32) (v317 : IVec S16 32) : Prop :=
  (∀ a x, ((![v123, v317] : Fin 2 → IVec S16 32) a x).toNat < S8x4096.size a)
theorem k0_idx50_inb : ∀ (v123 : IVec S16 32) (v317 : IVec S16 32) (k0_hw50 : k0_chk50 v123 v317), ∀ a x, ((![v123, v317] : Fin 2 → IVec S16 32) a x).toNat < S8x4096.size a := fun v123 v317 k0_hw50 => k0_hw50

def k0_chk51 (v123 : IVec S16 32) (v321 : IVec S16 32) : Prop :=
  (∀ a x, ((![v123, v321] : Fin 2 → IVec S16 32) a x).toNat < S8x4096.size a)
theorem k0_idx51_inb : ∀ (v123 : IVec S16 32) (v321 : IVec S16 32) (k0_hw51 : k0_chk51 v123 v321), ∀ a x, ((![v123, v321] : Fin 2 → IVec S16 32) a x).toNat < S8x4096.size a := fun v123 v321 k0_hw51 => k0_hw51

def k0_chk52 (v123 : IVec S16 32) (v325 : IVec S16 32) : Prop :=
  (∀ a x, ((![v123, v325] : Fin 2 → IVec S16 32) a x).toNat < S8x4096.size a)
theorem k0_idx52_inb : ∀ (v123 : IVec S16 32) (v325 : IVec S16 32) (k0_hw52 : k0_chk52 v123 v325), ∀ a x, ((![v123, v325] : Fin 2 → IVec S16 32) a x).toNat < S8x4096.size a := fun v123 v325 k0_hw52 => k0_hw52

def k0_chk53 (v123 : IVec S16 32) (v329 : IVec S16 32) : Prop :=
  (∀ a x, ((![v123, v329] : Fin 2 → IVec S16 32) a x).toNat < S8x4096.size a)
theorem k0_idx53_inb : ∀ (v123 : IVec S16 32) (v329 : IVec S16 32) (k0_hw53 : k0_chk53 v123 v329), ∀ a x, ((![v123, v329] : Fin 2 → IVec S16 32) a x).toNat < S8x4096.size a := fun v123 v329 k0_hw53 => k0_hw53

def k0_chk54 (v123 : IVec S16 32) (v333 : IVec S16 32) : Prop :=
  (∀ a x, ((![v123, v333] : Fin 2 → IVec S16 32) a x).toNat < S8x4096.size a)
theorem k0_idx54_inb : ∀ (v123 : IVec S16 32) (v333 : IVec S16 32) (k0_hw54 : k0_chk54 v123 v333), ∀ a x, ((![v123, v333] : Fin 2 → IVec S16 32) a x).toNat < S8x4096.size a := fun v123 v333 k0_hw54 => k0_hw54

def k0_chk55 (v123 : IVec S16 32) (v337 : IVec S16 32) : Prop :=
  (∀ a x, ((![v123, v337] : Fin 2 → IVec S16 32) a x).toNat < S8x4096.size a)
theorem k0_idx55_inb : ∀ (v123 : IVec S16 32) (v337 : IVec S16 32) (k0_hw55 : k0_chk55 v123 v337), ∀ a x, ((![v123, v337] : Fin 2 → IVec S16 32) a x).toNat < S8x4096.size a := fun v123 v337 k0_hw55 => k0_hw55

def k0_chk56 (v123 : IVec S16 32) (v341 : IVec S16 32) : Prop :=
  (∀ a x, ((![v123, v341] : Fin 2 → IVec S16 32) a x).toNat < S8x4096.size a)
theorem k0_idx56_inb : ∀ (v123 : IVec S16 32) (v341 : IVec S16 32) (k0_hw56 : k0_chk56 v123 v341), ∀ a x, ((![v123, v341] : Fin 2 → IVec S16 32) a x).toNat < S8x4096.size a := fun v123 v341 k0_hw56 => k0_hw56

def k0_chk57 (v123 : IVec S16 32) (v345 : IVec S16 32) : Prop :=
  (∀ a x, ((![v123, v345] : Fin 2 → IVec S16 32) a x).toNat < S8x4096.size a)
theorem k0_idx57_inb : ∀ (v123 : IVec S16 32) (v345 : IVec S16 32) (k0_hw57 : k0_chk57 v123 v345), ∀ a x, ((![v123, v345] : Fin 2 → IVec S16 32) a x).toNat < S8x4096.size a := fun v123 v345 k0_hw57 => k0_hw57

def k0_chk58 (v123 : IVec S16 32) (v349 : IVec S16 32) : Prop :=
  (∀ a x, ((![v123, v349] : Fin 2 → IVec S16 32) a x).toNat < S8x4096.size a)
theorem k0_idx58_inb : ∀ (v123 : IVec S16 32) (v349 : IVec S16 32) (k0_hw58 : k0_chk58 v123 v349), ∀ a x, ((![v123, v349] : Fin 2 → IVec S16 32) a x).toNat < S8x4096.size a := fun v123 v349 k0_hw58 => k0_hw58

def k0_chk59 (v123 : IVec S16 32) (v353 : IVec S16 32) : Prop :=
  (∀ a x, ((![v123, v353] : Fin 2 → IVec S16 32) a x).toNat < S8x4096.size a)
theorem k0_idx59_inb : ∀ (v123 : IVec S16 32) (v353 : IVec S16 32) (k0_hw59 : k0_chk59 v123 v353), ∀ a x, ((![v123, v353] : Fin 2 → IVec S16 32) a x).toNat < S8x4096.size a := fun v123 v353 k0_hw59 => k0_hw59

def k0_chk60 (v123 : IVec S16 32) (v357 : IVec S16 32) : Prop :=
  (∀ a x, ((![v123, v357] : Fin 2 → IVec S16 32) a x).toNat < S8x4096.size a)
theorem k0_idx60_inb : ∀ (v123 : IVec S16 32) (v357 : IVec S16 32) (k0_hw60 : k0_chk60 v123 v357), ∀ a x, ((![v123, v357] : Fin 2 → IVec S16 32) a x).toNat < S8x4096.size a := fun v123 v357 k0_hw60 => k0_hw60

def k0_chk61 (v123 : IVec S16 32) (v361 : IVec S16 32) : Prop :=
  (∀ a x, ((![v123, v361] : Fin 2 → IVec S16 32) a x).toNat < S8x4096.size a)
theorem k0_idx61_inb : ∀ (v123 : IVec S16 32) (v361 : IVec S16 32) (k0_hw61 : k0_chk61 v123 v361), ∀ a x, ((![v123, v361] : Fin 2 → IVec S16 32) a x).toNat < S8x4096.size a := fun v123 v361 k0_hw61 => k0_hw61

def k0_chk62 (v123 : IVec S16 32) (v365 : IVec S16 32) : Prop :=
  (∀ a x, ((![v123, v365] : Fin 2 → IVec S16 32) a x).toNat < S8x4096.size a)
theorem k0_idx62_inb : ∀ (v123 : IVec S16 32) (v365 : IVec S16 32) (k0_hw62 : k0_chk62 v123 v365), ∀ a x, ((![v123, v365] : Fin 2 → IVec S16 32) a x).toNat < S8x4096.size a := fun v123 v365 k0_hw62 => k0_hw62

def k0_chk63 (v123 : IVec S16 32) (v369 : IVec S16 32) : Prop :=
  (∀ a x, ((![v123, v369] : Fin 2 → IVec S16 32) a x).toNat < S8x4096.size a)
theorem k0_idx63_inb : ∀ (v123 : IVec S16 32) (v369 : IVec S16 32) (k0_hw63 : k0_chk63 v123 v369), ∀ a x, ((![v123, v369] : Fin 2 → IVec S16 32) a x).toNat < S8x4096.size a := fun v123 v369 k0_hw63 => k0_hw63

def k0_chk64 (v123 : IVec S16 32) (v373 : IVec S16 32) : Prop :=
  (∀ a x, ((![v123, v373] : Fin 2 → IVec S16 32) a x).toNat < S8x4096.size a)
theorem k0_idx64_inb : ∀ (v123 : IVec S16 32) (v373 : IVec S16 32) (k0_hw64 : k0_chk64 v123 v373), ∀ a x, ((![v123, v373] : Fin 2 → IVec S16 32) a x).toNat < S8x4096.size a := fun v123 v373 k0_hw64 => k0_hw64

def k0_chk65 (v123 : IVec S16 32) (v377 : IVec S16 32) : Prop :=
  (∀ a x, ((![v123, v377] : Fin 2 → IVec S16 32) a x).toNat < S8x4096.size a)
theorem k0_idx65_inb : ∀ (v123 : IVec S16 32) (v377 : IVec S16 32) (k0_hw65 : k0_chk65 v123 v377), ∀ a x, ((![v123, v377] : Fin 2 → IVec S16 32) a x).toNat < S8x4096.size a := fun v123 v377 k0_hw65 => k0_hw65

def k0_chk66 (v123 : IVec S16 32) (v381 : IVec S16 32) : Prop :=
  (∀ a x, ((![v123, v381] : Fin 2 → IVec S16 32) a x).toNat < S8x128.size a)
theorem k0_idx66_inb : ∀ (v123 : IVec S16 32) (v381 : IVec S16 32) (k0_hw66 : k0_chk66 v123 v381), ∀ a x, ((![v123, v381] : Fin 2 → IVec S16 32) a x).toNat < S8x128.size a := fun v123 v381 k0_hw66 => k0_hw66

def k0_chk67 (v123 : IVec S16 32) (v383 : IVec S16 32) : Prop :=
  (∀ a x, ((![v123, v383] : Fin 2 → IVec S16 32) a x).toNat < S8x4096.size a)
theorem k0_idx67_inb : ∀ (v123 : IVec S16 32) (v383 : IVec S16 32) (k0_hw67 : k0_chk67 v123 v383), ∀ a x, ((![v123, v383] : Fin 2 → IVec S16 32) a x).toNat < S8x4096.size a := fun v123 v383 k0_hw67 => k0_hw67

def k0_chk68 (v123 : IVec S16 32) (v386 : IVec S16 32) : Prop :=
  (∀ a x, ((![v123, v386] : Fin 2 → IVec S16 32) a x).toNat < S8x4096.size a)
theorem k0_idx68_inb : ∀ (v123 : IVec S16 32) (v386 : IVec S16 32) (k0_hw68 : k0_chk68 v123 v386), ∀ a x, ((![v123, v386] : Fin 2 → IVec S16 32) a x).toNat < S8x4096.size a := fun v123 v386 k0_hw68 => k0_hw68

def k0_chk69 (v123 : IVec S16 32) (v390 : IVec S16 32) : Prop :=
  (∀ a x, ((![v123, v390] : Fin 2 → IVec S16 32) a x).toNat < S8x4096.size a)
theorem k0_idx69_inb : ∀ (v123 : IVec S16 32) (v390 : IVec S16 32) (k0_hw69 : k0_chk69 v123 v390), ∀ a x, ((![v123, v390] : Fin 2 → IVec S16 32) a x).toNat < S8x4096.size a := fun v123 v390 k0_hw69 => k0_hw69

def k0_chk70 (v123 : IVec S16 32) (v394 : IVec S16 32) : Prop :=
  (∀ a x, ((![v123, v394] : Fin 2 → IVec S16 32) a x).toNat < S8x4096.size a)
theorem k0_idx70_inb : ∀ (v123 : IVec S16 32) (v394 : IVec S16 32) (k0_hw70 : k0_chk70 v123 v394), ∀ a x, ((![v123, v394] : Fin 2 → IVec S16 32) a x).toNat < S8x4096.size a := fun v123 v394 k0_hw70 => k0_hw70

def k0_chk71 (v123 : IVec S16 32) (v398 : IVec S16 32) : Prop :=
  (∀ a x, ((![v123, v398] : Fin 2 → IVec S16 32) a x).toNat < S8x4096.size a)
theorem k0_idx71_inb : ∀ (v123 : IVec S16 32) (v398 : IVec S16 32) (k0_hw71 : k0_chk71 v123 v398), ∀ a x, ((![v123, v398] : Fin 2 → IVec S16 32) a x).toNat < S8x4096.size a := fun v123 v398 k0_hw71 => k0_hw71

def k0_chk72 (v123 : IVec S16 32) (v402 : IVec S16 32) : Prop :=
  (∀ a x, ((![v123, v402] : Fin 2 → IVec S16 32) a x).toNat < S8x4096.size a)
theorem k0_idx72_inb : ∀ (v123 : IVec S16 32) (v402 : IVec S16 32) (k0_hw72 : k0_chk72 v123 v402), ∀ a x, ((![v123, v402] : Fin 2 → IVec S16 32) a x).toNat < S8x4096.size a := fun v123 v402 k0_hw72 => k0_hw72

def k0_chk73 (v123 : IVec S16 32) (v406 : IVec S16 32) : Prop :=
  (∀ a x, ((![v123, v406] : Fin 2 → IVec S16 32) a x).toNat < S8x4096.size a)
theorem k0_idx73_inb : ∀ (v123 : IVec S16 32) (v406 : IVec S16 32) (k0_hw73 : k0_chk73 v123 v406), ∀ a x, ((![v123, v406] : Fin 2 → IVec S16 32) a x).toNat < S8x4096.size a := fun v123 v406 k0_hw73 => k0_hw73

def k0_chk74 (v123 : IVec S16 32) (v410 : IVec S16 32) : Prop :=
  (∀ a x, ((![v123, v410] : Fin 2 → IVec S16 32) a x).toNat < S8x4096.size a)
theorem k0_idx74_inb : ∀ (v123 : IVec S16 32) (v410 : IVec S16 32) (k0_hw74 : k0_chk74 v123 v410), ∀ a x, ((![v123, v410] : Fin 2 → IVec S16 32) a x).toNat < S8x4096.size a := fun v123 v410 k0_hw74 => k0_hw74

def k0_chk75 (v123 : IVec S16 32) (v414 : IVec S16 32) : Prop :=
  (∀ a x, ((![v123, v414] : Fin 2 → IVec S16 32) a x).toNat < S8x4096.size a)
theorem k0_idx75_inb : ∀ (v123 : IVec S16 32) (v414 : IVec S16 32) (k0_hw75 : k0_chk75 v123 v414), ∀ a x, ((![v123, v414] : Fin 2 → IVec S16 32) a x).toNat < S8x4096.size a := fun v123 v414 k0_hw75 => k0_hw75

def k0_chk76 (v123 : IVec S16 32) (v418 : IVec S16 32) : Prop :=
  (∀ a x, ((![v123, v418] : Fin 2 → IVec S16 32) a x).toNat < S8x4096.size a)
theorem k0_idx76_inb : ∀ (v123 : IVec S16 32) (v418 : IVec S16 32) (k0_hw76 : k0_chk76 v123 v418), ∀ a x, ((![v123, v418] : Fin 2 → IVec S16 32) a x).toNat < S8x4096.size a := fun v123 v418 k0_hw76 => k0_hw76

def k0_chk77 (v123 : IVec S16 32) (v422 : IVec S16 32) : Prop :=
  (∀ a x, ((![v123, v422] : Fin 2 → IVec S16 32) a x).toNat < S8x4096.size a)
theorem k0_idx77_inb : ∀ (v123 : IVec S16 32) (v422 : IVec S16 32) (k0_hw77 : k0_chk77 v123 v422), ∀ a x, ((![v123, v422] : Fin 2 → IVec S16 32) a x).toNat < S8x4096.size a := fun v123 v422 k0_hw77 => k0_hw77

def k0_chk78 (v123 : IVec S16 32) (v426 : IVec S16 32) : Prop :=
  (∀ a x, ((![v123, v426] : Fin 2 → IVec S16 32) a x).toNat < S8x4096.size a)
theorem k0_idx78_inb : ∀ (v123 : IVec S16 32) (v426 : IVec S16 32) (k0_hw78 : k0_chk78 v123 v426), ∀ a x, ((![v123, v426] : Fin 2 → IVec S16 32) a x).toNat < S8x4096.size a := fun v123 v426 k0_hw78 => k0_hw78

def k0_chk79 (v123 : IVec S16 32) (v430 : IVec S16 32) : Prop :=
  (∀ a x, ((![v123, v430] : Fin 2 → IVec S16 32) a x).toNat < S8x4096.size a)
theorem k0_idx79_inb : ∀ (v123 : IVec S16 32) (v430 : IVec S16 32) (k0_hw79 : k0_chk79 v123 v430), ∀ a x, ((![v123, v430] : Fin 2 → IVec S16 32) a x).toNat < S8x4096.size a := fun v123 v430 k0_hw79 => k0_hw79

def k0_chk80 (v123 : IVec S16 32) (v434 : IVec S16 32) : Prop :=
  (∀ a x, ((![v123, v434] : Fin 2 → IVec S16 32) a x).toNat < S8x4096.size a)
theorem k0_idx80_inb : ∀ (v123 : IVec S16 32) (v434 : IVec S16 32) (k0_hw80 : k0_chk80 v123 v434), ∀ a x, ((![v123, v434] : Fin 2 → IVec S16 32) a x).toNat < S8x4096.size a := fun v123 v434 k0_hw80 => k0_hw80

def k0_chk81 (v123 : IVec S16 32) (v438 : IVec S16 32) : Prop :=
  (∀ a x, ((![v123, v438] : Fin 2 → IVec S16 32) a x).toNat < S8x4096.size a)
theorem k0_idx81_inb : ∀ (v123 : IVec S16 32) (v438 : IVec S16 32) (k0_hw81 : k0_chk81 v123 v438), ∀ a x, ((![v123, v438] : Fin 2 → IVec S16 32) a x).toNat < S8x4096.size a := fun v123 v438 k0_hw81 => k0_hw81

def k0_chk82 (v123 : IVec S16 32) (v442 : IVec S16 32) : Prop :=
  (∀ a x, ((![v123, v442] : Fin 2 → IVec S16 32) a x).toNat < S8x4096.size a)
theorem k0_idx82_inb : ∀ (v123 : IVec S16 32) (v442 : IVec S16 32) (k0_hw82 : k0_chk82 v123 v442), ∀ a x, ((![v123, v442] : Fin 2 → IVec S16 32) a x).toNat < S8x4096.size a := fun v123 v442 k0_hw82 => k0_hw82

def k0_chk83 (v123 : IVec S16 32) (v446 : IVec S16 32) : Prop :=
  (∀ a x, ((![v123, v446] : Fin 2 → IVec S16 32) a x).toNat < S8x4096.size a)
theorem k0_idx83_inb : ∀ (v123 : IVec S16 32) (v446 : IVec S16 32) (k0_hw83 : k0_chk83 v123 v446), ∀ a x, ((![v123, v446] : Fin 2 → IVec S16 32) a x).toNat < S8x4096.size a := fun v123 v446 k0_hw83 => k0_hw83

def k0_chk84 (v123 : IVec S16 32) (v450 : IVec S16 32) : Prop :=
  (∀ a x, ((![v123, v450] : Fin 2 → IVec S16 32) a x).toNat < S8x4096.size a)
theorem k0_idx84_inb : ∀ (v123 : IVec S16 32) (v450 : IVec S16 32) (k0_hw84 : k0_chk84 v123 v450), ∀ a x, ((![v123, v450] : Fin 2 → IVec S16 32) a x).toNat < S8x4096.size a := fun v123 v450 k0_hw84 => k0_hw84

def k0_chk85 (v123 : IVec S16 32) (v454 : IVec S16 32) : Prop :=
  (∀ a x, ((![v123, v454] : Fin 2 → IVec S16 32) a x).toNat < S8x4096.size a)
theorem k0_idx85_inb : ∀ (v123 : IVec S16 32) (v454 : IVec S16 32) (k0_hw85 : k0_chk85 v123 v454), ∀ a x, ((![v123, v454] : Fin 2 → IVec S16 32) a x).toNat < S8x4096.size a := fun v123 v454 k0_hw85 => k0_hw85

def k0_chk86 (v123 : IVec S16 32) (v458 : IVec S16 32) : Prop :=
  (∀ a x, ((![v123, v458] : Fin 2 → IVec S16 32) a x).toNat < S8x4096.size a)
theorem k0_idx86_inb : ∀ (v123 : IVec S16 32) (v458 : IVec S16 32) (k0_hw86 : k0_chk86 v123 v458), ∀ a x, ((![v123, v458] : Fin 2 → IVec S16 32) a x).toNat < S8x4096.size a := fun v123 v458 k0_hw86 => k0_hw86

def k0_chk87 (v123 : IVec S16 32) (v462 : IVec S16 32) : Prop :=
  (∀ a x, ((![v123, v462] : Fin 2 → IVec S16 32) a x).toNat < S8x4096.size a)
theorem k0_idx87_inb : ∀ (v123 : IVec S16 32) (v462 : IVec S16 32) (k0_hw87 : k0_chk87 v123 v462), ∀ a x, ((![v123, v462] : Fin 2 → IVec S16 32) a x).toNat < S8x4096.size a := fun v123 v462 k0_hw87 => k0_hw87

def k0_chk88 (v123 : IVec S16 32) (v466 : IVec S16 32) : Prop :=
  (∀ a x, ((![v123, v466] : Fin 2 → IVec S16 32) a x).toNat < S8x4096.size a)
theorem k0_idx88_inb : ∀ (v123 : IVec S16 32) (v466 : IVec S16 32) (k0_hw88 : k0_chk88 v123 v466), ∀ a x, ((![v123, v466] : Fin 2 → IVec S16 32) a x).toNat < S8x4096.size a := fun v123 v466 k0_hw88 => k0_hw88

def k0_chk89 (v123 : IVec S16 32) (v470 : IVec S16 32) : Prop :=
  (∀ a x, ((![v123, v470] : Fin 2 → IVec S16 32) a x).toNat < S8x4096.size a)
theorem k0_idx89_inb : ∀ (v123 : IVec S16 32) (v470 : IVec S16 32) (k0_hw89 : k0_chk89 v123 v470), ∀ a x, ((![v123, v470] : Fin 2 → IVec S16 32) a x).toNat < S8x4096.size a := fun v123 v470 k0_hw89 => k0_hw89

def k0_chk90 (v123 : IVec S16 32) (v474 : IVec S16 32) : Prop :=
  (∀ a x, ((![v123, v474] : Fin 2 → IVec S16 32) a x).toNat < S8x4096.size a)
theorem k0_idx90_inb : ∀ (v123 : IVec S16 32) (v474 : IVec S16 32) (k0_hw90 : k0_chk90 v123 v474), ∀ a x, ((![v123, v474] : Fin 2 → IVec S16 32) a x).toNat < S8x4096.size a := fun v123 v474 k0_hw90 => k0_hw90

def k0_chk91 (v123 : IVec S16 32) (v478 : IVec S16 32) : Prop :=
  (∀ a x, ((![v123, v478] : Fin 2 → IVec S16 32) a x).toNat < S8x4096.size a)
theorem k0_idx91_inb : ∀ (v123 : IVec S16 32) (v478 : IVec S16 32) (k0_hw91 : k0_chk91 v123 v478), ∀ a x, ((![v123, v478] : Fin 2 → IVec S16 32) a x).toNat < S8x4096.size a := fun v123 v478 k0_hw91 => k0_hw91

def k0_chk92 (v123 : IVec S16 32) (v482 : IVec S16 32) : Prop :=
  (∀ a x, ((![v123, v482] : Fin 2 → IVec S16 32) a x).toNat < S8x4096.size a)
theorem k0_idx92_inb : ∀ (v123 : IVec S16 32) (v482 : IVec S16 32) (k0_hw92 : k0_chk92 v123 v482), ∀ a x, ((![v123, v482] : Fin 2 → IVec S16 32) a x).toNat < S8x4096.size a := fun v123 v482 k0_hw92 => k0_hw92

def k0_chk93 (v123 : IVec S16 32) (v486 : IVec S16 32) : Prop :=
  (∀ a x, ((![v123, v486] : Fin 2 → IVec S16 32) a x).toNat < S8x4096.size a)
theorem k0_idx93_inb : ∀ (v123 : IVec S16 32) (v486 : IVec S16 32) (k0_hw93 : k0_chk93 v123 v486), ∀ a x, ((![v123, v486] : Fin 2 → IVec S16 32) a x).toNat < S8x4096.size a := fun v123 v486 k0_hw93 => k0_hw93

def k0_chk94 (v123 : IVec S16 32) (v490 : IVec S16 32) : Prop :=
  (∀ a x, ((![v123, v490] : Fin 2 → IVec S16 32) a x).toNat < S8x4096.size a)
theorem k0_idx94_inb : ∀ (v123 : IVec S16 32) (v490 : IVec S16 32) (k0_hw94 : k0_chk94 v123 v490), ∀ a x, ((![v123, v490] : Fin 2 → IVec S16 32) a x).toNat < S8x4096.size a := fun v123 v490 k0_hw94 => k0_hw94

def k0_chk95 (v123 : IVec S16 32) (v494 : IVec S16 32) : Prop :=
  (∀ a x, ((![v123, v494] : Fin 2 → IVec S16 32) a x).toNat < S8x4096.size a)
theorem k0_idx95_inb : ∀ (v123 : IVec S16 32) (v494 : IVec S16 32) (k0_hw95 : k0_chk95 v123 v494), ∀ a x, ((![v123, v494] : Fin 2 → IVec S16 32) a x).toNat < S8x4096.size a := fun v123 v494 k0_hw95 => k0_hw95

def k0_chk96 (v123 : IVec S16 32) (v498 : IVec S16 32) : Prop :=
  (∀ a x, ((![v123, v498] : Fin 2 → IVec S16 32) a x).toNat < S8x4096.size a)
theorem k0_idx96_inb : ∀ (v123 : IVec S16 32) (v498 : IVec S16 32) (k0_hw96 : k0_chk96 v123 v498), ∀ a x, ((![v123, v498] : Fin 2 → IVec S16 32) a x).toNat < S8x4096.size a := fun v123 v498 k0_hw96 => k0_hw96

def k0_chk97 (v123 : IVec S16 32) (v502 : IVec S16 32) : Prop :=
  (∀ a x, ((![v123, v502] : Fin 2 → IVec S16 32) a x).toNat < S8x4096.size a)
theorem k0_idx97_inb : ∀ (v123 : IVec S16 32) (v502 : IVec S16 32) (k0_hw97 : k0_chk97 v123 v502), ∀ a x, ((![v123, v502] : Fin 2 → IVec S16 32) a x).toNat < S8x4096.size a := fun v123 v502 k0_hw97 => k0_hw97

def k0_chk98 (v123 : IVec S16 32) (v506 : IVec S16 32) : Prop :=
  (∀ a x, ((![v123, v506] : Fin 2 → IVec S16 32) a x).toNat < S8x4096.size a)
theorem k0_idx98_inb : ∀ (v123 : IVec S16 32) (v506 : IVec S16 32) (k0_hw98 : k0_chk98 v123 v506), ∀ a x, ((![v123, v506] : Fin 2 → IVec S16 32) a x).toNat < S8x4096.size a := fun v123 v506 k0_hw98 => k0_hw98

def k0_chk99 (v123 : IVec S16 32) (v510 : IVec S16 32) : Prop :=
  (∀ a x, ((![v123, v510] : Fin 2 → IVec S16 32) a x).toNat < S8x128.size a)
theorem k0_idx99_inb : ∀ (v123 : IVec S16 32) (v510 : IVec S16 32) (k0_hw99 : k0_chk99 v123 v510), ∀ a x, ((![v123, v510] : Fin 2 → IVec S16 32) a x).toNat < S8x128.size a := fun v123 v510 k0_hw99 => k0_hw99

def k0_chk100 (v123 : IVec S16 32) (v512 : IVec S16 32) : Prop :=
  (∀ a x, ((![v123, v512] : Fin 2 → IVec S16 32) a x).toNat < S8x4096.size a)
theorem k0_idx100_inb : ∀ (v123 : IVec S16 32) (v512 : IVec S16 32) (k0_hw100 : k0_chk100 v123 v512), ∀ a x, ((![v123, v512] : Fin 2 → IVec S16 32) a x).toNat < S8x4096.size a := fun v123 v512 k0_hw100 => k0_hw100

def k0_chk101 (v123 : IVec S16 32) (v515 : IVec S16 32) : Prop :=
  (∀ a x, ((![v123, v515] : Fin 2 → IVec S16 32) a x).toNat < S8x4096.size a)
theorem k0_idx101_inb : ∀ (v123 : IVec S16 32) (v515 : IVec S16 32) (k0_hw101 : k0_chk101 v123 v515), ∀ a x, ((![v123, v515] : Fin 2 → IVec S16 32) a x).toNat < S8x4096.size a := fun v123 v515 k0_hw101 => k0_hw101

def k0_chk102 (v123 : IVec S16 32) (v519 : IVec S16 32) : Prop :=
  (∀ a x, ((![v123, v519] : Fin 2 → IVec S16 32) a x).toNat < S8x4096.size a)
theorem k0_idx102_inb : ∀ (v123 : IVec S16 32) (v519 : IVec S16 32) (k0_hw102 : k0_chk102 v123 v519), ∀ a x, ((![v123, v519] : Fin 2 → IVec S16 32) a x).toNat < S8x4096.size a := fun v123 v519 k0_hw102 => k0_hw102

def k0_chk103 (v123 : IVec S16 32) (v523 : IVec S16 32) : Prop :=
  (∀ a x, ((![v123, v523] : Fin 2 → IVec S16 32) a x).toNat < S8x4096.size a)
theorem k0_idx103_inb : ∀ (v123 : IVec S16 32) (v523 : IVec S16 32) (k0_hw103 : k0_chk103 v123 v523), ∀ a x, ((![v123, v523] : Fin 2 → IVec S16 32) a x).toNat < S8x4096.size a := fun v123 v523 k0_hw103 => k0_hw103

def k0_chk104 (v123 : IVec S16 32) (v527 : IVec S16 32) : Prop :=
  (∀ a x, ((![v123, v527] : Fin 2 → IVec S16 32) a x).toNat < S8x4096.size a)
theorem k0_idx104_inb : ∀ (v123 : IVec S16 32) (v527 : IVec S16 32) (k0_hw104 : k0_chk104 v123 v527), ∀ a x, ((![v123, v527] : Fin 2 → IVec S16 32) a x).toNat < S8x4096.size a := fun v123 v527 k0_hw104 => k0_hw104

def k0_chk105 (v123 : IVec S16 32) (v531 : IVec S16 32) : Prop :=
  (∀ a x, ((![v123, v531] : Fin 2 → IVec S16 32) a x).toNat < S8x4096.size a)
theorem k0_idx105_inb : ∀ (v123 : IVec S16 32) (v531 : IVec S16 32) (k0_hw105 : k0_chk105 v123 v531), ∀ a x, ((![v123, v531] : Fin 2 → IVec S16 32) a x).toNat < S8x4096.size a := fun v123 v531 k0_hw105 => k0_hw105

def k0_chk106 (v123 : IVec S16 32) (v535 : IVec S16 32) : Prop :=
  (∀ a x, ((![v123, v535] : Fin 2 → IVec S16 32) a x).toNat < S8x4096.size a)
theorem k0_idx106_inb : ∀ (v123 : IVec S16 32) (v535 : IVec S16 32) (k0_hw106 : k0_chk106 v123 v535), ∀ a x, ((![v123, v535] : Fin 2 → IVec S16 32) a x).toNat < S8x4096.size a := fun v123 v535 k0_hw106 => k0_hw106

def k0_chk107 (v123 : IVec S16 32) (v539 : IVec S16 32) : Prop :=
  (∀ a x, ((![v123, v539] : Fin 2 → IVec S16 32) a x).toNat < S8x4096.size a)
theorem k0_idx107_inb : ∀ (v123 : IVec S16 32) (v539 : IVec S16 32) (k0_hw107 : k0_chk107 v123 v539), ∀ a x, ((![v123, v539] : Fin 2 → IVec S16 32) a x).toNat < S8x4096.size a := fun v123 v539 k0_hw107 => k0_hw107

def k0_chk108 (v123 : IVec S16 32) (v543 : IVec S16 32) : Prop :=
  (∀ a x, ((![v123, v543] : Fin 2 → IVec S16 32) a x).toNat < S8x4096.size a)
theorem k0_idx108_inb : ∀ (v123 : IVec S16 32) (v543 : IVec S16 32) (k0_hw108 : k0_chk108 v123 v543), ∀ a x, ((![v123, v543] : Fin 2 → IVec S16 32) a x).toNat < S8x4096.size a := fun v123 v543 k0_hw108 => k0_hw108

def k0_chk109 (v123 : IVec S16 32) (v547 : IVec S16 32) : Prop :=
  (∀ a x, ((![v123, v547] : Fin 2 → IVec S16 32) a x).toNat < S8x4096.size a)
theorem k0_idx109_inb : ∀ (v123 : IVec S16 32) (v547 : IVec S16 32) (k0_hw109 : k0_chk109 v123 v547), ∀ a x, ((![v123, v547] : Fin 2 → IVec S16 32) a x).toNat < S8x4096.size a := fun v123 v547 k0_hw109 => k0_hw109

def k0_chk110 (v123 : IVec S16 32) (v551 : IVec S16 32) : Prop :=
  (∀ a x, ((![v123, v551] : Fin 2 → IVec S16 32) a x).toNat < S8x4096.size a)
theorem k0_idx110_inb : ∀ (v123 : IVec S16 32) (v551 : IVec S16 32) (k0_hw110 : k0_chk110 v123 v551), ∀ a x, ((![v123, v551] : Fin 2 → IVec S16 32) a x).toNat < S8x4096.size a := fun v123 v551 k0_hw110 => k0_hw110

def k0_chk111 (v123 : IVec S16 32) (v555 : IVec S16 32) : Prop :=
  (∀ a x, ((![v123, v555] : Fin 2 → IVec S16 32) a x).toNat < S8x4096.size a)
theorem k0_idx111_inb : ∀ (v123 : IVec S16 32) (v555 : IVec S16 32) (k0_hw111 : k0_chk111 v123 v555), ∀ a x, ((![v123, v555] : Fin 2 → IVec S16 32) a x).toNat < S8x4096.size a := fun v123 v555 k0_hw111 => k0_hw111

def k0_chk112 (v123 : IVec S16 32) (v559 : IVec S16 32) : Prop :=
  (∀ a x, ((![v123, v559] : Fin 2 → IVec S16 32) a x).toNat < S8x4096.size a)
theorem k0_idx112_inb : ∀ (v123 : IVec S16 32) (v559 : IVec S16 32) (k0_hw112 : k0_chk112 v123 v559), ∀ a x, ((![v123, v559] : Fin 2 → IVec S16 32) a x).toNat < S8x4096.size a := fun v123 v559 k0_hw112 => k0_hw112

def k0_chk113 (v123 : IVec S16 32) (v563 : IVec S16 32) : Prop :=
  (∀ a x, ((![v123, v563] : Fin 2 → IVec S16 32) a x).toNat < S8x4096.size a)
theorem k0_idx113_inb : ∀ (v123 : IVec S16 32) (v563 : IVec S16 32) (k0_hw113 : k0_chk113 v123 v563), ∀ a x, ((![v123, v563] : Fin 2 → IVec S16 32) a x).toNat < S8x4096.size a := fun v123 v563 k0_hw113 => k0_hw113

def k0_chk114 (v123 : IVec S16 32) (v567 : IVec S16 32) : Prop :=
  (∀ a x, ((![v123, v567] : Fin 2 → IVec S16 32) a x).toNat < S8x4096.size a)
theorem k0_idx114_inb : ∀ (v123 : IVec S16 32) (v567 : IVec S16 32) (k0_hw114 : k0_chk114 v123 v567), ∀ a x, ((![v123, v567] : Fin 2 → IVec S16 32) a x).toNat < S8x4096.size a := fun v123 v567 k0_hw114 => k0_hw114

def k0_chk115 (v123 : IVec S16 32) (v571 : IVec S16 32) : Prop :=
  (∀ a x, ((![v123, v571] : Fin 2 → IVec S16 32) a x).toNat < S8x4096.size a)
theorem k0_idx115_inb : ∀ (v123 : IVec S16 32) (v571 : IVec S16 32) (k0_hw115 : k0_chk115 v123 v571), ∀ a x, ((![v123, v571] : Fin 2 → IVec S16 32) a x).toNat < S8x4096.size a := fun v123 v571 k0_hw115 => k0_hw115

def k0_chk116 (v123 : IVec S16 32) (v575 : IVec S16 32) : Prop :=
  (∀ a x, ((![v123, v575] : Fin 2 → IVec S16 32) a x).toNat < S8x4096.size a)
theorem k0_idx116_inb : ∀ (v123 : IVec S16 32) (v575 : IVec S16 32) (k0_hw116 : k0_chk116 v123 v575), ∀ a x, ((![v123, v575] : Fin 2 → IVec S16 32) a x).toNat < S8x4096.size a := fun v123 v575 k0_hw116 => k0_hw116

def k0_chk117 (v123 : IVec S16 32) (v579 : IVec S16 32) : Prop :=
  (∀ a x, ((![v123, v579] : Fin 2 → IVec S16 32) a x).toNat < S8x4096.size a)
theorem k0_idx117_inb : ∀ (v123 : IVec S16 32) (v579 : IVec S16 32) (k0_hw117 : k0_chk117 v123 v579), ∀ a x, ((![v123, v579] : Fin 2 → IVec S16 32) a x).toNat < S8x4096.size a := fun v123 v579 k0_hw117 => k0_hw117

def k0_chk118 (v123 : IVec S16 32) (v583 : IVec S16 32) : Prop :=
  (∀ a x, ((![v123, v583] : Fin 2 → IVec S16 32) a x).toNat < S8x4096.size a)
theorem k0_idx118_inb : ∀ (v123 : IVec S16 32) (v583 : IVec S16 32) (k0_hw118 : k0_chk118 v123 v583), ∀ a x, ((![v123, v583] : Fin 2 → IVec S16 32) a x).toNat < S8x4096.size a := fun v123 v583 k0_hw118 => k0_hw118

def k0_chk119 (v123 : IVec S16 32) (v587 : IVec S16 32) : Prop :=
  (∀ a x, ((![v123, v587] : Fin 2 → IVec S16 32) a x).toNat < S8x4096.size a)
theorem k0_idx119_inb : ∀ (v123 : IVec S16 32) (v587 : IVec S16 32) (k0_hw119 : k0_chk119 v123 v587), ∀ a x, ((![v123, v587] : Fin 2 → IVec S16 32) a x).toNat < S8x4096.size a := fun v123 v587 k0_hw119 => k0_hw119

def k0_chk120 (v123 : IVec S16 32) (v591 : IVec S16 32) : Prop :=
  (∀ a x, ((![v123, v591] : Fin 2 → IVec S16 32) a x).toNat < S8x4096.size a)
theorem k0_idx120_inb : ∀ (v123 : IVec S16 32) (v591 : IVec S16 32) (k0_hw120 : k0_chk120 v123 v591), ∀ a x, ((![v123, v591] : Fin 2 → IVec S16 32) a x).toNat < S8x4096.size a := fun v123 v591 k0_hw120 => k0_hw120

def k0_chk121 (v123 : IVec S16 32) (v595 : IVec S16 32) : Prop :=
  (∀ a x, ((![v123, v595] : Fin 2 → IVec S16 32) a x).toNat < S8x4096.size a)
theorem k0_idx121_inb : ∀ (v123 : IVec S16 32) (v595 : IVec S16 32) (k0_hw121 : k0_chk121 v123 v595), ∀ a x, ((![v123, v595] : Fin 2 → IVec S16 32) a x).toNat < S8x4096.size a := fun v123 v595 k0_hw121 => k0_hw121

def k0_chk122 (v123 : IVec S16 32) (v599 : IVec S16 32) : Prop :=
  (∀ a x, ((![v123, v599] : Fin 2 → IVec S16 32) a x).toNat < S8x4096.size a)
theorem k0_idx122_inb : ∀ (v123 : IVec S16 32) (v599 : IVec S16 32) (k0_hw122 : k0_chk122 v123 v599), ∀ a x, ((![v123, v599] : Fin 2 → IVec S16 32) a x).toNat < S8x4096.size a := fun v123 v599 k0_hw122 => k0_hw122

def k0_chk123 (v123 : IVec S16 32) (v603 : IVec S16 32) : Prop :=
  (∀ a x, ((![v123, v603] : Fin 2 → IVec S16 32) a x).toNat < S8x4096.size a)
theorem k0_idx123_inb : ∀ (v123 : IVec S16 32) (v603 : IVec S16 32) (k0_hw123 : k0_chk123 v123 v603), ∀ a x, ((![v123, v603] : Fin 2 → IVec S16 32) a x).toNat < S8x4096.size a := fun v123 v603 k0_hw123 => k0_hw123

def k0_chk124 (v123 : IVec S16 32) (v607 : IVec S16 32) : Prop :=
  (∀ a x, ((![v123, v607] : Fin 2 → IVec S16 32) a x).toNat < S8x4096.size a)
theorem k0_idx124_inb : ∀ (v123 : IVec S16 32) (v607 : IVec S16 32) (k0_hw124 : k0_chk124 v123 v607), ∀ a x, ((![v123, v607] : Fin 2 → IVec S16 32) a x).toNat < S8x4096.size a := fun v123 v607 k0_hw124 => k0_hw124

def k0_chk125 (v123 : IVec S16 32) (v611 : IVec S16 32) : Prop :=
  (∀ a x, ((![v123, v611] : Fin 2 → IVec S16 32) a x).toNat < S8x4096.size a)
theorem k0_idx125_inb : ∀ (v123 : IVec S16 32) (v611 : IVec S16 32) (k0_hw125 : k0_chk125 v123 v611), ∀ a x, ((![v123, v611] : Fin 2 → IVec S16 32) a x).toNat < S8x4096.size a := fun v123 v611 k0_hw125 => k0_hw125

def k0_chk126 (v123 : IVec S16 32) (v615 : IVec S16 32) : Prop :=
  (∀ a x, ((![v123, v615] : Fin 2 → IVec S16 32) a x).toNat < S8x4096.size a)
theorem k0_idx126_inb : ∀ (v123 : IVec S16 32) (v615 : IVec S16 32) (k0_hw126 : k0_chk126 v123 v615), ∀ a x, ((![v123, v615] : Fin 2 → IVec S16 32) a x).toNat < S8x4096.size a := fun v123 v615 k0_hw126 => k0_hw126

def k0_chk127 (v123 : IVec S16 32) (v619 : IVec S16 32) : Prop :=
  (∀ a x, ((![v123, v619] : Fin 2 → IVec S16 32) a x).toNat < S8x4096.size a)
theorem k0_idx127_inb : ∀ (v123 : IVec S16 32) (v619 : IVec S16 32) (k0_hw127 : k0_chk127 v123 v619), ∀ a x, ((![v123, v619] : Fin 2 → IVec S16 32) a x).toNat < S8x4096.size a := fun v123 v619 k0_hw127 => k0_hw127

def k0_chk128 (v123 : IVec S16 32) (v623 : IVec S16 32) : Prop :=
  (∀ a x, ((![v123, v623] : Fin 2 → IVec S16 32) a x).toNat < S8x4096.size a)
theorem k0_idx128_inb : ∀ (v123 : IVec S16 32) (v623 : IVec S16 32) (k0_hw128 : k0_chk128 v123 v623), ∀ a x, ((![v123, v623] : Fin 2 → IVec S16 32) a x).toNat < S8x4096.size a := fun v123 v623 k0_hw128 => k0_hw128

def k0_chk129 (v123 : IVec S16 32) (v627 : IVec S16 32) : Prop :=
  (∀ a x, ((![v123, v627] : Fin 2 → IVec S16 32) a x).toNat < S8x4096.size a)
theorem k0_idx129_inb : ∀ (v123 : IVec S16 32) (v627 : IVec S16 32) (k0_hw129 : k0_chk129 v123 v627), ∀ a x, ((![v123, v627] : Fin 2 → IVec S16 32) a x).toNat < S8x4096.size a := fun v123 v627 k0_hw129 => k0_hw129

def k0_chk130 (v123 : IVec S16 32) (v631 : IVec S16 32) : Prop :=
  (∀ a x, ((![v123, v631] : Fin 2 → IVec S16 32) a x).toNat < S8x4096.size a)
theorem k0_idx130_inb : ∀ (v123 : IVec S16 32) (v631 : IVec S16 32) (k0_hw130 : k0_chk130 v123 v631), ∀ a x, ((![v123, v631] : Fin 2 → IVec S16 32) a x).toNat < S8x4096.size a := fun v123 v631 k0_hw130 => k0_hw130

def k0_chk131 (v123 : IVec S16 32) (v635 : IVec S16 32) : Prop :=
  (∀ a x, ((![v123, v635] : Fin 2 → IVec S16 32) a x).toNat < S8x4096.size a)
theorem k0_idx131_inb : ∀ (v123 : IVec S16 32) (v635 : IVec S16 32) (k0_hw131 : k0_chk131 v123 v635), ∀ a x, ((![v123, v635] : Fin 2 → IVec S16 32) a x).toNat < S8x4096.size a := fun v123 v635 k0_hw131 => k0_hw131

def k0_chk132 (v123 : IVec S16 32) (v639 : IVec S16 32) : Prop :=
  (∀ a x, ((![v123, v639] : Fin 2 → IVec S16 32) a x).toNat < S8x128.size a)
theorem k0_idx132_inb : ∀ (v123 : IVec S16 32) (v639 : IVec S16 32) (k0_hw132 : k0_chk132 v123 v639), ∀ a x, ((![v123, v639] : Fin 2 → IVec S16 32) a x).toNat < S8x128.size a := fun v123 v639 k0_hw132 => k0_hw132

def k0_chk133 (v123 : IVec S16 32) (v641 : IVec S16 32) : Prop :=
  (∀ a x, ((![v123, v641] : Fin 2 → IVec S16 32) a x).toNat < S8x4096.size a)
theorem k0_idx133_inb : ∀ (v123 : IVec S16 32) (v641 : IVec S16 32) (k0_hw133 : k0_chk133 v123 v641), ∀ a x, ((![v123, v641] : Fin 2 → IVec S16 32) a x).toNat < S8x4096.size a := fun v123 v641 k0_hw133 => k0_hw133

def k0_chk134 (v123 : IVec S16 32) (v644 : IVec S16 32) : Prop :=
  (∀ a x, ((![v123, v644] : Fin 2 → IVec S16 32) a x).toNat < S8x4096.size a)
theorem k0_idx134_inb : ∀ (v123 : IVec S16 32) (v644 : IVec S16 32) (k0_hw134 : k0_chk134 v123 v644), ∀ a x, ((![v123, v644] : Fin 2 → IVec S16 32) a x).toNat < S8x4096.size a := fun v123 v644 k0_hw134 => k0_hw134

def k0_chk135 (v123 : IVec S16 32) (v648 : IVec S16 32) : Prop :=
  (∀ a x, ((![v123, v648] : Fin 2 → IVec S16 32) a x).toNat < S8x4096.size a)
theorem k0_idx135_inb : ∀ (v123 : IVec S16 32) (v648 : IVec S16 32) (k0_hw135 : k0_chk135 v123 v648), ∀ a x, ((![v123, v648] : Fin 2 → IVec S16 32) a x).toNat < S8x4096.size a := fun v123 v648 k0_hw135 => k0_hw135

def k0_chk136 (v123 : IVec S16 32) (v652 : IVec S16 32) : Prop :=
  (∀ a x, ((![v123, v652] : Fin 2 → IVec S16 32) a x).toNat < S8x4096.size a)
theorem k0_idx136_inb : ∀ (v123 : IVec S16 32) (v652 : IVec S16 32) (k0_hw136 : k0_chk136 v123 v652), ∀ a x, ((![v123, v652] : Fin 2 → IVec S16 32) a x).toNat < S8x4096.size a := fun v123 v652 k0_hw136 => k0_hw136

def k0_chk137 (v123 : IVec S16 32) (v656 : IVec S16 32) : Prop :=
  (∀ a x, ((![v123, v656] : Fin 2 → IVec S16 32) a x).toNat < S8x4096.size a)
theorem k0_idx137_inb : ∀ (v123 : IVec S16 32) (v656 : IVec S16 32) (k0_hw137 : k0_chk137 v123 v656), ∀ a x, ((![v123, v656] : Fin 2 → IVec S16 32) a x).toNat < S8x4096.size a := fun v123 v656 k0_hw137 => k0_hw137

def k0_chk138 (v123 : IVec S16 32) (v660 : IVec S16 32) : Prop :=
  (∀ a x, ((![v123, v660] : Fin 2 → IVec S16 32) a x).toNat < S8x4096.size a)
theorem k0_idx138_inb : ∀ (v123 : IVec S16 32) (v660 : IVec S16 32) (k0_hw138 : k0_chk138 v123 v660), ∀ a x, ((![v123, v660] : Fin 2 → IVec S16 32) a x).toNat < S8x4096.size a := fun v123 v660 k0_hw138 => k0_hw138

def k0_chk139 (v123 : IVec S16 32) (v664 : IVec S16 32) : Prop :=
  (∀ a x, ((![v123, v664] : Fin 2 → IVec S16 32) a x).toNat < S8x4096.size a)
theorem k0_idx139_inb : ∀ (v123 : IVec S16 32) (v664 : IVec S16 32) (k0_hw139 : k0_chk139 v123 v664), ∀ a x, ((![v123, v664] : Fin 2 → IVec S16 32) a x).toNat < S8x4096.size a := fun v123 v664 k0_hw139 => k0_hw139

def k0_chk140 (v123 : IVec S16 32) (v668 : IVec S16 32) : Prop :=
  (∀ a x, ((![v123, v668] : Fin 2 → IVec S16 32) a x).toNat < S8x4096.size a)
theorem k0_idx140_inb : ∀ (v123 : IVec S16 32) (v668 : IVec S16 32) (k0_hw140 : k0_chk140 v123 v668), ∀ a x, ((![v123, v668] : Fin 2 → IVec S16 32) a x).toNat < S8x4096.size a := fun v123 v668 k0_hw140 => k0_hw140

def k0_chk141 (v123 : IVec S16 32) (v672 : IVec S16 32) : Prop :=
  (∀ a x, ((![v123, v672] : Fin 2 → IVec S16 32) a x).toNat < S8x4096.size a)
theorem k0_idx141_inb : ∀ (v123 : IVec S16 32) (v672 : IVec S16 32) (k0_hw141 : k0_chk141 v123 v672), ∀ a x, ((![v123, v672] : Fin 2 → IVec S16 32) a x).toNat < S8x4096.size a := fun v123 v672 k0_hw141 => k0_hw141

def k0_chk142 (v123 : IVec S16 32) (v676 : IVec S16 32) : Prop :=
  (∀ a x, ((![v123, v676] : Fin 2 → IVec S16 32) a x).toNat < S8x4096.size a)
theorem k0_idx142_inb : ∀ (v123 : IVec S16 32) (v676 : IVec S16 32) (k0_hw142 : k0_chk142 v123 v676), ∀ a x, ((![v123, v676] : Fin 2 → IVec S16 32) a x).toNat < S8x4096.size a := fun v123 v676 k0_hw142 => k0_hw142

def k0_chk143 (v123 : IVec S16 32) (v680 : IVec S16 32) : Prop :=
  (∀ a x, ((![v123, v680] : Fin 2 → IVec S16 32) a x).toNat < S8x4096.size a)
theorem k0_idx143_inb : ∀ (v123 : IVec S16 32) (v680 : IVec S16 32) (k0_hw143 : k0_chk143 v123 v680), ∀ a x, ((![v123, v680] : Fin 2 → IVec S16 32) a x).toNat < S8x4096.size a := fun v123 v680 k0_hw143 => k0_hw143

def k0_chk144 (v123 : IVec S16 32) (v684 : IVec S16 32) : Prop :=
  (∀ a x, ((![v123, v684] : Fin 2 → IVec S16 32) a x).toNat < S8x4096.size a)
theorem k0_idx144_inb : ∀ (v123 : IVec S16 32) (v684 : IVec S16 32) (k0_hw144 : k0_chk144 v123 v684), ∀ a x, ((![v123, v684] : Fin 2 → IVec S16 32) a x).toNat < S8x4096.size a := fun v123 v684 k0_hw144 => k0_hw144

def k0_chk145 (v123 : IVec S16 32) (v688 : IVec S16 32) : Prop :=
  (∀ a x, ((![v123, v688] : Fin 2 → IVec S16 32) a x).toNat < S8x4096.size a)
theorem k0_idx145_inb : ∀ (v123 : IVec S16 32) (v688 : IVec S16 32) (k0_hw145 : k0_chk145 v123 v688), ∀ a x, ((![v123, v688] : Fin 2 → IVec S16 32) a x).toNat < S8x4096.size a := fun v123 v688 k0_hw145 => k0_hw145

def k0_chk146 (v123 : IVec S16 32) (v692 : IVec S16 32) : Prop :=
  (∀ a x, ((![v123, v692] : Fin 2 → IVec S16 32) a x).toNat < S8x4096.size a)
theorem k0_idx146_inb : ∀ (v123 : IVec S16 32) (v692 : IVec S16 32) (k0_hw146 : k0_chk146 v123 v692), ∀ a x, ((![v123, v692] : Fin 2 → IVec S16 32) a x).toNat < S8x4096.size a := fun v123 v692 k0_hw146 => k0_hw146

def k0_chk147 (v123 : IVec S16 32) (v696 : IVec S16 32) : Prop :=
  (∀ a x, ((![v123, v696] : Fin 2 → IVec S16 32) a x).toNat < S8x4096.size a)
theorem k0_idx147_inb : ∀ (v123 : IVec S16 32) (v696 : IVec S16 32) (k0_hw147 : k0_chk147 v123 v696), ∀ a x, ((![v123, v696] : Fin 2 → IVec S16 32) a x).toNat < S8x4096.size a := fun v123 v696 k0_hw147 => k0_hw147

def k0_chk148 (v123 : IVec S16 32) (v700 : IVec S16 32) : Prop :=
  (∀ a x, ((![v123, v700] : Fin 2 → IVec S16 32) a x).toNat < S8x4096.size a)
theorem k0_idx148_inb : ∀ (v123 : IVec S16 32) (v700 : IVec S16 32) (k0_hw148 : k0_chk148 v123 v700), ∀ a x, ((![v123, v700] : Fin 2 → IVec S16 32) a x).toNat < S8x4096.size a := fun v123 v700 k0_hw148 => k0_hw148

def k0_chk149 (v123 : IVec S16 32) (v704 : IVec S16 32) : Prop :=
  (∀ a x, ((![v123, v704] : Fin 2 → IVec S16 32) a x).toNat < S8x4096.size a)
theorem k0_idx149_inb : ∀ (v123 : IVec S16 32) (v704 : IVec S16 32) (k0_hw149 : k0_chk149 v123 v704), ∀ a x, ((![v123, v704] : Fin 2 → IVec S16 32) a x).toNat < S8x4096.size a := fun v123 v704 k0_hw149 => k0_hw149

def k0_chk150 (v123 : IVec S16 32) (v708 : IVec S16 32) : Prop :=
  (∀ a x, ((![v123, v708] : Fin 2 → IVec S16 32) a x).toNat < S8x4096.size a)
theorem k0_idx150_inb : ∀ (v123 : IVec S16 32) (v708 : IVec S16 32) (k0_hw150 : k0_chk150 v123 v708), ∀ a x, ((![v123, v708] : Fin 2 → IVec S16 32) a x).toNat < S8x4096.size a := fun v123 v708 k0_hw150 => k0_hw150

def k0_chk151 (v123 : IVec S16 32) (v712 : IVec S16 32) : Prop :=
  (∀ a x, ((![v123, v712] : Fin 2 → IVec S16 32) a x).toNat < S8x4096.size a)
theorem k0_idx151_inb : ∀ (v123 : IVec S16 32) (v712 : IVec S16 32) (k0_hw151 : k0_chk151 v123 v712), ∀ a x, ((![v123, v712] : Fin 2 → IVec S16 32) a x).toNat < S8x4096.size a := fun v123 v712 k0_hw151 => k0_hw151

def k0_chk152 (v123 : IVec S16 32) (v716 : IVec S16 32) : Prop :=
  (∀ a x, ((![v123, v716] : Fin 2 → IVec S16 32) a x).toNat < S8x4096.size a)
theorem k0_idx152_inb : ∀ (v123 : IVec S16 32) (v716 : IVec S16 32) (k0_hw152 : k0_chk152 v123 v716), ∀ a x, ((![v123, v716] : Fin 2 → IVec S16 32) a x).toNat < S8x4096.size a := fun v123 v716 k0_hw152 => k0_hw152

def k0_chk153 (v123 : IVec S16 32) (v720 : IVec S16 32) : Prop :=
  (∀ a x, ((![v123, v720] : Fin 2 → IVec S16 32) a x).toNat < S8x4096.size a)
theorem k0_idx153_inb : ∀ (v123 : IVec S16 32) (v720 : IVec S16 32) (k0_hw153 : k0_chk153 v123 v720), ∀ a x, ((![v123, v720] : Fin 2 → IVec S16 32) a x).toNat < S8x4096.size a := fun v123 v720 k0_hw153 => k0_hw153

def k0_chk154 (v123 : IVec S16 32) (v724 : IVec S16 32) : Prop :=
  (∀ a x, ((![v123, v724] : Fin 2 → IVec S16 32) a x).toNat < S8x4096.size a)
theorem k0_idx154_inb : ∀ (v123 : IVec S16 32) (v724 : IVec S16 32) (k0_hw154 : k0_chk154 v123 v724), ∀ a x, ((![v123, v724] : Fin 2 → IVec S16 32) a x).toNat < S8x4096.size a := fun v123 v724 k0_hw154 => k0_hw154

def k0_chk155 (v123 : IVec S16 32) (v728 : IVec S16 32) : Prop :=
  (∀ a x, ((![v123, v728] : Fin 2 → IVec S16 32) a x).toNat < S8x4096.size a)
theorem k0_idx155_inb : ∀ (v123 : IVec S16 32) (v728 : IVec S16 32) (k0_hw155 : k0_chk155 v123 v728), ∀ a x, ((![v123, v728] : Fin 2 → IVec S16 32) a x).toNat < S8x4096.size a := fun v123 v728 k0_hw155 => k0_hw155

def k0_chk156 (v123 : IVec S16 32) (v732 : IVec S16 32) : Prop :=
  (∀ a x, ((![v123, v732] : Fin 2 → IVec S16 32) a x).toNat < S8x4096.size a)
theorem k0_idx156_inb : ∀ (v123 : IVec S16 32) (v732 : IVec S16 32) (k0_hw156 : k0_chk156 v123 v732), ∀ a x, ((![v123, v732] : Fin 2 → IVec S16 32) a x).toNat < S8x4096.size a := fun v123 v732 k0_hw156 => k0_hw156

def k0_chk157 (v123 : IVec S16 32) (v736 : IVec S16 32) : Prop :=
  (∀ a x, ((![v123, v736] : Fin 2 → IVec S16 32) a x).toNat < S8x4096.size a)
theorem k0_idx157_inb : ∀ (v123 : IVec S16 32) (v736 : IVec S16 32) (k0_hw157 : k0_chk157 v123 v736), ∀ a x, ((![v123, v736] : Fin 2 → IVec S16 32) a x).toNat < S8x4096.size a := fun v123 v736 k0_hw157 => k0_hw157

def k0_chk158 (v123 : IVec S16 32) (v740 : IVec S16 32) : Prop :=
  (∀ a x, ((![v123, v740] : Fin 2 → IVec S16 32) a x).toNat < S8x4096.size a)
theorem k0_idx158_inb : ∀ (v123 : IVec S16 32) (v740 : IVec S16 32) (k0_hw158 : k0_chk158 v123 v740), ∀ a x, ((![v123, v740] : Fin 2 → IVec S16 32) a x).toNat < S8x4096.size a := fun v123 v740 k0_hw158 => k0_hw158

def k0_chk159 (v123 : IVec S16 32) (v744 : IVec S16 32) : Prop :=
  (∀ a x, ((![v123, v744] : Fin 2 → IVec S16 32) a x).toNat < S8x4096.size a)
theorem k0_idx159_inb : ∀ (v123 : IVec S16 32) (v744 : IVec S16 32) (k0_hw159 : k0_chk159 v123 v744), ∀ a x, ((![v123, v744] : Fin 2 → IVec S16 32) a x).toNat < S8x4096.size a := fun v123 v744 k0_hw159 => k0_hw159

def k0_chk160 (v123 : IVec S16 32) (v748 : IVec S16 32) : Prop :=
  (∀ a x, ((![v123, v748] : Fin 2 → IVec S16 32) a x).toNat < S8x4096.size a)
theorem k0_idx160_inb : ∀ (v123 : IVec S16 32) (v748 : IVec S16 32) (k0_hw160 : k0_chk160 v123 v748), ∀ a x, ((![v123, v748] : Fin 2 → IVec S16 32) a x).toNat < S8x4096.size a := fun v123 v748 k0_hw160 => k0_hw160

def k0_chk161 (v123 : IVec S16 32) (v752 : IVec S16 32) : Prop :=
  (∀ a x, ((![v123, v752] : Fin 2 → IVec S16 32) a x).toNat < S8x4096.size a)
theorem k0_idx161_inb : ∀ (v123 : IVec S16 32) (v752 : IVec S16 32) (k0_hw161 : k0_chk161 v123 v752), ∀ a x, ((![v123, v752] : Fin 2 → IVec S16 32) a x).toNat < S8x4096.size a := fun v123 v752 k0_hw161 => k0_hw161

def k0_chk162 (v123 : IVec S16 32) (v756 : IVec S16 32) : Prop :=
  (∀ a x, ((![v123, v756] : Fin 2 → IVec S16 32) a x).toNat < S8x4096.size a)
theorem k0_idx162_inb : ∀ (v123 : IVec S16 32) (v756 : IVec S16 32) (k0_hw162 : k0_chk162 v123 v756), ∀ a x, ((![v123, v756] : Fin 2 → IVec S16 32) a x).toNat < S8x4096.size a := fun v123 v756 k0_hw162 => k0_hw162

def k0_chk163 (v123 : IVec S16 32) (v760 : IVec S16 32) : Prop :=
  (∀ a x, ((![v123, v760] : Fin 2 → IVec S16 32) a x).toNat < S8x4096.size a)
theorem k0_idx163_inb : ∀ (v123 : IVec S16 32) (v760 : IVec S16 32) (k0_hw163 : k0_chk163 v123 v760), ∀ a x, ((![v123, v760] : Fin 2 → IVec S16 32) a x).toNat < S8x4096.size a := fun v123 v760 k0_hw163 => k0_hw163

def k0_chk164 (v123 : IVec S16 32) (v764 : IVec S16 32) : Prop :=
  (∀ a x, ((![v123, v764] : Fin 2 → IVec S16 32) a x).toNat < S8x4096.size a)
theorem k0_idx164_inb : ∀ (v123 : IVec S16 32) (v764 : IVec S16 32) (k0_hw164 : k0_chk164 v123 v764), ∀ a x, ((![v123, v764] : Fin 2 → IVec S16 32) a x).toNat < S8x4096.size a := fun v123 v764 k0_hw164 => k0_hw164

def k0_chk165 (v123 : IVec S16 32) (v768 : IVec S16 32) : Prop :=
  (∀ a x, ((![v123, v768] : Fin 2 → IVec S16 32) a x).toNat < S8x128.size a)
theorem k0_idx165_inb : ∀ (v123 : IVec S16 32) (v768 : IVec S16 32) (k0_hw165 : k0_chk165 v123 v768), ∀ a x, ((![v123, v768] : Fin 2 → IVec S16 32) a x).toNat < S8x128.size a := fun v123 v768 k0_hw165 => k0_hw165

def k0_chk166 (v123 : IVec S16 32) (v770 : IVec S16 32) : Prop :=
  (∀ a x, ((![v123, v770] : Fin 2 → IVec S16 32) a x).toNat < S8x4096.size a)
theorem k0_idx166_inb : ∀ (v123 : IVec S16 32) (v770 : IVec S16 32) (k0_hw166 : k0_chk166 v123 v770), ∀ a x, ((![v123, v770] : Fin 2 → IVec S16 32) a x).toNat < S8x4096.size a := fun v123 v770 k0_hw166 => k0_hw166

def k0_chk167 (v123 : IVec S16 32) (v773 : IVec S16 32) : Prop :=
  (∀ a x, ((![v123, v773] : Fin 2 → IVec S16 32) a x).toNat < S8x4096.size a)
theorem k0_idx167_inb : ∀ (v123 : IVec S16 32) (v773 : IVec S16 32) (k0_hw167 : k0_chk167 v123 v773), ∀ a x, ((![v123, v773] : Fin 2 → IVec S16 32) a x).toNat < S8x4096.size a := fun v123 v773 k0_hw167 => k0_hw167

def k0_chk168 (v123 : IVec S16 32) (v777 : IVec S16 32) : Prop :=
  (∀ a x, ((![v123, v777] : Fin 2 → IVec S16 32) a x).toNat < S8x4096.size a)
theorem k0_idx168_inb : ∀ (v123 : IVec S16 32) (v777 : IVec S16 32) (k0_hw168 : k0_chk168 v123 v777), ∀ a x, ((![v123, v777] : Fin 2 → IVec S16 32) a x).toNat < S8x4096.size a := fun v123 v777 k0_hw168 => k0_hw168

def k0_chk169 (v123 : IVec S16 32) (v781 : IVec S16 32) : Prop :=
  (∀ a x, ((![v123, v781] : Fin 2 → IVec S16 32) a x).toNat < S8x4096.size a)
theorem k0_idx169_inb : ∀ (v123 : IVec S16 32) (v781 : IVec S16 32) (k0_hw169 : k0_chk169 v123 v781), ∀ a x, ((![v123, v781] : Fin 2 → IVec S16 32) a x).toNat < S8x4096.size a := fun v123 v781 k0_hw169 => k0_hw169

def k0_chk170 (v123 : IVec S16 32) (v785 : IVec S16 32) : Prop :=
  (∀ a x, ((![v123, v785] : Fin 2 → IVec S16 32) a x).toNat < S8x4096.size a)
theorem k0_idx170_inb : ∀ (v123 : IVec S16 32) (v785 : IVec S16 32) (k0_hw170 : k0_chk170 v123 v785), ∀ a x, ((![v123, v785] : Fin 2 → IVec S16 32) a x).toNat < S8x4096.size a := fun v123 v785 k0_hw170 => k0_hw170

def k0_chk171 (v123 : IVec S16 32) (v789 : IVec S16 32) : Prop :=
  (∀ a x, ((![v123, v789] : Fin 2 → IVec S16 32) a x).toNat < S8x4096.size a)
theorem k0_idx171_inb : ∀ (v123 : IVec S16 32) (v789 : IVec S16 32) (k0_hw171 : k0_chk171 v123 v789), ∀ a x, ((![v123, v789] : Fin 2 → IVec S16 32) a x).toNat < S8x4096.size a := fun v123 v789 k0_hw171 => k0_hw171

def k0_chk172 (v123 : IVec S16 32) (v793 : IVec S16 32) : Prop :=
  (∀ a x, ((![v123, v793] : Fin 2 → IVec S16 32) a x).toNat < S8x4096.size a)
theorem k0_idx172_inb : ∀ (v123 : IVec S16 32) (v793 : IVec S16 32) (k0_hw172 : k0_chk172 v123 v793), ∀ a x, ((![v123, v793] : Fin 2 → IVec S16 32) a x).toNat < S8x4096.size a := fun v123 v793 k0_hw172 => k0_hw172

def k0_chk173 (v123 : IVec S16 32) (v797 : IVec S16 32) : Prop :=
  (∀ a x, ((![v123, v797] : Fin 2 → IVec S16 32) a x).toNat < S8x4096.size a)
theorem k0_idx173_inb : ∀ (v123 : IVec S16 32) (v797 : IVec S16 32) (k0_hw173 : k0_chk173 v123 v797), ∀ a x, ((![v123, v797] : Fin 2 → IVec S16 32) a x).toNat < S8x4096.size a := fun v123 v797 k0_hw173 => k0_hw173

def k0_chk174 (v123 : IVec S16 32) (v801 : IVec S16 32) : Prop :=
  (∀ a x, ((![v123, v801] : Fin 2 → IVec S16 32) a x).toNat < S8x4096.size a)
theorem k0_idx174_inb : ∀ (v123 : IVec S16 32) (v801 : IVec S16 32) (k0_hw174 : k0_chk174 v123 v801), ∀ a x, ((![v123, v801] : Fin 2 → IVec S16 32) a x).toNat < S8x4096.size a := fun v123 v801 k0_hw174 => k0_hw174

def k0_chk175 (v123 : IVec S16 32) (v805 : IVec S16 32) : Prop :=
  (∀ a x, ((![v123, v805] : Fin 2 → IVec S16 32) a x).toNat < S8x4096.size a)
theorem k0_idx175_inb : ∀ (v123 : IVec S16 32) (v805 : IVec S16 32) (k0_hw175 : k0_chk175 v123 v805), ∀ a x, ((![v123, v805] : Fin 2 → IVec S16 32) a x).toNat < S8x4096.size a := fun v123 v805 k0_hw175 => k0_hw175

def k0_chk176 (v123 : IVec S16 32) (v809 : IVec S16 32) : Prop :=
  (∀ a x, ((![v123, v809] : Fin 2 → IVec S16 32) a x).toNat < S8x4096.size a)
theorem k0_idx176_inb : ∀ (v123 : IVec S16 32) (v809 : IVec S16 32) (k0_hw176 : k0_chk176 v123 v809), ∀ a x, ((![v123, v809] : Fin 2 → IVec S16 32) a x).toNat < S8x4096.size a := fun v123 v809 k0_hw176 => k0_hw176

def k0_chk177 (v123 : IVec S16 32) (v813 : IVec S16 32) : Prop :=
  (∀ a x, ((![v123, v813] : Fin 2 → IVec S16 32) a x).toNat < S8x4096.size a)
theorem k0_idx177_inb : ∀ (v123 : IVec S16 32) (v813 : IVec S16 32) (k0_hw177 : k0_chk177 v123 v813), ∀ a x, ((![v123, v813] : Fin 2 → IVec S16 32) a x).toNat < S8x4096.size a := fun v123 v813 k0_hw177 => k0_hw177

def k0_chk178 (v123 : IVec S16 32) (v817 : IVec S16 32) : Prop :=
  (∀ a x, ((![v123, v817] : Fin 2 → IVec S16 32) a x).toNat < S8x4096.size a)
theorem k0_idx178_inb : ∀ (v123 : IVec S16 32) (v817 : IVec S16 32) (k0_hw178 : k0_chk178 v123 v817), ∀ a x, ((![v123, v817] : Fin 2 → IVec S16 32) a x).toNat < S8x4096.size a := fun v123 v817 k0_hw178 => k0_hw178

def k0_chk179 (v123 : IVec S16 32) (v821 : IVec S16 32) : Prop :=
  (∀ a x, ((![v123, v821] : Fin 2 → IVec S16 32) a x).toNat < S8x4096.size a)
theorem k0_idx179_inb : ∀ (v123 : IVec S16 32) (v821 : IVec S16 32) (k0_hw179 : k0_chk179 v123 v821), ∀ a x, ((![v123, v821] : Fin 2 → IVec S16 32) a x).toNat < S8x4096.size a := fun v123 v821 k0_hw179 => k0_hw179

def k0_chk180 (v123 : IVec S16 32) (v825 : IVec S16 32) : Prop :=
  (∀ a x, ((![v123, v825] : Fin 2 → IVec S16 32) a x).toNat < S8x4096.size a)
theorem k0_idx180_inb : ∀ (v123 : IVec S16 32) (v825 : IVec S16 32) (k0_hw180 : k0_chk180 v123 v825), ∀ a x, ((![v123, v825] : Fin 2 → IVec S16 32) a x).toNat < S8x4096.size a := fun v123 v825 k0_hw180 => k0_hw180

def k0_chk181 (v123 : IVec S16 32) (v829 : IVec S16 32) : Prop :=
  (∀ a x, ((![v123, v829] : Fin 2 → IVec S16 32) a x).toNat < S8x4096.size a)
theorem k0_idx181_inb : ∀ (v123 : IVec S16 32) (v829 : IVec S16 32) (k0_hw181 : k0_chk181 v123 v829), ∀ a x, ((![v123, v829] : Fin 2 → IVec S16 32) a x).toNat < S8x4096.size a := fun v123 v829 k0_hw181 => k0_hw181

def k0_chk182 (v123 : IVec S16 32) (v833 : IVec S16 32) : Prop :=
  (∀ a x, ((![v123, v833] : Fin 2 → IVec S16 32) a x).toNat < S8x4096.size a)
theorem k0_idx182_inb : ∀ (v123 : IVec S16 32) (v833 : IVec S16 32) (k0_hw182 : k0_chk182 v123 v833), ∀ a x, ((![v123, v833] : Fin 2 → IVec S16 32) a x).toNat < S8x4096.size a := fun v123 v833 k0_hw182 => k0_hw182

def k0_chk183 (v123 : IVec S16 32) (v837 : IVec S16 32) : Prop :=
  (∀ a x, ((![v123, v837] : Fin 2 → IVec S16 32) a x).toNat < S8x4096.size a)
theorem k0_idx183_inb : ∀ (v123 : IVec S16 32) (v837 : IVec S16 32) (k0_hw183 : k0_chk183 v123 v837), ∀ a x, ((![v123, v837] : Fin 2 → IVec S16 32) a x).toNat < S8x4096.size a := fun v123 v837 k0_hw183 => k0_hw183

def k0_chk184 (v123 : IVec S16 32) (v841 : IVec S16 32) : Prop :=
  (∀ a x, ((![v123, v841] : Fin 2 → IVec S16 32) a x).toNat < S8x4096.size a)
theorem k0_idx184_inb : ∀ (v123 : IVec S16 32) (v841 : IVec S16 32) (k0_hw184 : k0_chk184 v123 v841), ∀ a x, ((![v123, v841] : Fin 2 → IVec S16 32) a x).toNat < S8x4096.size a := fun v123 v841 k0_hw184 => k0_hw184

def k0_chk185 (v123 : IVec S16 32) (v845 : IVec S16 32) : Prop :=
  (∀ a x, ((![v123, v845] : Fin 2 → IVec S16 32) a x).toNat < S8x4096.size a)
theorem k0_idx185_inb : ∀ (v123 : IVec S16 32) (v845 : IVec S16 32) (k0_hw185 : k0_chk185 v123 v845), ∀ a x, ((![v123, v845] : Fin 2 → IVec S16 32) a x).toNat < S8x4096.size a := fun v123 v845 k0_hw185 => k0_hw185

def k0_chk186 (v123 : IVec S16 32) (v849 : IVec S16 32) : Prop :=
  (∀ a x, ((![v123, v849] : Fin 2 → IVec S16 32) a x).toNat < S8x4096.size a)
theorem k0_idx186_inb : ∀ (v123 : IVec S16 32) (v849 : IVec S16 32) (k0_hw186 : k0_chk186 v123 v849), ∀ a x, ((![v123, v849] : Fin 2 → IVec S16 32) a x).toNat < S8x4096.size a := fun v123 v849 k0_hw186 => k0_hw186

def k0_chk187 (v123 : IVec S16 32) (v853 : IVec S16 32) : Prop :=
  (∀ a x, ((![v123, v853] : Fin 2 → IVec S16 32) a x).toNat < S8x4096.size a)
theorem k0_idx187_inb : ∀ (v123 : IVec S16 32) (v853 : IVec S16 32) (k0_hw187 : k0_chk187 v123 v853), ∀ a x, ((![v123, v853] : Fin 2 → IVec S16 32) a x).toNat < S8x4096.size a := fun v123 v853 k0_hw187 => k0_hw187

def k0_chk188 (v123 : IVec S16 32) (v857 : IVec S16 32) : Prop :=
  (∀ a x, ((![v123, v857] : Fin 2 → IVec S16 32) a x).toNat < S8x4096.size a)
theorem k0_idx188_inb : ∀ (v123 : IVec S16 32) (v857 : IVec S16 32) (k0_hw188 : k0_chk188 v123 v857), ∀ a x, ((![v123, v857] : Fin 2 → IVec S16 32) a x).toNat < S8x4096.size a := fun v123 v857 k0_hw188 => k0_hw188

def k0_chk189 (v123 : IVec S16 32) (v861 : IVec S16 32) : Prop :=
  (∀ a x, ((![v123, v861] : Fin 2 → IVec S16 32) a x).toNat < S8x4096.size a)
theorem k0_idx189_inb : ∀ (v123 : IVec S16 32) (v861 : IVec S16 32) (k0_hw189 : k0_chk189 v123 v861), ∀ a x, ((![v123, v861] : Fin 2 → IVec S16 32) a x).toNat < S8x4096.size a := fun v123 v861 k0_hw189 => k0_hw189

def k0_chk190 (v123 : IVec S16 32) (v865 : IVec S16 32) : Prop :=
  (∀ a x, ((![v123, v865] : Fin 2 → IVec S16 32) a x).toNat < S8x4096.size a)
theorem k0_idx190_inb : ∀ (v123 : IVec S16 32) (v865 : IVec S16 32) (k0_hw190 : k0_chk190 v123 v865), ∀ a x, ((![v123, v865] : Fin 2 → IVec S16 32) a x).toNat < S8x4096.size a := fun v123 v865 k0_hw190 => k0_hw190

def k0_chk191 (v123 : IVec S16 32) (v869 : IVec S16 32) : Prop :=
  (∀ a x, ((![v123, v869] : Fin 2 → IVec S16 32) a x).toNat < S8x4096.size a)
theorem k0_idx191_inb : ∀ (v123 : IVec S16 32) (v869 : IVec S16 32) (k0_hw191 : k0_chk191 v123 v869), ∀ a x, ((![v123, v869] : Fin 2 → IVec S16 32) a x).toNat < S8x4096.size a := fun v123 v869 k0_hw191 => k0_hw191

def k0_chk192 (v123 : IVec S16 32) (v873 : IVec S16 32) : Prop :=
  (∀ a x, ((![v123, v873] : Fin 2 → IVec S16 32) a x).toNat < S8x4096.size a)
theorem k0_idx192_inb : ∀ (v123 : IVec S16 32) (v873 : IVec S16 32) (k0_hw192 : k0_chk192 v123 v873), ∀ a x, ((![v123, v873] : Fin 2 → IVec S16 32) a x).toNat < S8x4096.size a := fun v123 v873 k0_hw192 => k0_hw192

def k0_chk193 (v123 : IVec S16 32) (v877 : IVec S16 32) : Prop :=
  (∀ a x, ((![v123, v877] : Fin 2 → IVec S16 32) a x).toNat < S8x4096.size a)
theorem k0_idx193_inb : ∀ (v123 : IVec S16 32) (v877 : IVec S16 32) (k0_hw193 : k0_chk193 v123 v877), ∀ a x, ((![v123, v877] : Fin 2 → IVec S16 32) a x).toNat < S8x4096.size a := fun v123 v877 k0_hw193 => k0_hw193

def k0_chk194 (v123 : IVec S16 32) (v881 : IVec S16 32) : Prop :=
  (∀ a x, ((![v123, v881] : Fin 2 → IVec S16 32) a x).toNat < S8x4096.size a)
theorem k0_idx194_inb : ∀ (v123 : IVec S16 32) (v881 : IVec S16 32) (k0_hw194 : k0_chk194 v123 v881), ∀ a x, ((![v123, v881] : Fin 2 → IVec S16 32) a x).toNat < S8x4096.size a := fun v123 v881 k0_hw194 => k0_hw194

def k0_chk195 (v123 : IVec S16 32) (v885 : IVec S16 32) : Prop :=
  (∀ a x, ((![v123, v885] : Fin 2 → IVec S16 32) a x).toNat < S8x4096.size a)
theorem k0_idx195_inb : ∀ (v123 : IVec S16 32) (v885 : IVec S16 32) (k0_hw195 : k0_chk195 v123 v885), ∀ a x, ((![v123, v885] : Fin 2 → IVec S16 32) a x).toNat < S8x4096.size a := fun v123 v885 k0_hw195 => k0_hw195

def k0_chk196 (v123 : IVec S16 32) (v889 : IVec S16 32) : Prop :=
  (∀ a x, ((![v123, v889] : Fin 2 → IVec S16 32) a x).toNat < S8x4096.size a)
theorem k0_idx196_inb : ∀ (v123 : IVec S16 32) (v889 : IVec S16 32) (k0_hw196 : k0_chk196 v123 v889), ∀ a x, ((![v123, v889] : Fin 2 → IVec S16 32) a x).toNat < S8x4096.size a := fun v123 v889 k0_hw196 => k0_hw196

def k0_chk197 (v123 : IVec S16 32) (v893 : IVec S16 32) : Prop :=
  (∀ a x, ((![v123, v893] : Fin 2 → IVec S16 32) a x).toNat < S8x4096.size a)
theorem k0_idx197_inb : ∀ (v123 : IVec S16 32) (v893 : IVec S16 32) (k0_hw197 : k0_chk197 v123 v893), ∀ a x, ((![v123, v893] : Fin 2 → IVec S16 32) a x).toNat < S8x4096.size a := fun v123 v893 k0_hw197 => k0_hw197

def k0_chk198 (v123 : IVec S16 32) (v897 : IVec S16 32) : Prop :=
  (∀ a x, ((![v123, v897] : Fin 2 → IVec S16 32) a x).toNat < S8x128.size a)
theorem k0_idx198_inb : ∀ (v123 : IVec S16 32) (v897 : IVec S16 32) (k0_hw198 : k0_chk198 v123 v897), ∀ a x, ((![v123, v897] : Fin 2 → IVec S16 32) a x).toNat < S8x128.size a := fun v123 v897 k0_hw198 => k0_hw198

def k0_chk199 (v123 : IVec S16 32) (v899 : IVec S16 32) : Prop :=
  (∀ a x, ((![v123, v899] : Fin 2 → IVec S16 32) a x).toNat < S8x4096.size a)
theorem k0_idx199_inb : ∀ (v123 : IVec S16 32) (v899 : IVec S16 32) (k0_hw199 : k0_chk199 v123 v899), ∀ a x, ((![v123, v899] : Fin 2 → IVec S16 32) a x).toNat < S8x4096.size a := fun v123 v899 k0_hw199 => k0_hw199

def k0_chk200 (v123 : IVec S16 32) (v902 : IVec S16 32) : Prop :=
  (∀ a x, ((![v123, v902] : Fin 2 → IVec S16 32) a x).toNat < S8x4096.size a)
theorem k0_idx200_inb : ∀ (v123 : IVec S16 32) (v902 : IVec S16 32) (k0_hw200 : k0_chk200 v123 v902), ∀ a x, ((![v123, v902] : Fin 2 → IVec S16 32) a x).toNat < S8x4096.size a := fun v123 v902 k0_hw200 => k0_hw200

def k0_chk201 (v123 : IVec S16 32) (v906 : IVec S16 32) : Prop :=
  (∀ a x, ((![v123, v906] : Fin 2 → IVec S16 32) a x).toNat < S8x4096.size a)
theorem k0_idx201_inb : ∀ (v123 : IVec S16 32) (v906 : IVec S16 32) (k0_hw201 : k0_chk201 v123 v906), ∀ a x, ((![v123, v906] : Fin 2 → IVec S16 32) a x).toNat < S8x4096.size a := fun v123 v906 k0_hw201 => k0_hw201

def k0_chk202 (v123 : IVec S16 32) (v910 : IVec S16 32) : Prop :=
  (∀ a x, ((![v123, v910] : Fin 2 → IVec S16 32) a x).toNat < S8x4096.size a)
theorem k0_idx202_inb : ∀ (v123 : IVec S16 32) (v910 : IVec S16 32) (k0_hw202 : k0_chk202 v123 v910), ∀ a x, ((![v123, v910] : Fin 2 → IVec S16 32) a x).toNat < S8x4096.size a := fun v123 v910 k0_hw202 => k0_hw202

def k0_chk203 (v123 : IVec S16 32) (v914 : IVec S16 32) : Prop :=
  (∀ a x, ((![v123, v914] : Fin 2 → IVec S16 32) a x).toNat < S8x4096.size a)
theorem k0_idx203_inb : ∀ (v123 : IVec S16 32) (v914 : IVec S16 32) (k0_hw203 : k0_chk203 v123 v914), ∀ a x, ((![v123, v914] : Fin 2 → IVec S16 32) a x).toNat < S8x4096.size a := fun v123 v914 k0_hw203 => k0_hw203

def k0_chk204 (v123 : IVec S16 32) (v918 : IVec S16 32) : Prop :=
  (∀ a x, ((![v123, v918] : Fin 2 → IVec S16 32) a x).toNat < S8x4096.size a)
theorem k0_idx204_inb : ∀ (v123 : IVec S16 32) (v918 : IVec S16 32) (k0_hw204 : k0_chk204 v123 v918), ∀ a x, ((![v123, v918] : Fin 2 → IVec S16 32) a x).toNat < S8x4096.size a := fun v123 v918 k0_hw204 => k0_hw204

def k0_chk205 (v123 : IVec S16 32) (v922 : IVec S16 32) : Prop :=
  (∀ a x, ((![v123, v922] : Fin 2 → IVec S16 32) a x).toNat < S8x4096.size a)
theorem k0_idx205_inb : ∀ (v123 : IVec S16 32) (v922 : IVec S16 32) (k0_hw205 : k0_chk205 v123 v922), ∀ a x, ((![v123, v922] : Fin 2 → IVec S16 32) a x).toNat < S8x4096.size a := fun v123 v922 k0_hw205 => k0_hw205

def k0_chk206 (v123 : IVec S16 32) (v926 : IVec S16 32) : Prop :=
  (∀ a x, ((![v123, v926] : Fin 2 → IVec S16 32) a x).toNat < S8x4096.size a)
theorem k0_idx206_inb : ∀ (v123 : IVec S16 32) (v926 : IVec S16 32) (k0_hw206 : k0_chk206 v123 v926), ∀ a x, ((![v123, v926] : Fin 2 → IVec S16 32) a x).toNat < S8x4096.size a := fun v123 v926 k0_hw206 => k0_hw206

def k0_chk207 (v123 : IVec S16 32) (v930 : IVec S16 32) : Prop :=
  (∀ a x, ((![v123, v930] : Fin 2 → IVec S16 32) a x).toNat < S8x4096.size a)
theorem k0_idx207_inb : ∀ (v123 : IVec S16 32) (v930 : IVec S16 32) (k0_hw207 : k0_chk207 v123 v930), ∀ a x, ((![v123, v930] : Fin 2 → IVec S16 32) a x).toNat < S8x4096.size a := fun v123 v930 k0_hw207 => k0_hw207

def k0_chk208 (v123 : IVec S16 32) (v934 : IVec S16 32) : Prop :=
  (∀ a x, ((![v123, v934] : Fin 2 → IVec S16 32) a x).toNat < S8x4096.size a)
theorem k0_idx208_inb : ∀ (v123 : IVec S16 32) (v934 : IVec S16 32) (k0_hw208 : k0_chk208 v123 v934), ∀ a x, ((![v123, v934] : Fin 2 → IVec S16 32) a x).toNat < S8x4096.size a := fun v123 v934 k0_hw208 => k0_hw208

def k0_chk209 (v123 : IVec S16 32) (v938 : IVec S16 32) : Prop :=
  (∀ a x, ((![v123, v938] : Fin 2 → IVec S16 32) a x).toNat < S8x4096.size a)
theorem k0_idx209_inb : ∀ (v123 : IVec S16 32) (v938 : IVec S16 32) (k0_hw209 : k0_chk209 v123 v938), ∀ a x, ((![v123, v938] : Fin 2 → IVec S16 32) a x).toNat < S8x4096.size a := fun v123 v938 k0_hw209 => k0_hw209

def k0_chk210 (v123 : IVec S16 32) (v942 : IVec S16 32) : Prop :=
  (∀ a x, ((![v123, v942] : Fin 2 → IVec S16 32) a x).toNat < S8x4096.size a)
theorem k0_idx210_inb : ∀ (v123 : IVec S16 32) (v942 : IVec S16 32) (k0_hw210 : k0_chk210 v123 v942), ∀ a x, ((![v123, v942] : Fin 2 → IVec S16 32) a x).toNat < S8x4096.size a := fun v123 v942 k0_hw210 => k0_hw210

def k0_chk211 (v123 : IVec S16 32) (v946 : IVec S16 32) : Prop :=
  (∀ a x, ((![v123, v946] : Fin 2 → IVec S16 32) a x).toNat < S8x4096.size a)
theorem k0_idx211_inb : ∀ (v123 : IVec S16 32) (v946 : IVec S16 32) (k0_hw211 : k0_chk211 v123 v946), ∀ a x, ((![v123, v946] : Fin 2 → IVec S16 32) a x).toNat < S8x4096.size a := fun v123 v946 k0_hw211 => k0_hw211

def k0_chk212 (v123 : IVec S16 32) (v950 : IVec S16 32) : Prop :=
  (∀ a x, ((![v123, v950] : Fin 2 → IVec S16 32) a x).toNat < S8x4096.size a)
theorem k0_idx212_inb : ∀ (v123 : IVec S16 32) (v950 : IVec S16 32) (k0_hw212 : k0_chk212 v123 v950), ∀ a x, ((![v123, v950] : Fin 2 → IVec S16 32) a x).toNat < S8x4096.size a := fun v123 v950 k0_hw212 => k0_hw212

def k0_chk213 (v123 : IVec S16 32) (v954 : IVec S16 32) : Prop :=
  (∀ a x, ((![v123, v954] : Fin 2 → IVec S16 32) a x).toNat < S8x4096.size a)
theorem k0_idx213_inb : ∀ (v123 : IVec S16 32) (v954 : IVec S16 32) (k0_hw213 : k0_chk213 v123 v954), ∀ a x, ((![v123, v954] : Fin 2 → IVec S16 32) a x).toNat < S8x4096.size a := fun v123 v954 k0_hw213 => k0_hw213

def k0_chk214 (v123 : IVec S16 32) (v958 : IVec S16 32) : Prop :=
  (∀ a x, ((![v123, v958] : Fin 2 → IVec S16 32) a x).toNat < S8x4096.size a)
theorem k0_idx214_inb : ∀ (v123 : IVec S16 32) (v958 : IVec S16 32) (k0_hw214 : k0_chk214 v123 v958), ∀ a x, ((![v123, v958] : Fin 2 → IVec S16 32) a x).toNat < S8x4096.size a := fun v123 v958 k0_hw214 => k0_hw214

def k0_chk215 (v123 : IVec S16 32) (v962 : IVec S16 32) : Prop :=
  (∀ a x, ((![v123, v962] : Fin 2 → IVec S16 32) a x).toNat < S8x4096.size a)
theorem k0_idx215_inb : ∀ (v123 : IVec S16 32) (v962 : IVec S16 32) (k0_hw215 : k0_chk215 v123 v962), ∀ a x, ((![v123, v962] : Fin 2 → IVec S16 32) a x).toNat < S8x4096.size a := fun v123 v962 k0_hw215 => k0_hw215

def k0_chk216 (v123 : IVec S16 32) (v966 : IVec S16 32) : Prop :=
  (∀ a x, ((![v123, v966] : Fin 2 → IVec S16 32) a x).toNat < S8x4096.size a)
theorem k0_idx216_inb : ∀ (v123 : IVec S16 32) (v966 : IVec S16 32) (k0_hw216 : k0_chk216 v123 v966), ∀ a x, ((![v123, v966] : Fin 2 → IVec S16 32) a x).toNat < S8x4096.size a := fun v123 v966 k0_hw216 => k0_hw216

def k0_chk217 (v123 : IVec S16 32) (v970 : IVec S16 32) : Prop :=
  (∀ a x, ((![v123, v970] : Fin 2 → IVec S16 32) a x).toNat < S8x4096.size a)
theorem k0_idx217_inb : ∀ (v123 : IVec S16 32) (v970 : IVec S16 32) (k0_hw217 : k0_chk217 v123 v970), ∀ a x, ((![v123, v970] : Fin 2 → IVec S16 32) a x).toNat < S8x4096.size a := fun v123 v970 k0_hw217 => k0_hw217

def k0_chk218 (v123 : IVec S16 32) (v974 : IVec S16 32) : Prop :=
  (∀ a x, ((![v123, v974] : Fin 2 → IVec S16 32) a x).toNat < S8x4096.size a)
theorem k0_idx218_inb : ∀ (v123 : IVec S16 32) (v974 : IVec S16 32) (k0_hw218 : k0_chk218 v123 v974), ∀ a x, ((![v123, v974] : Fin 2 → IVec S16 32) a x).toNat < S8x4096.size a := fun v123 v974 k0_hw218 => k0_hw218

def k0_chk219 (v123 : IVec S16 32) (v978 : IVec S16 32) : Prop :=
  (∀ a x, ((![v123, v978] : Fin 2 → IVec S16 32) a x).toNat < S8x4096.size a)
theorem k0_idx219_inb : ∀ (v123 : IVec S16 32) (v978 : IVec S16 32) (k0_hw219 : k0_chk219 v123 v978), ∀ a x, ((![v123, v978] : Fin 2 → IVec S16 32) a x).toNat < S8x4096.size a := fun v123 v978 k0_hw219 => k0_hw219

def k0_chk220 (v123 : IVec S16 32) (v982 : IVec S16 32) : Prop :=
  (∀ a x, ((![v123, v982] : Fin 2 → IVec S16 32) a x).toNat < S8x4096.size a)
theorem k0_idx220_inb : ∀ (v123 : IVec S16 32) (v982 : IVec S16 32) (k0_hw220 : k0_chk220 v123 v982), ∀ a x, ((![v123, v982] : Fin 2 → IVec S16 32) a x).toNat < S8x4096.size a := fun v123 v982 k0_hw220 => k0_hw220

def k0_chk221 (v123 : IVec S16 32) (v986 : IVec S16 32) : Prop :=
  (∀ a x, ((![v123, v986] : Fin 2 → IVec S16 32) a x).toNat < S8x4096.size a)
theorem k0_idx221_inb : ∀ (v123 : IVec S16 32) (v986 : IVec S16 32) (k0_hw221 : k0_chk221 v123 v986), ∀ a x, ((![v123, v986] : Fin 2 → IVec S16 32) a x).toNat < S8x4096.size a := fun v123 v986 k0_hw221 => k0_hw221

def k0_chk222 (v123 : IVec S16 32) (v990 : IVec S16 32) : Prop :=
  (∀ a x, ((![v123, v990] : Fin 2 → IVec S16 32) a x).toNat < S8x4096.size a)
theorem k0_idx222_inb : ∀ (v123 : IVec S16 32) (v990 : IVec S16 32) (k0_hw222 : k0_chk222 v123 v990), ∀ a x, ((![v123, v990] : Fin 2 → IVec S16 32) a x).toNat < S8x4096.size a := fun v123 v990 k0_hw222 => k0_hw222

def k0_chk223 (v123 : IVec S16 32) (v994 : IVec S16 32) : Prop :=
  (∀ a x, ((![v123, v994] : Fin 2 → IVec S16 32) a x).toNat < S8x4096.size a)
theorem k0_idx223_inb : ∀ (v123 : IVec S16 32) (v994 : IVec S16 32) (k0_hw223 : k0_chk223 v123 v994), ∀ a x, ((![v123, v994] : Fin 2 → IVec S16 32) a x).toNat < S8x4096.size a := fun v123 v994 k0_hw223 => k0_hw223

def k0_chk224 (v123 : IVec S16 32) (v998 : IVec S16 32) : Prop :=
  (∀ a x, ((![v123, v998] : Fin 2 → IVec S16 32) a x).toNat < S8x4096.size a)
theorem k0_idx224_inb : ∀ (v123 : IVec S16 32) (v998 : IVec S16 32) (k0_hw224 : k0_chk224 v123 v998), ∀ a x, ((![v123, v998] : Fin 2 → IVec S16 32) a x).toNat < S8x4096.size a := fun v123 v998 k0_hw224 => k0_hw224

def k0_chk225 (v123 : IVec S16 32) (v1002 : IVec S16 32) : Prop :=
  (∀ a x, ((![v123, v1002] : Fin 2 → IVec S16 32) a x).toNat < S8x4096.size a)
theorem k0_idx225_inb : ∀ (v123 : IVec S16 32) (v1002 : IVec S16 32) (k0_hw225 : k0_chk225 v123 v1002), ∀ a x, ((![v123, v1002] : Fin 2 → IVec S16 32) a x).toNat < S8x4096.size a := fun v123 v1002 k0_hw225 => k0_hw225

def k0_chk226 (v123 : IVec S16 32) (v1006 : IVec S16 32) : Prop :=
  (∀ a x, ((![v123, v1006] : Fin 2 → IVec S16 32) a x).toNat < S8x4096.size a)
theorem k0_idx226_inb : ∀ (v123 : IVec S16 32) (v1006 : IVec S16 32) (k0_hw226 : k0_chk226 v123 v1006), ∀ a x, ((![v123, v1006] : Fin 2 → IVec S16 32) a x).toNat < S8x4096.size a := fun v123 v1006 k0_hw226 => k0_hw226

def k0_chk227 (v123 : IVec S16 32) (v1010 : IVec S16 32) : Prop :=
  (∀ a x, ((![v123, v1010] : Fin 2 → IVec S16 32) a x).toNat < S8x4096.size a)
theorem k0_idx227_inb : ∀ (v123 : IVec S16 32) (v1010 : IVec S16 32) (k0_hw227 : k0_chk227 v123 v1010), ∀ a x, ((![v123, v1010] : Fin 2 → IVec S16 32) a x).toNat < S8x4096.size a := fun v123 v1010 k0_hw227 => k0_hw227

def k0_chk228 (v123 : IVec S16 32) (v1014 : IVec S16 32) : Prop :=
  (∀ a x, ((![v123, v1014] : Fin 2 → IVec S16 32) a x).toNat < S8x4096.size a)
theorem k0_idx228_inb : ∀ (v123 : IVec S16 32) (v1014 : IVec S16 32) (k0_hw228 : k0_chk228 v123 v1014), ∀ a x, ((![v123, v1014] : Fin 2 → IVec S16 32) a x).toNat < S8x4096.size a := fun v123 v1014 k0_hw228 => k0_hw228

def k0_chk229 (v123 : IVec S16 32) (v1018 : IVec S16 32) : Prop :=
  (∀ a x, ((![v123, v1018] : Fin 2 → IVec S16 32) a x).toNat < S8x4096.size a)
theorem k0_idx229_inb : ∀ (v123 : IVec S16 32) (v1018 : IVec S16 32) (k0_hw229 : k0_chk229 v123 v1018), ∀ a x, ((![v123, v1018] : Fin 2 → IVec S16 32) a x).toNat < S8x4096.size a := fun v123 v1018 k0_hw229 => k0_hw229

def k0_chk230 (v123 : IVec S16 32) (v1022 : IVec S16 32) : Prop :=
  (∀ a x, ((![v123, v1022] : Fin 2 → IVec S16 32) a x).toNat < S8x4096.size a)
theorem k0_idx230_inb : ∀ (v123 : IVec S16 32) (v1022 : IVec S16 32) (k0_hw230 : k0_chk230 v123 v1022), ∀ a x, ((![v123, v1022] : Fin 2 → IVec S16 32) a x).toNat < S8x4096.size a := fun v123 v1022 k0_hw230 => k0_hw230

def k0_chk231 (v123 : IVec S16 32) (v1026 : IVec S16 32) : Prop :=
  (∀ a x, ((![v123, v1026] : Fin 2 → IVec S16 32) a x).toNat < S8x128.size a)
theorem k0_idx231_inb : ∀ (v123 : IVec S16 32) (v1026 : IVec S16 32) (k0_hw231 : k0_chk231 v123 v1026), ∀ a x, ((![v123, v1026] : Fin 2 → IVec S16 32) a x).toNat < S8x128.size a := fun v123 v1026 k0_hw231 => k0_hw231

def k0_chk232 (v123 : IVec S16 32) (v1028 : IVec S16 32) : Prop :=
  (∀ a x, ((![v123, v1028] : Fin 2 → IVec S16 32) a x).toNat < S8x4096.size a)
theorem k0_idx232_inb : ∀ (v123 : IVec S16 32) (v1028 : IVec S16 32) (k0_hw232 : k0_chk232 v123 v1028), ∀ a x, ((![v123, v1028] : Fin 2 → IVec S16 32) a x).toNat < S8x4096.size a := fun v123 v1028 k0_hw232 => k0_hw232

def k0_chk233 (v123 : IVec S16 32) (v1031 : IVec S16 32) : Prop :=
  (∀ a x, ((![v123, v1031] : Fin 2 → IVec S16 32) a x).toNat < S8x4096.size a)
theorem k0_idx233_inb : ∀ (v123 : IVec S16 32) (v1031 : IVec S16 32) (k0_hw233 : k0_chk233 v123 v1031), ∀ a x, ((![v123, v1031] : Fin 2 → IVec S16 32) a x).toNat < S8x4096.size a := fun v123 v1031 k0_hw233 => k0_hw233

def k0_chk234 (v123 : IVec S16 32) (v1035 : IVec S16 32) : Prop :=
  (∀ a x, ((![v123, v1035] : Fin 2 → IVec S16 32) a x).toNat < S8x4096.size a)
theorem k0_idx234_inb : ∀ (v123 : IVec S16 32) (v1035 : IVec S16 32) (k0_hw234 : k0_chk234 v123 v1035), ∀ a x, ((![v123, v1035] : Fin 2 → IVec S16 32) a x).toNat < S8x4096.size a := fun v123 v1035 k0_hw234 => k0_hw234

def k0_chk235 (v123 : IVec S16 32) (v1039 : IVec S16 32) : Prop :=
  (∀ a x, ((![v123, v1039] : Fin 2 → IVec S16 32) a x).toNat < S8x4096.size a)
theorem k0_idx235_inb : ∀ (v123 : IVec S16 32) (v1039 : IVec S16 32) (k0_hw235 : k0_chk235 v123 v1039), ∀ a x, ((![v123, v1039] : Fin 2 → IVec S16 32) a x).toNat < S8x4096.size a := fun v123 v1039 k0_hw235 => k0_hw235

def k0_chk236 (v123 : IVec S16 32) (v1043 : IVec S16 32) : Prop :=
  (∀ a x, ((![v123, v1043] : Fin 2 → IVec S16 32) a x).toNat < S8x4096.size a)
theorem k0_idx236_inb : ∀ (v123 : IVec S16 32) (v1043 : IVec S16 32) (k0_hw236 : k0_chk236 v123 v1043), ∀ a x, ((![v123, v1043] : Fin 2 → IVec S16 32) a x).toNat < S8x4096.size a := fun v123 v1043 k0_hw236 => k0_hw236

def k0_chk237 (v123 : IVec S16 32) (v1047 : IVec S16 32) : Prop :=
  (∀ a x, ((![v123, v1047] : Fin 2 → IVec S16 32) a x).toNat < S8x4096.size a)
theorem k0_idx237_inb : ∀ (v123 : IVec S16 32) (v1047 : IVec S16 32) (k0_hw237 : k0_chk237 v123 v1047), ∀ a x, ((![v123, v1047] : Fin 2 → IVec S16 32) a x).toNat < S8x4096.size a := fun v123 v1047 k0_hw237 => k0_hw237

def k0_chk238 (v123 : IVec S16 32) (v1051 : IVec S16 32) : Prop :=
  (∀ a x, ((![v123, v1051] : Fin 2 → IVec S16 32) a x).toNat < S8x4096.size a)
theorem k0_idx238_inb : ∀ (v123 : IVec S16 32) (v1051 : IVec S16 32) (k0_hw238 : k0_chk238 v123 v1051), ∀ a x, ((![v123, v1051] : Fin 2 → IVec S16 32) a x).toNat < S8x4096.size a := fun v123 v1051 k0_hw238 => k0_hw238

def k0_chk239 (v123 : IVec S16 32) (v1055 : IVec S16 32) : Prop :=
  (∀ a x, ((![v123, v1055] : Fin 2 → IVec S16 32) a x).toNat < S8x4096.size a)
theorem k0_idx239_inb : ∀ (v123 : IVec S16 32) (v1055 : IVec S16 32) (k0_hw239 : k0_chk239 v123 v1055), ∀ a x, ((![v123, v1055] : Fin 2 → IVec S16 32) a x).toNat < S8x4096.size a := fun v123 v1055 k0_hw239 => k0_hw239

def k0_chk240 (v123 : IVec S16 32) (v1059 : IVec S16 32) : Prop :=
  (∀ a x, ((![v123, v1059] : Fin 2 → IVec S16 32) a x).toNat < S8x4096.size a)
theorem k0_idx240_inb : ∀ (v123 : IVec S16 32) (v1059 : IVec S16 32) (k0_hw240 : k0_chk240 v123 v1059), ∀ a x, ((![v123, v1059] : Fin 2 → IVec S16 32) a x).toNat < S8x4096.size a := fun v123 v1059 k0_hw240 => k0_hw240

def k0_chk241 (v123 : IVec S16 32) (v1063 : IVec S16 32) : Prop :=
  (∀ a x, ((![v123, v1063] : Fin 2 → IVec S16 32) a x).toNat < S8x4096.size a)
theorem k0_idx241_inb : ∀ (v123 : IVec S16 32) (v1063 : IVec S16 32) (k0_hw241 : k0_chk241 v123 v1063), ∀ a x, ((![v123, v1063] : Fin 2 → IVec S16 32) a x).toNat < S8x4096.size a := fun v123 v1063 k0_hw241 => k0_hw241

def k0_chk242 (v123 : IVec S16 32) (v1067 : IVec S16 32) : Prop :=
  (∀ a x, ((![v123, v1067] : Fin 2 → IVec S16 32) a x).toNat < S8x4096.size a)
theorem k0_idx242_inb : ∀ (v123 : IVec S16 32) (v1067 : IVec S16 32) (k0_hw242 : k0_chk242 v123 v1067), ∀ a x, ((![v123, v1067] : Fin 2 → IVec S16 32) a x).toNat < S8x4096.size a := fun v123 v1067 k0_hw242 => k0_hw242

def k0_chk243 (v123 : IVec S16 32) (v1071 : IVec S16 32) : Prop :=
  (∀ a x, ((![v123, v1071] : Fin 2 → IVec S16 32) a x).toNat < S8x4096.size a)
theorem k0_idx243_inb : ∀ (v123 : IVec S16 32) (v1071 : IVec S16 32) (k0_hw243 : k0_chk243 v123 v1071), ∀ a x, ((![v123, v1071] : Fin 2 → IVec S16 32) a x).toNat < S8x4096.size a := fun v123 v1071 k0_hw243 => k0_hw243

def k0_chk244 (v123 : IVec S16 32) (v1075 : IVec S16 32) : Prop :=
  (∀ a x, ((![v123, v1075] : Fin 2 → IVec S16 32) a x).toNat < S8x4096.size a)
theorem k0_idx244_inb : ∀ (v123 : IVec S16 32) (v1075 : IVec S16 32) (k0_hw244 : k0_chk244 v123 v1075), ∀ a x, ((![v123, v1075] : Fin 2 → IVec S16 32) a x).toNat < S8x4096.size a := fun v123 v1075 k0_hw244 => k0_hw244

def k0_chk245 (v123 : IVec S16 32) (v1079 : IVec S16 32) : Prop :=
  (∀ a x, ((![v123, v1079] : Fin 2 → IVec S16 32) a x).toNat < S8x4096.size a)
theorem k0_idx245_inb : ∀ (v123 : IVec S16 32) (v1079 : IVec S16 32) (k0_hw245 : k0_chk245 v123 v1079), ∀ a x, ((![v123, v1079] : Fin 2 → IVec S16 32) a x).toNat < S8x4096.size a := fun v123 v1079 k0_hw245 => k0_hw245

def k0_chk246 (v123 : IVec S16 32) (v1083 : IVec S16 32) : Prop :=
  (∀ a x, ((![v123, v1083] : Fin 2 → IVec S16 32) a x).toNat < S8x4096.size a)
theorem k0_idx246_inb : ∀ (v123 : IVec S16 32) (v1083 : IVec S16 32) (k0_hw246 : k0_chk246 v123 v1083), ∀ a x, ((![v123, v1083] : Fin 2 → IVec S16 32) a x).toNat < S8x4096.size a := fun v123 v1083 k0_hw246 => k0_hw246

def k0_chk247 (v123 : IVec S16 32) (v1087 : IVec S16 32) : Prop :=
  (∀ a x, ((![v123, v1087] : Fin 2 → IVec S16 32) a x).toNat < S8x4096.size a)
theorem k0_idx247_inb : ∀ (v123 : IVec S16 32) (v1087 : IVec S16 32) (k0_hw247 : k0_chk247 v123 v1087), ∀ a x, ((![v123, v1087] : Fin 2 → IVec S16 32) a x).toNat < S8x4096.size a := fun v123 v1087 k0_hw247 => k0_hw247

def k0_chk248 (v123 : IVec S16 32) (v1091 : IVec S16 32) : Prop :=
  (∀ a x, ((![v123, v1091] : Fin 2 → IVec S16 32) a x).toNat < S8x4096.size a)
theorem k0_idx248_inb : ∀ (v123 : IVec S16 32) (v1091 : IVec S16 32) (k0_hw248 : k0_chk248 v123 v1091), ∀ a x, ((![v123, v1091] : Fin 2 → IVec S16 32) a x).toNat < S8x4096.size a := fun v123 v1091 k0_hw248 => k0_hw248

def k0_chk249 (v123 : IVec S16 32) (v1095 : IVec S16 32) : Prop :=
  (∀ a x, ((![v123, v1095] : Fin 2 → IVec S16 32) a x).toNat < S8x4096.size a)
theorem k0_idx249_inb : ∀ (v123 : IVec S16 32) (v1095 : IVec S16 32) (k0_hw249 : k0_chk249 v123 v1095), ∀ a x, ((![v123, v1095] : Fin 2 → IVec S16 32) a x).toNat < S8x4096.size a := fun v123 v1095 k0_hw249 => k0_hw249

def k0_chk250 (v123 : IVec S16 32) (v1099 : IVec S16 32) : Prop :=
  (∀ a x, ((![v123, v1099] : Fin 2 → IVec S16 32) a x).toNat < S8x4096.size a)
theorem k0_idx250_inb : ∀ (v123 : IVec S16 32) (v1099 : IVec S16 32) (k0_hw250 : k0_chk250 v123 v1099), ∀ a x, ((![v123, v1099] : Fin 2 → IVec S16 32) a x).toNat < S8x4096.size a := fun v123 v1099 k0_hw250 => k0_hw250

def k0_chk251 (v123 : IVec S16 32) (v1103 : IVec S16 32) : Prop :=
  (∀ a x, ((![v123, v1103] : Fin 2 → IVec S16 32) a x).toNat < S8x4096.size a)
theorem k0_idx251_inb : ∀ (v123 : IVec S16 32) (v1103 : IVec S16 32) (k0_hw251 : k0_chk251 v123 v1103), ∀ a x, ((![v123, v1103] : Fin 2 → IVec S16 32) a x).toNat < S8x4096.size a := fun v123 v1103 k0_hw251 => k0_hw251

def k0_chk252 (v123 : IVec S16 32) (v1107 : IVec S16 32) : Prop :=
  (∀ a x, ((![v123, v1107] : Fin 2 → IVec S16 32) a x).toNat < S8x4096.size a)
theorem k0_idx252_inb : ∀ (v123 : IVec S16 32) (v1107 : IVec S16 32) (k0_hw252 : k0_chk252 v123 v1107), ∀ a x, ((![v123, v1107] : Fin 2 → IVec S16 32) a x).toNat < S8x4096.size a := fun v123 v1107 k0_hw252 => k0_hw252

def k0_chk253 (v123 : IVec S16 32) (v1111 : IVec S16 32) : Prop :=
  (∀ a x, ((![v123, v1111] : Fin 2 → IVec S16 32) a x).toNat < S8x4096.size a)
theorem k0_idx253_inb : ∀ (v123 : IVec S16 32) (v1111 : IVec S16 32) (k0_hw253 : k0_chk253 v123 v1111), ∀ a x, ((![v123, v1111] : Fin 2 → IVec S16 32) a x).toNat < S8x4096.size a := fun v123 v1111 k0_hw253 => k0_hw253

def k0_chk254 (v123 : IVec S16 32) (v1115 : IVec S16 32) : Prop :=
  (∀ a x, ((![v123, v1115] : Fin 2 → IVec S16 32) a x).toNat < S8x4096.size a)
theorem k0_idx254_inb : ∀ (v123 : IVec S16 32) (v1115 : IVec S16 32) (k0_hw254 : k0_chk254 v123 v1115), ∀ a x, ((![v123, v1115] : Fin 2 → IVec S16 32) a x).toNat < S8x4096.size a := fun v123 v1115 k0_hw254 => k0_hw254

def k0_chk255 (v123 : IVec S16 32) (v1119 : IVec S16 32) : Prop :=
  (∀ a x, ((![v123, v1119] : Fin 2 → IVec S16 32) a x).toNat < S8x4096.size a)
theorem k0_idx255_inb : ∀ (v123 : IVec S16 32) (v1119 : IVec S16 32) (k0_hw255 : k0_chk255 v123 v1119), ∀ a x, ((![v123, v1119] : Fin 2 → IVec S16 32) a x).toNat < S8x4096.size a := fun v123 v1119 k0_hw255 => k0_hw255

def k0_chk256 (v123 : IVec S16 32) (v1123 : IVec S16 32) : Prop :=
  (∀ a x, ((![v123, v1123] : Fin 2 → IVec S16 32) a x).toNat < S8x4096.size a)
theorem k0_idx256_inb : ∀ (v123 : IVec S16 32) (v1123 : IVec S16 32) (k0_hw256 : k0_chk256 v123 v1123), ∀ a x, ((![v123, v1123] : Fin 2 → IVec S16 32) a x).toNat < S8x4096.size a := fun v123 v1123 k0_hw256 => k0_hw256

def k0_chk257 (v123 : IVec S16 32) (v1127 : IVec S16 32) : Prop :=
  (∀ a x, ((![v123, v1127] : Fin 2 → IVec S16 32) a x).toNat < S8x4096.size a)
theorem k0_idx257_inb : ∀ (v123 : IVec S16 32) (v1127 : IVec S16 32) (k0_hw257 : k0_chk257 v123 v1127), ∀ a x, ((![v123, v1127] : Fin 2 → IVec S16 32) a x).toNat < S8x4096.size a := fun v123 v1127 k0_hw257 => k0_hw257

def k0_chk258 (v123 : IVec S16 32) (v1131 : IVec S16 32) : Prop :=
  (∀ a x, ((![v123, v1131] : Fin 2 → IVec S16 32) a x).toNat < S8x4096.size a)
theorem k0_idx258_inb : ∀ (v123 : IVec S16 32) (v1131 : IVec S16 32) (k0_hw258 : k0_chk258 v123 v1131), ∀ a x, ((![v123, v1131] : Fin 2 → IVec S16 32) a x).toNat < S8x4096.size a := fun v123 v1131 k0_hw258 => k0_hw258

def k0_chk259 (v123 : IVec S16 32) (v1135 : IVec S16 32) : Prop :=
  (∀ a x, ((![v123, v1135] : Fin 2 → IVec S16 32) a x).toNat < S8x4096.size a)
theorem k0_idx259_inb : ∀ (v123 : IVec S16 32) (v1135 : IVec S16 32) (k0_hw259 : k0_chk259 v123 v1135), ∀ a x, ((![v123, v1135] : Fin 2 → IVec S16 32) a x).toNat < S8x4096.size a := fun v123 v1135 k0_hw259 => k0_hw259

def k0_chk260 (v123 : IVec S16 32) (v1139 : IVec S16 32) : Prop :=
  (∀ a x, ((![v123, v1139] : Fin 2 → IVec S16 32) a x).toNat < S8x4096.size a)
theorem k0_idx260_inb : ∀ (v123 : IVec S16 32) (v1139 : IVec S16 32) (k0_hw260 : k0_chk260 v123 v1139), ∀ a x, ((![v123, v1139] : Fin 2 → IVec S16 32) a x).toNat < S8x4096.size a := fun v123 v1139 k0_hw260 => k0_hw260

def k0_chk261 (v123 : IVec S16 32) (v1143 : IVec S16 32) : Prop :=
  (∀ a x, ((![v123, v1143] : Fin 2 → IVec S16 32) a x).toNat < S8x4096.size a)
theorem k0_idx261_inb : ∀ (v123 : IVec S16 32) (v1143 : IVec S16 32) (k0_hw261 : k0_chk261 v123 v1143), ∀ a x, ((![v123, v1143] : Fin 2 → IVec S16 32) a x).toNat < S8x4096.size a := fun v123 v1143 k0_hw261 => k0_hw261

def k0_chk262 (v123 : IVec S16 32) (v1147 : IVec S16 32) : Prop :=
  (∀ a x, ((![v123, v1147] : Fin 2 → IVec S16 32) a x).toNat < S8x4096.size a)
theorem k0_idx262_inb : ∀ (v123 : IVec S16 32) (v1147 : IVec S16 32) (k0_hw262 : k0_chk262 v123 v1147), ∀ a x, ((![v123, v1147] : Fin 2 → IVec S16 32) a x).toNat < S8x4096.size a := fun v123 v1147 k0_hw262 => k0_hw262

def k0_chk263 (v123 : IVec S16 32) (v1151 : IVec S16 32) : Prop :=
  (∀ a x, ((![v123, v1151] : Fin 2 → IVec S16 32) a x).toNat < S8x4096.size a)
theorem k0_idx263_inb : ∀ (v123 : IVec S16 32) (v1151 : IVec S16 32) (k0_hw263 : k0_chk263 v123 v1151), ∀ a x, ((![v123, v1151] : Fin 2 → IVec S16 32) a x).toNat < S8x4096.size a := fun v123 v1151 k0_hw263 => k0_hw263

def k0_chk264 (v123 : IVec S16 32) (v1155 : IVec S16 32) : Prop :=
  (∀ a x, ((![v123, v1155] : Fin 2 → IVec S16 32) a x).toNat < S8x128.size a)
theorem k0_idx264_inb : ∀ (v123 : IVec S16 32) (v1155 : IVec S16 32) (k0_hw264 : k0_chk264 v123 v1155), ∀ a x, ((![v123, v1155] : Fin 2 → IVec S16 32) a x).toNat < S8x128.size a := fun v123 v1155 k0_hw264 => k0_hw264
def k0_off5 (i : grid0.Coords) (k0_t1 : Fin k0_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_0 : BitVec 32 := 32#32
  let v4 : BitVec 32 := Scalar.muli v1 c32_i32_0
  let c0_i32_7 : BitVec 32 := 0#32
  let c1_i32_9 : BitVec 32 := 1#32
  let arg12 : BitVec 32 := Scf.iv c0_i32_7 c1_i32_9 k0_t1
  let c2_i32_17 : BitVec 32 := 2#32
  let v84 : BitVec 32 := Scalar.muli arg12 c2_i32_17
  let v85 : BitVec 32 := Scalar.addi v84 c0_i32_18
  let c8_i32_33 : BitVec 32 := 8#32
  let v99 : BitVec 32 := Scalar.muli v85 c8_i32_33
  let v100 : BitVec 32 := Scalar.addi v4 v99
  let c0_i32_34 : BitVec 32 := 0#32
  ![v100.toNat, 0]
def k0_cond3 (k0_t1 : Fin k0_t1_loop.trips) : BitVec 1 :=
  let c0_i32_7 : BitVec 32 := 0#32
  let c1_i32_9 : BitVec 32 := 1#32
  let arg12 : BitVec 32 := Scf.iv c0_i32_7 c1_i32_9 k0_t1
  let c2_i32_36 : BitVec 32 := 2#32
  let v103 : BitVec 32 := Scalar.muli arg12 c2_i32_36
  let c1_i32_37 : BitVec 32 := 1#32
  let v104 : BitVec 32 := Scalar.addi v103 c1_i32_37
  let c2_i32_38 : BitVec 32 := 2#32
  let v105 : BitVec 32 := Scalar.addi v104 c2_i32_38
  let c1_i32_39 : BitVec 32 := 1#32
  let v106 : BitVec 32 := Scalar.subi v105 c1_i32_39
  let c4_i32_40 : BitVec 32 := 4#32
  let v107 : BitVec 1 := Scalar.cmpi .slt v106 c4_i32_40
  let v108 : BitVec 32 := Scalar.extui v107
  let c0_i32_41 : BitVec 32 := 0#32
  let v109 : BitVec 1 := Scalar.cmpi .ne v108 c0_i32_41
  v109

def k0_off6 (i : grid0.Coords) (k0_t1 : Fin k0_t1_loop.trips) : Fin 2 → Nat :=
  let c15360_i32 : BitVec 32 := 15360#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c15360_i32 v2
  let c0_i32_7 : BitVec 32 := 0#32
  let c1_i32_9 : BitVec 32 := 1#32
  let arg12 : BitVec 32 := Scf.iv c0_i32_7 c1_i32_9 k0_t1
  let c2_i32_36 : BitVec 32 := 2#32
  let v103 : BitVec 32 := Scalar.muli arg12 c2_i32_36
  let c1_i32_37 : BitVec 32 := 1#32
  let v104 : BitVec 32 := Scalar.addi v103 c1_i32_37
  let c2_i32_55 : BitVec 32 := 2#32
  let v122 : BitVec 32 := Scalar.addi v104 c2_i32_55
  let c1_i32_56 : BitVec 32 := 1#32
  let v123 : BitVec 32 := Scalar.subi v122 c1_i32_56
  let c8_i32_57 : BitVec 32 := 8#32
  let v124 : BitVec 32 := Scalar.muli v123 c8_i32_57
  let v125 : BitVec 32 := Scalar.addi v3 v124
  let c0_i32_58 : BitVec 32 := 0#32
  ![v125.toNat, 0]
def k0_cond4 (k0_t1 : Fin k0_t1_loop.trips) : BitVec 1 :=
  let c0_i32_7 : BitVec 32 := 0#32
  let c1_i32_9 : BitVec 32 := 1#32
  let arg12 : BitVec 32 := Scf.iv c0_i32_7 c1_i32_9 k0_t1
  let c2_i32_36 : BitVec 32 := 2#32
  let v103 : BitVec 32 := Scalar.muli arg12 c2_i32_36
  let c1_i32_37 : BitVec 32 := 1#32
  let v104 : BitVec 32 := Scalar.addi v103 c1_i32_37
  let c2_i32_45 : BitVec 32 := 2#32
  let v114 : BitVec 1 := Scalar.cmpi .sge v104 c2_i32_45
  let v115 : BitVec 32 := Scalar.extui v114
  let c0_i32_46 : BitVec 32 := 0#32
  let v116 : BitVec 1 := Scalar.cmpi .ne v115 c0_i32_46
  v116

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_0 : BitVec 32 := 32#32
  let v4 : BitVec 32 := Scalar.muli v1 c32_i32_0
  let c0_i32_7 : BitVec 32 := 0#32
  let c1_i32_9 : BitVec 32 := 1#32
  let arg12 : BitVec 32 := Scf.iv c0_i32_7 c1_i32_9 k0_t1
  let c2_i32_36 : BitVec 32 := 2#32
  let v103 : BitVec 32 := Scalar.muli arg12 c2_i32_36
  let c1_i32_37 : BitVec 32 := 1#32
  let v104 : BitVec 32 := Scalar.addi v103 c1_i32_37
  let c2_i32_55 : BitVec 32 := 2#32
  let v122 : BitVec 32 := Scalar.subi v104 c2_i32_55
  let c8_i32_56 : BitVec 32 := 8#32
  let v123 : BitVec 32 := Scalar.muli v122 c8_i32_56
  let v124 : BitVec 32 := Scalar.addi v4 v123
  let c0_i32_57 : BitVec 32 := 0#32
  ![v124.toNat, 0]
@[reducible] def k0_t3_loop : Scf.Loop 32 :=
  let c0_i32_48 : BitVec 32 := 0#32
  let c8_i32_49 : BitVec 32 := 8#32
  let v117 : BitVec 32 := Scalar.addi c0_i32_48 c8_i32_49
  let c1_i32_50 : BitVec 32 := 1#32
  ⟨c0_i32_48, v117, c1_i32_50⟩

def k0_chk265 (v123 : IVec S16 32) (v125 : IVec S16 32) : Prop :=
  (∀ a x, ((![v123, v125] : Fin 2 → IVec S16 32) a x).toNat < S8x4096.size a)
theorem k0_idx265_inb : ∀ (v123 : IVec S16 32) (v125 : IVec S16 32) (k0_hw265 : k0_chk265 v123 v125), ∀ a x, ((![v123, v125] : Fin 2 → IVec S16 32) a x).toNat < S8x4096.size a := fun v123 v125 k0_hw265 => k0_hw265

def k0_chk266 (v123 : IVec S16 32) (v128 : IVec S16 32) : Prop :=
  (∀ a x, ((![v123, v128] : Fin 2 → IVec S16 32) a x).toNat < S8x4096.size a)
theorem k0_idx266_inb : ∀ (v123 : IVec S16 32) (v128 : IVec S16 32) (k0_hw266 : k0_chk266 v123 v128), ∀ a x, ((![v123, v128] : Fin 2 → IVec S16 32) a x).toNat < S8x4096.size a := fun v123 v128 k0_hw266 => k0_hw266

def k0_chk267 (v123 : IVec S16 32) (v132 : IVec S16 32) : Prop :=
  (∀ a x, ((![v123, v132] : Fin 2 → IVec S16 32) a x).toNat < S8x4096.size a)
theorem k0_idx267_inb : ∀ (v123 : IVec S16 32) (v132 : IVec S16 32) (k0_hw267 : k0_chk267 v123 v132), ∀ a x, ((![v123, v132] : Fin 2 → IVec S16 32) a x).toNat < S8x4096.size a := fun v123 v132 k0_hw267 => k0_hw267

def k0_chk268 (v123 : IVec S16 32) (v136 : IVec S16 32) : Prop :=
  (∀ a x, ((![v123, v136] : Fin 2 → IVec S16 32) a x).toNat < S8x4096.size a)
theorem k0_idx268_inb : ∀ (v123 : IVec S16 32) (v136 : IVec S16 32) (k0_hw268 : k0_chk268 v123 v136), ∀ a x, ((![v123, v136] : Fin 2 → IVec S16 32) a x).toNat < S8x4096.size a := fun v123 v136 k0_hw268 => k0_hw268

def k0_chk269 (v123 : IVec S16 32) (v140 : IVec S16 32) : Prop :=
  (∀ a x, ((![v123, v140] : Fin 2 → IVec S16 32) a x).toNat < S8x4096.size a)
theorem k0_idx269_inb : ∀ (v123 : IVec S16 32) (v140 : IVec S16 32) (k0_hw269 : k0_chk269 v123 v140), ∀ a x, ((![v123, v140] : Fin 2 → IVec S16 32) a x).toNat < S8x4096.size a := fun v123 v140 k0_hw269 => k0_hw269

def k0_chk270 (v123 : IVec S16 32) (v144 : IVec S16 32) : Prop :=
  (∀ a x, ((![v123, v144] : Fin 2 → IVec S16 32) a x).toNat < S8x4096.size a)
theorem k0_idx270_inb : ∀ (v123 : IVec S16 32) (v144 : IVec S16 32) (k0_hw270 : k0_chk270 v123 v144), ∀ a x, ((![v123, v144] : Fin 2 → IVec S16 32) a x).toNat < S8x4096.size a := fun v123 v144 k0_hw270 => k0_hw270

def k0_chk271 (v123 : IVec S16 32) (v148 : IVec S16 32) : Prop :=
  (∀ a x, ((![v123, v148] : Fin 2 → IVec S16 32) a x).toNat < S8x4096.size a)
theorem k0_idx271_inb : ∀ (v123 : IVec S16 32) (v148 : IVec S16 32) (k0_hw271 : k0_chk271 v123 v148), ∀ a x, ((![v123, v148] : Fin 2 → IVec S16 32) a x).toNat < S8x4096.size a := fun v123 v148 k0_hw271 => k0_hw271

def k0_chk272 (v123 : IVec S16 32) (v152 : IVec S16 32) : Prop :=
  (∀ a x, ((![v123, v152] : Fin 2 → IVec S16 32) a x).toNat < S8x4096.size a)
theorem k0_idx272_inb : ∀ (v123 : IVec S16 32) (v152 : IVec S16 32) (k0_hw272 : k0_chk272 v123 v152), ∀ a x, ((![v123, v152] : Fin 2 → IVec S16 32) a x).toNat < S8x4096.size a := fun v123 v152 k0_hw272 => k0_hw272

def k0_chk273 (v123 : IVec S16 32) (v156 : IVec S16 32) : Prop :=
  (∀ a x, ((![v123, v156] : Fin 2 → IVec S16 32) a x).toNat < S8x4096.size a)
theorem k0_idx273_inb : ∀ (v123 : IVec S16 32) (v156 : IVec S16 32) (k0_hw273 : k0_chk273 v123 v156), ∀ a x, ((![v123, v156] : Fin 2 → IVec S16 32) a x).toNat < S8x4096.size a := fun v123 v156 k0_hw273 => k0_hw273

def k0_chk274 (v123 : IVec S16 32) (v160 : IVec S16 32) : Prop :=
  (∀ a x, ((![v123, v160] : Fin 2 → IVec S16 32) a x).toNat < S8x4096.size a)
theorem k0_idx274_inb : ∀ (v123 : IVec S16 32) (v160 : IVec S16 32) (k0_hw274 : k0_chk274 v123 v160), ∀ a x, ((![v123, v160] : Fin 2 → IVec S16 32) a x).toNat < S8x4096.size a := fun v123 v160 k0_hw274 => k0_hw274

def k0_chk275 (v123 : IVec S16 32) (v164 : IVec S16 32) : Prop :=
  (∀ a x, ((![v123, v164] : Fin 2 → IVec S16 32) a x).toNat < S8x4096.size a)
theorem k0_idx275_inb : ∀ (v123 : IVec S16 32) (v164 : IVec S16 32) (k0_hw275 : k0_chk275 v123 v164), ∀ a x, ((![v123, v164] : Fin 2 → IVec S16 32) a x).toNat < S8x4096.size a := fun v123 v164 k0_hw275 => k0_hw275

def k0_chk276 (v123 : IVec S16 32) (v168 : IVec S16 32) : Prop :=
  (∀ a x, ((![v123, v168] : Fin 2 → IVec S16 32) a x).toNat < S8x4096.size a)
theorem k0_idx276_inb : ∀ (v123 : IVec S16 32) (v168 : IVec S16 32) (k0_hw276 : k0_chk276 v123 v168), ∀ a x, ((![v123, v168] : Fin 2 → IVec S16 32) a x).toNat < S8x4096.size a := fun v123 v168 k0_hw276 => k0_hw276

def k0_chk277 (v123 : IVec S16 32) (v172 : IVec S16 32) : Prop :=
  (∀ a x, ((![v123, v172] : Fin 2 → IVec S16 32) a x).toNat < S8x4096.size a)
theorem k0_idx277_inb : ∀ (v123 : IVec S16 32) (v172 : IVec S16 32) (k0_hw277 : k0_chk277 v123 v172), ∀ a x, ((![v123, v172] : Fin 2 → IVec S16 32) a x).toNat < S8x4096.size a := fun v123 v172 k0_hw277 => k0_hw277

def k0_chk278 (v123 : IVec S16 32) (v176 : IVec S16 32) : Prop :=
  (∀ a x, ((![v123, v176] : Fin 2 → IVec S16 32) a x).toNat < S8x4096.size a)
theorem k0_idx278_inb : ∀ (v123 : IVec S16 32) (v176 : IVec S16 32) (k0_hw278 : k0_chk278 v123 v176), ∀ a x, ((![v123, v176] : Fin 2 → IVec S16 32) a x).toNat < S8x4096.size a := fun v123 v176 k0_hw278 => k0_hw278

def k0_chk279 (v123 : IVec S16 32) (v180 : IVec S16 32) : Prop :=
  (∀ a x, ((![v123, v180] : Fin 2 → IVec S16 32) a x).toNat < S8x4096.size a)
theorem k0_idx279_inb : ∀ (v123 : IVec S16 32) (v180 : IVec S16 32) (k0_hw279 : k0_chk279 v123 v180), ∀ a x, ((![v123, v180] : Fin 2 → IVec S16 32) a x).toNat < S8x4096.size a := fun v123 v180 k0_hw279 => k0_hw279

def k0_chk280 (v123 : IVec S16 32) (v184 : IVec S16 32) : Prop :=
  (∀ a x, ((![v123, v184] : Fin 2 → IVec S16 32) a x).toNat < S8x4096.size a)
theorem k0_idx280_inb : ∀ (v123 : IVec S16 32) (v184 : IVec S16 32) (k0_hw280 : k0_chk280 v123 v184), ∀ a x, ((![v123, v184] : Fin 2 → IVec S16 32) a x).toNat < S8x4096.size a := fun v123 v184 k0_hw280 => k0_hw280

def k0_chk281 (v123 : IVec S16 32) (v188 : IVec S16 32) : Prop :=
  (∀ a x, ((![v123, v188] : Fin 2 → IVec S16 32) a x).toNat < S8x4096.size a)
theorem k0_idx281_inb : ∀ (v123 : IVec S16 32) (v188 : IVec S16 32) (k0_hw281 : k0_chk281 v123 v188), ∀ a x, ((![v123, v188] : Fin 2 → IVec S16 32) a x).toNat < S8x4096.size a := fun v123 v188 k0_hw281 => k0_hw281

def k0_chk282 (v123 : IVec S16 32) (v192 : IVec S16 32) : Prop :=
  (∀ a x, ((![v123, v192] : Fin 2 → IVec S16 32) a x).toNat < S8x4096.size a)
theorem k0_idx282_inb : ∀ (v123 : IVec S16 32) (v192 : IVec S16 32) (k0_hw282 : k0_chk282 v123 v192), ∀ a x, ((![v123, v192] : Fin 2 → IVec S16 32) a x).toNat < S8x4096.size a := fun v123 v192 k0_hw282 => k0_hw282

def k0_chk283 (v123 : IVec S16 32) (v196 : IVec S16 32) : Prop :=
  (∀ a x, ((![v123, v196] : Fin 2 → IVec S16 32) a x).toNat < S8x4096.size a)
theorem k0_idx283_inb : ∀ (v123 : IVec S16 32) (v196 : IVec S16 32) (k0_hw283 : k0_chk283 v123 v196), ∀ a x, ((![v123, v196] : Fin 2 → IVec S16 32) a x).toNat < S8x4096.size a := fun v123 v196 k0_hw283 => k0_hw283

def k0_chk284 (v123 : IVec S16 32) (v200 : IVec S16 32) : Prop :=
  (∀ a x, ((![v123, v200] : Fin 2 → IVec S16 32) a x).toNat < S8x4096.size a)
theorem k0_idx284_inb : ∀ (v123 : IVec S16 32) (v200 : IVec S16 32) (k0_hw284 : k0_chk284 v123 v200), ∀ a x, ((![v123, v200] : Fin 2 → IVec S16 32) a x).toNat < S8x4096.size a := fun v123 v200 k0_hw284 => k0_hw284

def k0_chk285 (v123 : IVec S16 32) (v204 : IVec S16 32) : Prop :=
  (∀ a x, ((![v123, v204] : Fin 2 → IVec S16 32) a x).toNat < S8x4096.size a)
theorem k0_idx285_inb : ∀ (v123 : IVec S16 32) (v204 : IVec S16 32) (k0_hw285 : k0_chk285 v123 v204), ∀ a x, ((![v123, v204] : Fin 2 → IVec S16 32) a x).toNat < S8x4096.size a := fun v123 v204 k0_hw285 => k0_hw285

def k0_chk286 (v123 : IVec S16 32) (v208 : IVec S16 32) : Prop :=
  (∀ a x, ((![v123, v208] : Fin 2 → IVec S16 32) a x).toNat < S8x4096.size a)
theorem k0_idx286_inb : ∀ (v123 : IVec S16 32) (v208 : IVec S16 32) (k0_hw286 : k0_chk286 v123 v208), ∀ a x, ((![v123, v208] : Fin 2 → IVec S16 32) a x).toNat < S8x4096.size a := fun v123 v208 k0_hw286 => k0_hw286

def k0_chk287 (v123 : IVec S16 32) (v212 : IVec S16 32) : Prop :=
  (∀ a x, ((![v123, v212] : Fin 2 → IVec S16 32) a x).toNat < S8x4096.size a)
theorem k0_idx287_inb : ∀ (v123 : IVec S16 32) (v212 : IVec S16 32) (k0_hw287 : k0_chk287 v123 v212), ∀ a x, ((![v123, v212] : Fin 2 → IVec S16 32) a x).toNat < S8x4096.size a := fun v123 v212 k0_hw287 => k0_hw287

def k0_chk288 (v123 : IVec S16 32) (v216 : IVec S16 32) : Prop :=
  (∀ a x, ((![v123, v216] : Fin 2 → IVec S16 32) a x).toNat < S8x4096.size a)
theorem k0_idx288_inb : ∀ (v123 : IVec S16 32) (v216 : IVec S16 32) (k0_hw288 : k0_chk288 v123 v216), ∀ a x, ((![v123, v216] : Fin 2 → IVec S16 32) a x).toNat < S8x4096.size a := fun v123 v216 k0_hw288 => k0_hw288

def k0_chk289 (v123 : IVec S16 32) (v220 : IVec S16 32) : Prop :=
  (∀ a x, ((![v123, v220] : Fin 2 → IVec S16 32) a x).toNat < S8x4096.size a)
theorem k0_idx289_inb : ∀ (v123 : IVec S16 32) (v220 : IVec S16 32) (k0_hw289 : k0_chk289 v123 v220), ∀ a x, ((![v123, v220] : Fin 2 → IVec S16 32) a x).toNat < S8x4096.size a := fun v123 v220 k0_hw289 => k0_hw289

def k0_chk290 (v123 : IVec S16 32) (v224 : IVec S16 32) : Prop :=
  (∀ a x, ((![v123, v224] : Fin 2 → IVec S16 32) a x).toNat < S8x4096.size a)
theorem k0_idx290_inb : ∀ (v123 : IVec S16 32) (v224 : IVec S16 32) (k0_hw290 : k0_chk290 v123 v224), ∀ a x, ((![v123, v224] : Fin 2 → IVec S16 32) a x).toNat < S8x4096.size a := fun v123 v224 k0_hw290 => k0_hw290

def k0_chk291 (v123 : IVec S16 32) (v228 : IVec S16 32) : Prop :=
  (∀ a x, ((![v123, v228] : Fin 2 → IVec S16 32) a x).toNat < S8x4096.size a)
theorem k0_idx291_inb : ∀ (v123 : IVec S16 32) (v228 : IVec S16 32) (k0_hw291 : k0_chk291 v123 v228), ∀ a x, ((![v123, v228] : Fin 2 → IVec S16 32) a x).toNat < S8x4096.size a := fun v123 v228 k0_hw291 => k0_hw291

def k0_chk292 (v123 : IVec S16 32) (v232 : IVec S16 32) : Prop :=
  (∀ a x, ((![v123, v232] : Fin 2 → IVec S16 32) a x).toNat < S8x4096.size a)
theorem k0_idx292_inb : ∀ (v123 : IVec S16 32) (v232 : IVec S16 32) (k0_hw292 : k0_chk292 v123 v232), ∀ a x, ((![v123, v232] : Fin 2 → IVec S16 32) a x).toNat < S8x4096.size a := fun v123 v232 k0_hw292 => k0_hw292

def k0_chk293 (v123 : IVec S16 32) (v236 : IVec S16 32) : Prop :=
  (∀ a x, ((![v123, v236] : Fin 2 → IVec S16 32) a x).toNat < S8x4096.size a)
theorem k0_idx293_inb : ∀ (v123 : IVec S16 32) (v236 : IVec S16 32) (k0_hw293 : k0_chk293 v123 v236), ∀ a x, ((![v123, v236] : Fin 2 → IVec S16 32) a x).toNat < S8x4096.size a := fun v123 v236 k0_hw293 => k0_hw293

def k0_chk294 (v123 : IVec S16 32) (v240 : IVec S16 32) : Prop :=
  (∀ a x, ((![v123, v240] : Fin 2 → IVec S16 32) a x).toNat < S8x4096.size a)
theorem k0_idx294_inb : ∀ (v123 : IVec S16 32) (v240 : IVec S16 32) (k0_hw294 : k0_chk294 v123 v240), ∀ a x, ((![v123, v240] : Fin 2 → IVec S16 32) a x).toNat < S8x4096.size a := fun v123 v240 k0_hw294 => k0_hw294

def k0_chk295 (v123 : IVec S16 32) (v244 : IVec S16 32) : Prop :=
  (∀ a x, ((![v123, v244] : Fin 2 → IVec S16 32) a x).toNat < S8x4096.size a)
theorem k0_idx295_inb : ∀ (v123 : IVec S16 32) (v244 : IVec S16 32) (k0_hw295 : k0_chk295 v123 v244), ∀ a x, ((![v123, v244] : Fin 2 → IVec S16 32) a x).toNat < S8x4096.size a := fun v123 v244 k0_hw295 => k0_hw295

def k0_chk296 (v123 : IVec S16 32) (v248 : IVec S16 32) : Prop :=
  (∀ a x, ((![v123, v248] : Fin 2 → IVec S16 32) a x).toNat < S8x4096.size a)
theorem k0_idx296_inb : ∀ (v123 : IVec S16 32) (v248 : IVec S16 32) (k0_hw296 : k0_chk296 v123 v248), ∀ a x, ((![v123, v248] : Fin 2 → IVec S16 32) a x).toNat < S8x4096.size a := fun v123 v248 k0_hw296 => k0_hw296

def k0_chk297 (v123 : IVec S16 32) (v252 : IVec S16 32) : Prop :=
  (∀ a x, ((![v123, v252] : Fin 2 → IVec S16 32) a x).toNat < S8x128.size a)
theorem k0_idx297_inb : ∀ (v123 : IVec S16 32) (v252 : IVec S16 32) (k0_hw297 : k0_chk297 v123 v252), ∀ a x, ((![v123, v252] : Fin 2 → IVec S16 32) a x).toNat < S8x128.size a := fun v123 v252 k0_hw297 => k0_hw297

def k0_chk298 (v123 : IVec S16 32) (v254 : IVec S16 32) : Prop :=
  (∀ a x, ((![v123, v254] : Fin 2 → IVec S16 32) a x).toNat < S8x4096.size a)
theorem k0_idx298_inb : ∀ (v123 : IVec S16 32) (v254 : IVec S16 32) (k0_hw298 : k0_chk298 v123 v254), ∀ a x, ((![v123, v254] : Fin 2 → IVec S16 32) a x).toNat < S8x4096.size a := fun v123 v254 k0_hw298 => k0_hw298

def k0_chk299 (v123 : IVec S16 32) (v257 : IVec S16 32) : Prop :=
  (∀ a x, ((![v123, v257] : Fin 2 → IVec S16 32) a x).toNat < S8x4096.size a)
theorem k0_idx299_inb : ∀ (v123 : IVec S16 32) (v257 : IVec S16 32) (k0_hw299 : k0_chk299 v123 v257), ∀ a x, ((![v123, v257] : Fin 2 → IVec S16 32) a x).toNat < S8x4096.size a := fun v123 v257 k0_hw299 => k0_hw299

def k0_chk300 (v123 : IVec S16 32) (v261 : IVec S16 32) : Prop :=
  (∀ a x, ((![v123, v261] : Fin 2 → IVec S16 32) a x).toNat < S8x4096.size a)
theorem k0_idx300_inb : ∀ (v123 : IVec S16 32) (v261 : IVec S16 32) (k0_hw300 : k0_chk300 v123 v261), ∀ a x, ((![v123, v261] : Fin 2 → IVec S16 32) a x).toNat < S8x4096.size a := fun v123 v261 k0_hw300 => k0_hw300

def k0_chk301 (v123 : IVec S16 32) (v265 : IVec S16 32) : Prop :=
  (∀ a x, ((![v123, v265] : Fin 2 → IVec S16 32) a x).toNat < S8x4096.size a)
theorem k0_idx301_inb : ∀ (v123 : IVec S16 32) (v265 : IVec S16 32) (k0_hw301 : k0_chk301 v123 v265), ∀ a x, ((![v123, v265] : Fin 2 → IVec S16 32) a x).toNat < S8x4096.size a := fun v123 v265 k0_hw301 => k0_hw301

def k0_chk302 (v123 : IVec S16 32) (v269 : IVec S16 32) : Prop :=
  (∀ a x, ((![v123, v269] : Fin 2 → IVec S16 32) a x).toNat < S8x4096.size a)
theorem k0_idx302_inb : ∀ (v123 : IVec S16 32) (v269 : IVec S16 32) (k0_hw302 : k0_chk302 v123 v269), ∀ a x, ((![v123, v269] : Fin 2 → IVec S16 32) a x).toNat < S8x4096.size a := fun v123 v269 k0_hw302 => k0_hw302

def k0_chk303 (v123 : IVec S16 32) (v273 : IVec S16 32) : Prop :=
  (∀ a x, ((![v123, v273] : Fin 2 → IVec S16 32) a x).toNat < S8x4096.size a)
theorem k0_idx303_inb : ∀ (v123 : IVec S16 32) (v273 : IVec S16 32) (k0_hw303 : k0_chk303 v123 v273), ∀ a x, ((![v123, v273] : Fin 2 → IVec S16 32) a x).toNat < S8x4096.size a := fun v123 v273 k0_hw303 => k0_hw303

def k0_chk304 (v123 : IVec S16 32) (v277 : IVec S16 32) : Prop :=
  (∀ a x, ((![v123, v277] : Fin 2 → IVec S16 32) a x).toNat < S8x4096.size a)
theorem k0_idx304_inb : ∀ (v123 : IVec S16 32) (v277 : IVec S16 32) (k0_hw304 : k0_chk304 v123 v277), ∀ a x, ((![v123, v277] : Fin 2 → IVec S16 32) a x).toNat < S8x4096.size a := fun v123 v277 k0_hw304 => k0_hw304

def k0_chk305 (v123 : IVec S16 32) (v281 : IVec S16 32) : Prop :=
  (∀ a x, ((![v123, v281] : Fin 2 → IVec S16 32) a x).toNat < S8x4096.size a)
theorem k0_idx305_inb : ∀ (v123 : IVec S16 32) (v281 : IVec S16 32) (k0_hw305 : k0_chk305 v123 v281), ∀ a x, ((![v123, v281] : Fin 2 → IVec S16 32) a x).toNat < S8x4096.size a := fun v123 v281 k0_hw305 => k0_hw305

def k0_chk306 (v123 : IVec S16 32) (v285 : IVec S16 32) : Prop :=
  (∀ a x, ((![v123, v285] : Fin 2 → IVec S16 32) a x).toNat < S8x4096.size a)
theorem k0_idx306_inb : ∀ (v123 : IVec S16 32) (v285 : IVec S16 32) (k0_hw306 : k0_chk306 v123 v285), ∀ a x, ((![v123, v285] : Fin 2 → IVec S16 32) a x).toNat < S8x4096.size a := fun v123 v285 k0_hw306 => k0_hw306

def k0_chk307 (v123 : IVec S16 32) (v289 : IVec S16 32) : Prop :=
  (∀ a x, ((![v123, v289] : Fin 2 → IVec S16 32) a x).toNat < S8x4096.size a)
theorem k0_idx307_inb : ∀ (v123 : IVec S16 32) (v289 : IVec S16 32) (k0_hw307 : k0_chk307 v123 v289), ∀ a x, ((![v123, v289] : Fin 2 → IVec S16 32) a x).toNat < S8x4096.size a := fun v123 v289 k0_hw307 => k0_hw307

def k0_chk308 (v123 : IVec S16 32) (v293 : IVec S16 32) : Prop :=
  (∀ a x, ((![v123, v293] : Fin 2 → IVec S16 32) a x).toNat < S8x4096.size a)
theorem k0_idx308_inb : ∀ (v123 : IVec S16 32) (v293 : IVec S16 32) (k0_hw308 : k0_chk308 v123 v293), ∀ a x, ((![v123, v293] : Fin 2 → IVec S16 32) a x).toNat < S8x4096.size a := fun v123 v293 k0_hw308 => k0_hw308

def k0_chk309 (v123 : IVec S16 32) (v297 : IVec S16 32) : Prop :=
  (∀ a x, ((![v123, v297] : Fin 2 → IVec S16 32) a x).toNat < S8x4096.size a)
theorem k0_idx309_inb : ∀ (v123 : IVec S16 32) (v297 : IVec S16 32) (k0_hw309 : k0_chk309 v123 v297), ∀ a x, ((![v123, v297] : Fin 2 → IVec S16 32) a x).toNat < S8x4096.size a := fun v123 v297 k0_hw309 => k0_hw309

def k0_chk310 (v123 : IVec S16 32) (v301 : IVec S16 32) : Prop :=
  (∀ a x, ((![v123, v301] : Fin 2 → IVec S16 32) a x).toNat < S8x4096.size a)
theorem k0_idx310_inb : ∀ (v123 : IVec S16 32) (v301 : IVec S16 32) (k0_hw310 : k0_chk310 v123 v301), ∀ a x, ((![v123, v301] : Fin 2 → IVec S16 32) a x).toNat < S8x4096.size a := fun v123 v301 k0_hw310 => k0_hw310

def k0_chk311 (v123 : IVec S16 32) (v305 : IVec S16 32) : Prop :=
  (∀ a x, ((![v123, v305] : Fin 2 → IVec S16 32) a x).toNat < S8x4096.size a)
theorem k0_idx311_inb : ∀ (v123 : IVec S16 32) (v305 : IVec S16 32) (k0_hw311 : k0_chk311 v123 v305), ∀ a x, ((![v123, v305] : Fin 2 → IVec S16 32) a x).toNat < S8x4096.size a := fun v123 v305 k0_hw311 => k0_hw311

def k0_chk312 (v123 : IVec S16 32) (v309 : IVec S16 32) : Prop :=
  (∀ a x, ((![v123, v309] : Fin 2 → IVec S16 32) a x).toNat < S8x4096.size a)
theorem k0_idx312_inb : ∀ (v123 : IVec S16 32) (v309 : IVec S16 32) (k0_hw312 : k0_chk312 v123 v309), ∀ a x, ((![v123, v309] : Fin 2 → IVec S16 32) a x).toNat < S8x4096.size a := fun v123 v309 k0_hw312 => k0_hw312

def k0_chk313 (v123 : IVec S16 32) (v313 : IVec S16 32) : Prop :=
  (∀ a x, ((![v123, v313] : Fin 2 → IVec S16 32) a x).toNat < S8x4096.size a)
theorem k0_idx313_inb : ∀ (v123 : IVec S16 32) (v313 : IVec S16 32) (k0_hw313 : k0_chk313 v123 v313), ∀ a x, ((![v123, v313] : Fin 2 → IVec S16 32) a x).toNat < S8x4096.size a := fun v123 v313 k0_hw313 => k0_hw313

def k0_chk314 (v123 : IVec S16 32) (v317 : IVec S16 32) : Prop :=
  (∀ a x, ((![v123, v317] : Fin 2 → IVec S16 32) a x).toNat < S8x4096.size a)
theorem k0_idx314_inb : ∀ (v123 : IVec S16 32) (v317 : IVec S16 32) (k0_hw314 : k0_chk314 v123 v317), ∀ a x, ((![v123, v317] : Fin 2 → IVec S16 32) a x).toNat < S8x4096.size a := fun v123 v317 k0_hw314 => k0_hw314

def k0_chk315 (v123 : IVec S16 32) (v321 : IVec S16 32) : Prop :=
  (∀ a x, ((![v123, v321] : Fin 2 → IVec S16 32) a x).toNat < S8x4096.size a)
theorem k0_idx315_inb : ∀ (v123 : IVec S16 32) (v321 : IVec S16 32) (k0_hw315 : k0_chk315 v123 v321), ∀ a x, ((![v123, v321] : Fin 2 → IVec S16 32) a x).toNat < S8x4096.size a := fun v123 v321 k0_hw315 => k0_hw315

def k0_chk316 (v123 : IVec S16 32) (v325 : IVec S16 32) : Prop :=
  (∀ a x, ((![v123, v325] : Fin 2 → IVec S16 32) a x).toNat < S8x4096.size a)
theorem k0_idx316_inb : ∀ (v123 : IVec S16 32) (v325 : IVec S16 32) (k0_hw316 : k0_chk316 v123 v325), ∀ a x, ((![v123, v325] : Fin 2 → IVec S16 32) a x).toNat < S8x4096.size a := fun v123 v325 k0_hw316 => k0_hw316

def k0_chk317 (v123 : IVec S16 32) (v329 : IVec S16 32) : Prop :=
  (∀ a x, ((![v123, v329] : Fin 2 → IVec S16 32) a x).toNat < S8x4096.size a)
theorem k0_idx317_inb : ∀ (v123 : IVec S16 32) (v329 : IVec S16 32) (k0_hw317 : k0_chk317 v123 v329), ∀ a x, ((![v123, v329] : Fin 2 → IVec S16 32) a x).toNat < S8x4096.size a := fun v123 v329 k0_hw317 => k0_hw317

def k0_chk318 (v123 : IVec S16 32) (v333 : IVec S16 32) : Prop :=
  (∀ a x, ((![v123, v333] : Fin 2 → IVec S16 32) a x).toNat < S8x4096.size a)
theorem k0_idx318_inb : ∀ (v123 : IVec S16 32) (v333 : IVec S16 32) (k0_hw318 : k0_chk318 v123 v333), ∀ a x, ((![v123, v333] : Fin 2 → IVec S16 32) a x).toNat < S8x4096.size a := fun v123 v333 k0_hw318 => k0_hw318

def k0_chk319 (v123 : IVec S16 32) (v337 : IVec S16 32) : Prop :=
  (∀ a x, ((![v123, v337] : Fin 2 → IVec S16 32) a x).toNat < S8x4096.size a)
theorem k0_idx319_inb : ∀ (v123 : IVec S16 32) (v337 : IVec S16 32) (k0_hw319 : k0_chk319 v123 v337), ∀ a x, ((![v123, v337] : Fin 2 → IVec S16 32) a x).toNat < S8x4096.size a := fun v123 v337 k0_hw319 => k0_hw319

def k0_chk320 (v123 : IVec S16 32) (v341 : IVec S16 32) : Prop :=
  (∀ a x, ((![v123, v341] : Fin 2 → IVec S16 32) a x).toNat < S8x4096.size a)
theorem k0_idx320_inb : ∀ (v123 : IVec S16 32) (v341 : IVec S16 32) (k0_hw320 : k0_chk320 v123 v341), ∀ a x, ((![v123, v341] : Fin 2 → IVec S16 32) a x).toNat < S8x4096.size a := fun v123 v341 k0_hw320 => k0_hw320

def k0_chk321 (v123 : IVec S16 32) (v345 : IVec S16 32) : Prop :=
  (∀ a x, ((![v123, v345] : Fin 2 → IVec S16 32) a x).toNat < S8x4096.size a)
theorem k0_idx321_inb : ∀ (v123 : IVec S16 32) (v345 : IVec S16 32) (k0_hw321 : k0_chk321 v123 v345), ∀ a x, ((![v123, v345] : Fin 2 → IVec S16 32) a x).toNat < S8x4096.size a := fun v123 v345 k0_hw321 => k0_hw321

def k0_chk322 (v123 : IVec S16 32) (v349 : IVec S16 32) : Prop :=
  (∀ a x, ((![v123, v349] : Fin 2 → IVec S16 32) a x).toNat < S8x4096.size a)
theorem k0_idx322_inb : ∀ (v123 : IVec S16 32) (v349 : IVec S16 32) (k0_hw322 : k0_chk322 v123 v349), ∀ a x, ((![v123, v349] : Fin 2 → IVec S16 32) a x).toNat < S8x4096.size a := fun v123 v349 k0_hw322 => k0_hw322

def k0_chk323 (v123 : IVec S16 32) (v353 : IVec S16 32) : Prop :=
  (∀ a x, ((![v123, v353] : Fin 2 → IVec S16 32) a x).toNat < S8x4096.size a)
theorem k0_idx323_inb : ∀ (v123 : IVec S16 32) (v353 : IVec S16 32) (k0_hw323 : k0_chk323 v123 v353), ∀ a x, ((![v123, v353] : Fin 2 → IVec S16 32) a x).toNat < S8x4096.size a := fun v123 v353 k0_hw323 => k0_hw323

def k0_chk324 (v123 : IVec S16 32) (v357 : IVec S16 32) : Prop :=
  (∀ a x, ((![v123, v357] : Fin 2 → IVec S16 32) a x).toNat < S8x4096.size a)
theorem k0_idx324_inb : ∀ (v123 : IVec S16 32) (v357 : IVec S16 32) (k0_hw324 : k0_chk324 v123 v357), ∀ a x, ((![v123, v357] : Fin 2 → IVec S16 32) a x).toNat < S8x4096.size a := fun v123 v357 k0_hw324 => k0_hw324

def k0_chk325 (v123 : IVec S16 32) (v361 : IVec S16 32) : Prop :=
  (∀ a x, ((![v123, v361] : Fin 2 → IVec S16 32) a x).toNat < S8x4096.size a)
theorem k0_idx325_inb : ∀ (v123 : IVec S16 32) (v361 : IVec S16 32) (k0_hw325 : k0_chk325 v123 v361), ∀ a x, ((![v123, v361] : Fin 2 → IVec S16 32) a x).toNat < S8x4096.size a := fun v123 v361 k0_hw325 => k0_hw325

def k0_chk326 (v123 : IVec S16 32) (v365 : IVec S16 32) : Prop :=
  (∀ a x, ((![v123, v365] : Fin 2 → IVec S16 32) a x).toNat < S8x4096.size a)
theorem k0_idx326_inb : ∀ (v123 : IVec S16 32) (v365 : IVec S16 32) (k0_hw326 : k0_chk326 v123 v365), ∀ a x, ((![v123, v365] : Fin 2 → IVec S16 32) a x).toNat < S8x4096.size a := fun v123 v365 k0_hw326 => k0_hw326

def k0_chk327 (v123 : IVec S16 32) (v369 : IVec S16 32) : Prop :=
  (∀ a x, ((![v123, v369] : Fin 2 → IVec S16 32) a x).toNat < S8x4096.size a)
theorem k0_idx327_inb : ∀ (v123 : IVec S16 32) (v369 : IVec S16 32) (k0_hw327 : k0_chk327 v123 v369), ∀ a x, ((![v123, v369] : Fin 2 → IVec S16 32) a x).toNat < S8x4096.size a := fun v123 v369 k0_hw327 => k0_hw327

def k0_chk328 (v123 : IVec S16 32) (v373 : IVec S16 32) : Prop :=
  (∀ a x, ((![v123, v373] : Fin 2 → IVec S16 32) a x).toNat < S8x4096.size a)
theorem k0_idx328_inb : ∀ (v123 : IVec S16 32) (v373 : IVec S16 32) (k0_hw328 : k0_chk328 v123 v373), ∀ a x, ((![v123, v373] : Fin 2 → IVec S16 32) a x).toNat < S8x4096.size a := fun v123 v373 k0_hw328 => k0_hw328

def k0_chk329 (v123 : IVec S16 32) (v377 : IVec S16 32) : Prop :=
  (∀ a x, ((![v123, v377] : Fin 2 → IVec S16 32) a x).toNat < S8x4096.size a)
theorem k0_idx329_inb : ∀ (v123 : IVec S16 32) (v377 : IVec S16 32) (k0_hw329 : k0_chk329 v123 v377), ∀ a x, ((![v123, v377] : Fin 2 → IVec S16 32) a x).toNat < S8x4096.size a := fun v123 v377 k0_hw329 => k0_hw329

def k0_chk330 (v123 : IVec S16 32) (v381 : IVec S16 32) : Prop :=
  (∀ a x, ((![v123, v381] : Fin 2 → IVec S16 32) a x).toNat < S8x128.size a)
theorem k0_idx330_inb : ∀ (v123 : IVec S16 32) (v381 : IVec S16 32) (k0_hw330 : k0_chk330 v123 v381), ∀ a x, ((![v123, v381] : Fin 2 → IVec S16 32) a x).toNat < S8x128.size a := fun v123 v381 k0_hw330 => k0_hw330

def k0_chk331 (v123 : IVec S16 32) (v383 : IVec S16 32) : Prop :=
  (∀ a x, ((![v123, v383] : Fin 2 → IVec S16 32) a x).toNat < S8x4096.size a)
theorem k0_idx331_inb : ∀ (v123 : IVec S16 32) (v383 : IVec S16 32) (k0_hw331 : k0_chk331 v123 v383), ∀ a x, ((![v123, v383] : Fin 2 → IVec S16 32) a x).toNat < S8x4096.size a := fun v123 v383 k0_hw331 => k0_hw331

def k0_chk332 (v123 : IVec S16 32) (v386 : IVec S16 32) : Prop :=
  (∀ a x, ((![v123, v386] : Fin 2 → IVec S16 32) a x).toNat < S8x4096.size a)
theorem k0_idx332_inb : ∀ (v123 : IVec S16 32) (v386 : IVec S16 32) (k0_hw332 : k0_chk332 v123 v386), ∀ a x, ((![v123, v386] : Fin 2 → IVec S16 32) a x).toNat < S8x4096.size a := fun v123 v386 k0_hw332 => k0_hw332

def k0_chk333 (v123 : IVec S16 32) (v390 : IVec S16 32) : Prop :=
  (∀ a x, ((![v123, v390] : Fin 2 → IVec S16 32) a x).toNat < S8x4096.size a)
theorem k0_idx333_inb : ∀ (v123 : IVec S16 32) (v390 : IVec S16 32) (k0_hw333 : k0_chk333 v123 v390), ∀ a x, ((![v123, v390] : Fin 2 → IVec S16 32) a x).toNat < S8x4096.size a := fun v123 v390 k0_hw333 => k0_hw333

def k0_chk334 (v123 : IVec S16 32) (v394 : IVec S16 32) : Prop :=
  (∀ a x, ((![v123, v394] : Fin 2 → IVec S16 32) a x).toNat < S8x4096.size a)
theorem k0_idx334_inb : ∀ (v123 : IVec S16 32) (v394 : IVec S16 32) (k0_hw334 : k0_chk334 v123 v394), ∀ a x, ((![v123, v394] : Fin 2 → IVec S16 32) a x).toNat < S8x4096.size a := fun v123 v394 k0_hw334 => k0_hw334

def k0_chk335 (v123 : IVec S16 32) (v398 : IVec S16 32) : Prop :=
  (∀ a x, ((![v123, v398] : Fin 2 → IVec S16 32) a x).toNat < S8x4096.size a)
theorem k0_idx335_inb : ∀ (v123 : IVec S16 32) (v398 : IVec S16 32) (k0_hw335 : k0_chk335 v123 v398), ∀ a x, ((![v123, v398] : Fin 2 → IVec S16 32) a x).toNat < S8x4096.size a := fun v123 v398 k0_hw335 => k0_hw335

def k0_chk336 (v123 : IVec S16 32) (v402 : IVec S16 32) : Prop :=
  (∀ a x, ((![v123, v402] : Fin 2 → IVec S16 32) a x).toNat < S8x4096.size a)
theorem k0_idx336_inb : ∀ (v123 : IVec S16 32) (v402 : IVec S16 32) (k0_hw336 : k0_chk336 v123 v402), ∀ a x, ((![v123, v402] : Fin 2 → IVec S16 32) a x).toNat < S8x4096.size a := fun v123 v402 k0_hw336 => k0_hw336

def k0_chk337 (v123 : IVec S16 32) (v406 : IVec S16 32) : Prop :=
  (∀ a x, ((![v123, v406] : Fin 2 → IVec S16 32) a x).toNat < S8x4096.size a)
theorem k0_idx337_inb : ∀ (v123 : IVec S16 32) (v406 : IVec S16 32) (k0_hw337 : k0_chk337 v123 v406), ∀ a x, ((![v123, v406] : Fin 2 → IVec S16 32) a x).toNat < S8x4096.size a := fun v123 v406 k0_hw337 => k0_hw337

def k0_chk338 (v123 : IVec S16 32) (v410 : IVec S16 32) : Prop :=
  (∀ a x, ((![v123, v410] : Fin 2 → IVec S16 32) a x).toNat < S8x4096.size a)
theorem k0_idx338_inb : ∀ (v123 : IVec S16 32) (v410 : IVec S16 32) (k0_hw338 : k0_chk338 v123 v410), ∀ a x, ((![v123, v410] : Fin 2 → IVec S16 32) a x).toNat < S8x4096.size a := fun v123 v410 k0_hw338 => k0_hw338

def k0_chk339 (v123 : IVec S16 32) (v414 : IVec S16 32) : Prop :=
  (∀ a x, ((![v123, v414] : Fin 2 → IVec S16 32) a x).toNat < S8x4096.size a)
theorem k0_idx339_inb : ∀ (v123 : IVec S16 32) (v414 : IVec S16 32) (k0_hw339 : k0_chk339 v123 v414), ∀ a x, ((![v123, v414] : Fin 2 → IVec S16 32) a x).toNat < S8x4096.size a := fun v123 v414 k0_hw339 => k0_hw339

def k0_chk340 (v123 : IVec S16 32) (v418 : IVec S16 32) : Prop :=
  (∀ a x, ((![v123, v418] : Fin 2 → IVec S16 32) a x).toNat < S8x4096.size a)
theorem k0_idx340_inb : ∀ (v123 : IVec S16 32) (v418 : IVec S16 32) (k0_hw340 : k0_chk340 v123 v418), ∀ a x, ((![v123, v418] : Fin 2 → IVec S16 32) a x).toNat < S8x4096.size a := fun v123 v418 k0_hw340 => k0_hw340

def k0_chk341 (v123 : IVec S16 32) (v422 : IVec S16 32) : Prop :=
  (∀ a x, ((![v123, v422] : Fin 2 → IVec S16 32) a x).toNat < S8x4096.size a)
theorem k0_idx341_inb : ∀ (v123 : IVec S16 32) (v422 : IVec S16 32) (k0_hw341 : k0_chk341 v123 v422), ∀ a x, ((![v123, v422] : Fin 2 → IVec S16 32) a x).toNat < S8x4096.size a := fun v123 v422 k0_hw341 => k0_hw341

def k0_chk342 (v123 : IVec S16 32) (v426 : IVec S16 32) : Prop :=
  (∀ a x, ((![v123, v426] : Fin 2 → IVec S16 32) a x).toNat < S8x4096.size a)
theorem k0_idx342_inb : ∀ (v123 : IVec S16 32) (v426 : IVec S16 32) (k0_hw342 : k0_chk342 v123 v426), ∀ a x, ((![v123, v426] : Fin 2 → IVec S16 32) a x).toNat < S8x4096.size a := fun v123 v426 k0_hw342 => k0_hw342

def k0_chk343 (v123 : IVec S16 32) (v430 : IVec S16 32) : Prop :=
  (∀ a x, ((![v123, v430] : Fin 2 → IVec S16 32) a x).toNat < S8x4096.size a)
theorem k0_idx343_inb : ∀ (v123 : IVec S16 32) (v430 : IVec S16 32) (k0_hw343 : k0_chk343 v123 v430), ∀ a x, ((![v123, v430] : Fin 2 → IVec S16 32) a x).toNat < S8x4096.size a := fun v123 v430 k0_hw343 => k0_hw343

def k0_chk344 (v123 : IVec S16 32) (v434 : IVec S16 32) : Prop :=
  (∀ a x, ((![v123, v434] : Fin 2 → IVec S16 32) a x).toNat < S8x4096.size a)
theorem k0_idx344_inb : ∀ (v123 : IVec S16 32) (v434 : IVec S16 32) (k0_hw344 : k0_chk344 v123 v434), ∀ a x, ((![v123, v434] : Fin 2 → IVec S16 32) a x).toNat < S8x4096.size a := fun v123 v434 k0_hw344 => k0_hw344

def k0_chk345 (v123 : IVec S16 32) (v438 : IVec S16 32) : Prop :=
  (∀ a x, ((![v123, v438] : Fin 2 → IVec S16 32) a x).toNat < S8x4096.size a)
theorem k0_idx345_inb : ∀ (v123 : IVec S16 32) (v438 : IVec S16 32) (k0_hw345 : k0_chk345 v123 v438), ∀ a x, ((![v123, v438] : Fin 2 → IVec S16 32) a x).toNat < S8x4096.size a := fun v123 v438 k0_hw345 => k0_hw345

def k0_chk346 (v123 : IVec S16 32) (v442 : IVec S16 32) : Prop :=
  (∀ a x, ((![v123, v442] : Fin 2 → IVec S16 32) a x).toNat < S8x4096.size a)
theorem k0_idx346_inb : ∀ (v123 : IVec S16 32) (v442 : IVec S16 32) (k0_hw346 : k0_chk346 v123 v442), ∀ a x, ((![v123, v442] : Fin 2 → IVec S16 32) a x).toNat < S8x4096.size a := fun v123 v442 k0_hw346 => k0_hw346

def k0_chk347 (v123 : IVec S16 32) (v446 : IVec S16 32) : Prop :=
  (∀ a x, ((![v123, v446] : Fin 2 → IVec S16 32) a x).toNat < S8x4096.size a)
theorem k0_idx347_inb : ∀ (v123 : IVec S16 32) (v446 : IVec S16 32) (k0_hw347 : k0_chk347 v123 v446), ∀ a x, ((![v123, v446] : Fin 2 → IVec S16 32) a x).toNat < S8x4096.size a := fun v123 v446 k0_hw347 => k0_hw347

def k0_chk348 (v123 : IVec S16 32) (v450 : IVec S16 32) : Prop :=
  (∀ a x, ((![v123, v450] : Fin 2 → IVec S16 32) a x).toNat < S8x4096.size a)
theorem k0_idx348_inb : ∀ (v123 : IVec S16 32) (v450 : IVec S16 32) (k0_hw348 : k0_chk348 v123 v450), ∀ a x, ((![v123, v450] : Fin 2 → IVec S16 32) a x).toNat < S8x4096.size a := fun v123 v450 k0_hw348 => k0_hw348

def k0_chk349 (v123 : IVec S16 32) (v454 : IVec S16 32) : Prop :=
  (∀ a x, ((![v123, v454] : Fin 2 → IVec S16 32) a x).toNat < S8x4096.size a)
theorem k0_idx349_inb : ∀ (v123 : IVec S16 32) (v454 : IVec S16 32) (k0_hw349 : k0_chk349 v123 v454), ∀ a x, ((![v123, v454] : Fin 2 → IVec S16 32) a x).toNat < S8x4096.size a := fun v123 v454 k0_hw349 => k0_hw349

def k0_chk350 (v123 : IVec S16 32) (v458 : IVec S16 32) : Prop :=
  (∀ a x, ((![v123, v458] : Fin 2 → IVec S16 32) a x).toNat < S8x4096.size a)
theorem k0_idx350_inb : ∀ (v123 : IVec S16 32) (v458 : IVec S16 32) (k0_hw350 : k0_chk350 v123 v458), ∀ a x, ((![v123, v458] : Fin 2 → IVec S16 32) a x).toNat < S8x4096.size a := fun v123 v458 k0_hw350 => k0_hw350

def k0_chk351 (v123 : IVec S16 32) (v462 : IVec S16 32) : Prop :=
  (∀ a x, ((![v123, v462] : Fin 2 → IVec S16 32) a x).toNat < S8x4096.size a)
theorem k0_idx351_inb : ∀ (v123 : IVec S16 32) (v462 : IVec S16 32) (k0_hw351 : k0_chk351 v123 v462), ∀ a x, ((![v123, v462] : Fin 2 → IVec S16 32) a x).toNat < S8x4096.size a := fun v123 v462 k0_hw351 => k0_hw351

def k0_chk352 (v123 : IVec S16 32) (v466 : IVec S16 32) : Prop :=
  (∀ a x, ((![v123, v466] : Fin 2 → IVec S16 32) a x).toNat < S8x4096.size a)
theorem k0_idx352_inb : ∀ (v123 : IVec S16 32) (v466 : IVec S16 32) (k0_hw352 : k0_chk352 v123 v466), ∀ a x, ((![v123, v466] : Fin 2 → IVec S16 32) a x).toNat < S8x4096.size a := fun v123 v466 k0_hw352 => k0_hw352

def k0_chk353 (v123 : IVec S16 32) (v470 : IVec S16 32) : Prop :=
  (∀ a x, ((![v123, v470] : Fin 2 → IVec S16 32) a x).toNat < S8x4096.size a)
theorem k0_idx353_inb : ∀ (v123 : IVec S16 32) (v470 : IVec S16 32) (k0_hw353 : k0_chk353 v123 v470), ∀ a x, ((![v123, v470] : Fin 2 → IVec S16 32) a x).toNat < S8x4096.size a := fun v123 v470 k0_hw353 => k0_hw353

def k0_chk354 (v123 : IVec S16 32) (v474 : IVec S16 32) : Prop :=
  (∀ a x, ((![v123, v474] : Fin 2 → IVec S16 32) a x).toNat < S8x4096.size a)
theorem k0_idx354_inb : ∀ (v123 : IVec S16 32) (v474 : IVec S16 32) (k0_hw354 : k0_chk354 v123 v474), ∀ a x, ((![v123, v474] : Fin 2 → IVec S16 32) a x).toNat < S8x4096.size a := fun v123 v474 k0_hw354 => k0_hw354

def k0_chk355 (v123 : IVec S16 32) (v478 : IVec S16 32) : Prop :=
  (∀ a x, ((![v123, v478] : Fin 2 → IVec S16 32) a x).toNat < S8x4096.size a)
theorem k0_idx355_inb : ∀ (v123 : IVec S16 32) (v478 : IVec S16 32) (k0_hw355 : k0_chk355 v123 v478), ∀ a x, ((![v123, v478] : Fin 2 → IVec S16 32) a x).toNat < S8x4096.size a := fun v123 v478 k0_hw355 => k0_hw355

def k0_chk356 (v123 : IVec S16 32) (v482 : IVec S16 32) : Prop :=
  (∀ a x, ((![v123, v482] : Fin 2 → IVec S16 32) a x).toNat < S8x4096.size a)
theorem k0_idx356_inb : ∀ (v123 : IVec S16 32) (v482 : IVec S16 32) (k0_hw356 : k0_chk356 v123 v482), ∀ a x, ((![v123, v482] : Fin 2 → IVec S16 32) a x).toNat < S8x4096.size a := fun v123 v482 k0_hw356 => k0_hw356

def k0_chk357 (v123 : IVec S16 32) (v486 : IVec S16 32) : Prop :=
  (∀ a x, ((![v123, v486] : Fin 2 → IVec S16 32) a x).toNat < S8x4096.size a)
theorem k0_idx357_inb : ∀ (v123 : IVec S16 32) (v486 : IVec S16 32) (k0_hw357 : k0_chk357 v123 v486), ∀ a x, ((![v123, v486] : Fin 2 → IVec S16 32) a x).toNat < S8x4096.size a := fun v123 v486 k0_hw357 => k0_hw357

def k0_chk358 (v123 : IVec S16 32) (v490 : IVec S16 32) : Prop :=
  (∀ a x, ((![v123, v490] : Fin 2 → IVec S16 32) a x).toNat < S8x4096.size a)
theorem k0_idx358_inb : ∀ (v123 : IVec S16 32) (v490 : IVec S16 32) (k0_hw358 : k0_chk358 v123 v490), ∀ a x, ((![v123, v490] : Fin 2 → IVec S16 32) a x).toNat < S8x4096.size a := fun v123 v490 k0_hw358 => k0_hw358

def k0_chk359 (v123 : IVec S16 32) (v494 : IVec S16 32) : Prop :=
  (∀ a x, ((![v123, v494] : Fin 2 → IVec S16 32) a x).toNat < S8x4096.size a)
theorem k0_idx359_inb : ∀ (v123 : IVec S16 32) (v494 : IVec S16 32) (k0_hw359 : k0_chk359 v123 v494), ∀ a x, ((![v123, v494] : Fin 2 → IVec S16 32) a x).toNat < S8x4096.size a := fun v123 v494 k0_hw359 => k0_hw359

def k0_chk360 (v123 : IVec S16 32) (v498 : IVec S16 32) : Prop :=
  (∀ a x, ((![v123, v498] : Fin 2 → IVec S16 32) a x).toNat < S8x4096.size a)
theorem k0_idx360_inb : ∀ (v123 : IVec S16 32) (v498 : IVec S16 32) (k0_hw360 : k0_chk360 v123 v498), ∀ a x, ((![v123, v498] : Fin 2 → IVec S16 32) a x).toNat < S8x4096.size a := fun v123 v498 k0_hw360 => k0_hw360

def k0_chk361 (v123 : IVec S16 32) (v502 : IVec S16 32) : Prop :=
  (∀ a x, ((![v123, v502] : Fin 2 → IVec S16 32) a x).toNat < S8x4096.size a)
theorem k0_idx361_inb : ∀ (v123 : IVec S16 32) (v502 : IVec S16 32) (k0_hw361 : k0_chk361 v123 v502), ∀ a x, ((![v123, v502] : Fin 2 → IVec S16 32) a x).toNat < S8x4096.size a := fun v123 v502 k0_hw361 => k0_hw361

def k0_chk362 (v123 : IVec S16 32) (v506 : IVec S16 32) : Prop :=
  (∀ a x, ((![v123, v506] : Fin 2 → IVec S16 32) a x).toNat < S8x4096.size a)
theorem k0_idx362_inb : ∀ (v123 : IVec S16 32) (v506 : IVec S16 32) (k0_hw362 : k0_chk362 v123 v506), ∀ a x, ((![v123, v506] : Fin 2 → IVec S16 32) a x).toNat < S8x4096.size a := fun v123 v506 k0_hw362 => k0_hw362

def k0_chk363 (v123 : IVec S16 32) (v510 : IVec S16 32) : Prop :=
  (∀ a x, ((![v123, v510] : Fin 2 → IVec S16 32) a x).toNat < S8x128.size a)
theorem k0_idx363_inb : ∀ (v123 : IVec S16 32) (v510 : IVec S16 32) (k0_hw363 : k0_chk363 v123 v510), ∀ a x, ((![v123, v510] : Fin 2 → IVec S16 32) a x).toNat < S8x128.size a := fun v123 v510 k0_hw363 => k0_hw363

def k0_chk364 (v123 : IVec S16 32) (v512 : IVec S16 32) : Prop :=
  (∀ a x, ((![v123, v512] : Fin 2 → IVec S16 32) a x).toNat < S8x4096.size a)
theorem k0_idx364_inb : ∀ (v123 : IVec S16 32) (v512 : IVec S16 32) (k0_hw364 : k0_chk364 v123 v512), ∀ a x, ((![v123, v512] : Fin 2 → IVec S16 32) a x).toNat < S8x4096.size a := fun v123 v512 k0_hw364 => k0_hw364

def k0_chk365 (v123 : IVec S16 32) (v515 : IVec S16 32) : Prop :=
  (∀ a x, ((![v123, v515] : Fin 2 → IVec S16 32) a x).toNat < S8x4096.size a)
theorem k0_idx365_inb : ∀ (v123 : IVec S16 32) (v515 : IVec S16 32) (k0_hw365 : k0_chk365 v123 v515), ∀ a x, ((![v123, v515] : Fin 2 → IVec S16 32) a x).toNat < S8x4096.size a := fun v123 v515 k0_hw365 => k0_hw365

def k0_chk366 (v123 : IVec S16 32) (v519 : IVec S16 32) : Prop :=
  (∀ a x, ((![v123, v519] : Fin 2 → IVec S16 32) a x).toNat < S8x4096.size a)
theorem k0_idx366_inb : ∀ (v123 : IVec S16 32) (v519 : IVec S16 32) (k0_hw366 : k0_chk366 v123 v519), ∀ a x, ((![v123, v519] : Fin 2 → IVec S16 32) a x).toNat < S8x4096.size a := fun v123 v519 k0_hw366 => k0_hw366

def k0_chk367 (v123 : IVec S16 32) (v523 : IVec S16 32) : Prop :=
  (∀ a x, ((![v123, v523] : Fin 2 → IVec S16 32) a x).toNat < S8x4096.size a)
theorem k0_idx367_inb : ∀ (v123 : IVec S16 32) (v523 : IVec S16 32) (k0_hw367 : k0_chk367 v123 v523), ∀ a x, ((![v123, v523] : Fin 2 → IVec S16 32) a x).toNat < S8x4096.size a := fun v123 v523 k0_hw367 => k0_hw367

def k0_chk368 (v123 : IVec S16 32) (v527 : IVec S16 32) : Prop :=
  (∀ a x, ((![v123, v527] : Fin 2 → IVec S16 32) a x).toNat < S8x4096.size a)
theorem k0_idx368_inb : ∀ (v123 : IVec S16 32) (v527 : IVec S16 32) (k0_hw368 : k0_chk368 v123 v527), ∀ a x, ((![v123, v527] : Fin 2 → IVec S16 32) a x).toNat < S8x4096.size a := fun v123 v527 k0_hw368 => k0_hw368

def k0_chk369 (v123 : IVec S16 32) (v531 : IVec S16 32) : Prop :=
  (∀ a x, ((![v123, v531] : Fin 2 → IVec S16 32) a x).toNat < S8x4096.size a)
theorem k0_idx369_inb : ∀ (v123 : IVec S16 32) (v531 : IVec S16 32) (k0_hw369 : k0_chk369 v123 v531), ∀ a x, ((![v123, v531] : Fin 2 → IVec S16 32) a x).toNat < S8x4096.size a := fun v123 v531 k0_hw369 => k0_hw369

def k0_chk370 (v123 : IVec S16 32) (v535 : IVec S16 32) : Prop :=
  (∀ a x, ((![v123, v535] : Fin 2 → IVec S16 32) a x).toNat < S8x4096.size a)
theorem k0_idx370_inb : ∀ (v123 : IVec S16 32) (v535 : IVec S16 32) (k0_hw370 : k0_chk370 v123 v535), ∀ a x, ((![v123, v535] : Fin 2 → IVec S16 32) a x).toNat < S8x4096.size a := fun v123 v535 k0_hw370 => k0_hw370

def k0_chk371 (v123 : IVec S16 32) (v539 : IVec S16 32) : Prop :=
  (∀ a x, ((![v123, v539] : Fin 2 → IVec S16 32) a x).toNat < S8x4096.size a)
theorem k0_idx371_inb : ∀ (v123 : IVec S16 32) (v539 : IVec S16 32) (k0_hw371 : k0_chk371 v123 v539), ∀ a x, ((![v123, v539] : Fin 2 → IVec S16 32) a x).toNat < S8x4096.size a := fun v123 v539 k0_hw371 => k0_hw371

def k0_chk372 (v123 : IVec S16 32) (v543 : IVec S16 32) : Prop :=
  (∀ a x, ((![v123, v543] : Fin 2 → IVec S16 32) a x).toNat < S8x4096.size a)
theorem k0_idx372_inb : ∀ (v123 : IVec S16 32) (v543 : IVec S16 32) (k0_hw372 : k0_chk372 v123 v543), ∀ a x, ((![v123, v543] : Fin 2 → IVec S16 32) a x).toNat < S8x4096.size a := fun v123 v543 k0_hw372 => k0_hw372

def k0_chk373 (v123 : IVec S16 32) (v547 : IVec S16 32) : Prop :=
  (∀ a x, ((![v123, v547] : Fin 2 → IVec S16 32) a x).toNat < S8x4096.size a)
theorem k0_idx373_inb : ∀ (v123 : IVec S16 32) (v547 : IVec S16 32) (k0_hw373 : k0_chk373 v123 v547), ∀ a x, ((![v123, v547] : Fin 2 → IVec S16 32) a x).toNat < S8x4096.size a := fun v123 v547 k0_hw373 => k0_hw373

def k0_chk374 (v123 : IVec S16 32) (v551 : IVec S16 32) : Prop :=
  (∀ a x, ((![v123, v551] : Fin 2 → IVec S16 32) a x).toNat < S8x4096.size a)
theorem k0_idx374_inb : ∀ (v123 : IVec S16 32) (v551 : IVec S16 32) (k0_hw374 : k0_chk374 v123 v551), ∀ a x, ((![v123, v551] : Fin 2 → IVec S16 32) a x).toNat < S8x4096.size a := fun v123 v551 k0_hw374 => k0_hw374

def k0_chk375 (v123 : IVec S16 32) (v555 : IVec S16 32) : Prop :=
  (∀ a x, ((![v123, v555] : Fin 2 → IVec S16 32) a x).toNat < S8x4096.size a)
theorem k0_idx375_inb : ∀ (v123 : IVec S16 32) (v555 : IVec S16 32) (k0_hw375 : k0_chk375 v123 v555), ∀ a x, ((![v123, v555] : Fin 2 → IVec S16 32) a x).toNat < S8x4096.size a := fun v123 v555 k0_hw375 => k0_hw375

def k0_chk376 (v123 : IVec S16 32) (v559 : IVec S16 32) : Prop :=
  (∀ a x, ((![v123, v559] : Fin 2 → IVec S16 32) a x).toNat < S8x4096.size a)
theorem k0_idx376_inb : ∀ (v123 : IVec S16 32) (v559 : IVec S16 32) (k0_hw376 : k0_chk376 v123 v559), ∀ a x, ((![v123, v559] : Fin 2 → IVec S16 32) a x).toNat < S8x4096.size a := fun v123 v559 k0_hw376 => k0_hw376

def k0_chk377 (v123 : IVec S16 32) (v563 : IVec S16 32) : Prop :=
  (∀ a x, ((![v123, v563] : Fin 2 → IVec S16 32) a x).toNat < S8x4096.size a)
theorem k0_idx377_inb : ∀ (v123 : IVec S16 32) (v563 : IVec S16 32) (k0_hw377 : k0_chk377 v123 v563), ∀ a x, ((![v123, v563] : Fin 2 → IVec S16 32) a x).toNat < S8x4096.size a := fun v123 v563 k0_hw377 => k0_hw377

def k0_chk378 (v123 : IVec S16 32) (v567 : IVec S16 32) : Prop :=
  (∀ a x, ((![v123, v567] : Fin 2 → IVec S16 32) a x).toNat < S8x4096.size a)
theorem k0_idx378_inb : ∀ (v123 : IVec S16 32) (v567 : IVec S16 32) (k0_hw378 : k0_chk378 v123 v567), ∀ a x, ((![v123, v567] : Fin 2 → IVec S16 32) a x).toNat < S8x4096.size a := fun v123 v567 k0_hw378 => k0_hw378

def k0_chk379 (v123 : IVec S16 32) (v571 : IVec S16 32) : Prop :=
  (∀ a x, ((![v123, v571] : Fin 2 → IVec S16 32) a x).toNat < S8x4096.size a)
theorem k0_idx379_inb : ∀ (v123 : IVec S16 32) (v571 : IVec S16 32) (k0_hw379 : k0_chk379 v123 v571), ∀ a x, ((![v123, v571] : Fin 2 → IVec S16 32) a x).toNat < S8x4096.size a := fun v123 v571 k0_hw379 => k0_hw379

def k0_chk380 (v123 : IVec S16 32) (v575 : IVec S16 32) : Prop :=
  (∀ a x, ((![v123, v575] : Fin 2 → IVec S16 32) a x).toNat < S8x4096.size a)
theorem k0_idx380_inb : ∀ (v123 : IVec S16 32) (v575 : IVec S16 32) (k0_hw380 : k0_chk380 v123 v575), ∀ a x, ((![v123, v575] : Fin 2 → IVec S16 32) a x).toNat < S8x4096.size a := fun v123 v575 k0_hw380 => k0_hw380

def k0_chk381 (v123 : IVec S16 32) (v579 : IVec S16 32) : Prop :=
  (∀ a x, ((![v123, v579] : Fin 2 → IVec S16 32) a x).toNat < S8x4096.size a)
theorem k0_idx381_inb : ∀ (v123 : IVec S16 32) (v579 : IVec S16 32) (k0_hw381 : k0_chk381 v123 v579), ∀ a x, ((![v123, v579] : Fin 2 → IVec S16 32) a x).toNat < S8x4096.size a := fun v123 v579 k0_hw381 => k0_hw381

def k0_chk382 (v123 : IVec S16 32) (v583 : IVec S16 32) : Prop :=
  (∀ a x, ((![v123, v583] : Fin 2 → IVec S16 32) a x).toNat < S8x4096.size a)
theorem k0_idx382_inb : ∀ (v123 : IVec S16 32) (v583 : IVec S16 32) (k0_hw382 : k0_chk382 v123 v583), ∀ a x, ((![v123, v583] : Fin 2 → IVec S16 32) a x).toNat < S8x4096.size a := fun v123 v583 k0_hw382 => k0_hw382

def k0_chk383 (v123 : IVec S16 32) (v587 : IVec S16 32) : Prop :=
  (∀ a x, ((![v123, v587] : Fin 2 → IVec S16 32) a x).toNat < S8x4096.size a)
theorem k0_idx383_inb : ∀ (v123 : IVec S16 32) (v587 : IVec S16 32) (k0_hw383 : k0_chk383 v123 v587), ∀ a x, ((![v123, v587] : Fin 2 → IVec S16 32) a x).toNat < S8x4096.size a := fun v123 v587 k0_hw383 => k0_hw383

def k0_chk384 (v123 : IVec S16 32) (v591 : IVec S16 32) : Prop :=
  (∀ a x, ((![v123, v591] : Fin 2 → IVec S16 32) a x).toNat < S8x4096.size a)
theorem k0_idx384_inb : ∀ (v123 : IVec S16 32) (v591 : IVec S16 32) (k0_hw384 : k0_chk384 v123 v591), ∀ a x, ((![v123, v591] : Fin 2 → IVec S16 32) a x).toNat < S8x4096.size a := fun v123 v591 k0_hw384 => k0_hw384

def k0_chk385 (v123 : IVec S16 32) (v595 : IVec S16 32) : Prop :=
  (∀ a x, ((![v123, v595] : Fin 2 → IVec S16 32) a x).toNat < S8x4096.size a)
theorem k0_idx385_inb : ∀ (v123 : IVec S16 32) (v595 : IVec S16 32) (k0_hw385 : k0_chk385 v123 v595), ∀ a x, ((![v123, v595] : Fin 2 → IVec S16 32) a x).toNat < S8x4096.size a := fun v123 v595 k0_hw385 => k0_hw385

def k0_chk386 (v123 : IVec S16 32) (v599 : IVec S16 32) : Prop :=
  (∀ a x, ((![v123, v599] : Fin 2 → IVec S16 32) a x).toNat < S8x4096.size a)
theorem k0_idx386_inb : ∀ (v123 : IVec S16 32) (v599 : IVec S16 32) (k0_hw386 : k0_chk386 v123 v599), ∀ a x, ((![v123, v599] : Fin 2 → IVec S16 32) a x).toNat < S8x4096.size a := fun v123 v599 k0_hw386 => k0_hw386

def k0_chk387 (v123 : IVec S16 32) (v603 : IVec S16 32) : Prop :=
  (∀ a x, ((![v123, v603] : Fin 2 → IVec S16 32) a x).toNat < S8x4096.size a)
theorem k0_idx387_inb : ∀ (v123 : IVec S16 32) (v603 : IVec S16 32) (k0_hw387 : k0_chk387 v123 v603), ∀ a x, ((![v123, v603] : Fin 2 → IVec S16 32) a x).toNat < S8x4096.size a := fun v123 v603 k0_hw387 => k0_hw387

def k0_chk388 (v123 : IVec S16 32) (v607 : IVec S16 32) : Prop :=
  (∀ a x, ((![v123, v607] : Fin 2 → IVec S16 32) a x).toNat < S8x4096.size a)
theorem k0_idx388_inb : ∀ (v123 : IVec S16 32) (v607 : IVec S16 32) (k0_hw388 : k0_chk388 v123 v607), ∀ a x, ((![v123, v607] : Fin 2 → IVec S16 32) a x).toNat < S8x4096.size a := fun v123 v607 k0_hw388 => k0_hw388

def k0_chk389 (v123 : IVec S16 32) (v611 : IVec S16 32) : Prop :=
  (∀ a x, ((![v123, v611] : Fin 2 → IVec S16 32) a x).toNat < S8x4096.size a)
theorem k0_idx389_inb : ∀ (v123 : IVec S16 32) (v611 : IVec S16 32) (k0_hw389 : k0_chk389 v123 v611), ∀ a x, ((![v123, v611] : Fin 2 → IVec S16 32) a x).toNat < S8x4096.size a := fun v123 v611 k0_hw389 => k0_hw389

def k0_chk390 (v123 : IVec S16 32) (v615 : IVec S16 32) : Prop :=
  (∀ a x, ((![v123, v615] : Fin 2 → IVec S16 32) a x).toNat < S8x4096.size a)
theorem k0_idx390_inb : ∀ (v123 : IVec S16 32) (v615 : IVec S16 32) (k0_hw390 : k0_chk390 v123 v615), ∀ a x, ((![v123, v615] : Fin 2 → IVec S16 32) a x).toNat < S8x4096.size a := fun v123 v615 k0_hw390 => k0_hw390

def k0_chk391 (v123 : IVec S16 32) (v619 : IVec S16 32) : Prop :=
  (∀ a x, ((![v123, v619] : Fin 2 → IVec S16 32) a x).toNat < S8x4096.size a)
theorem k0_idx391_inb : ∀ (v123 : IVec S16 32) (v619 : IVec S16 32) (k0_hw391 : k0_chk391 v123 v619), ∀ a x, ((![v123, v619] : Fin 2 → IVec S16 32) a x).toNat < S8x4096.size a := fun v123 v619 k0_hw391 => k0_hw391

def k0_chk392 (v123 : IVec S16 32) (v623 : IVec S16 32) : Prop :=
  (∀ a x, ((![v123, v623] : Fin 2 → IVec S16 32) a x).toNat < S8x4096.size a)
theorem k0_idx392_inb : ∀ (v123 : IVec S16 32) (v623 : IVec S16 32) (k0_hw392 : k0_chk392 v123 v623), ∀ a x, ((![v123, v623] : Fin 2 → IVec S16 32) a x).toNat < S8x4096.size a := fun v123 v623 k0_hw392 => k0_hw392

def k0_chk393 (v123 : IVec S16 32) (v627 : IVec S16 32) : Prop :=
  (∀ a x, ((![v123, v627] : Fin 2 → IVec S16 32) a x).toNat < S8x4096.size a)
theorem k0_idx393_inb : ∀ (v123 : IVec S16 32) (v627 : IVec S16 32) (k0_hw393 : k0_chk393 v123 v627), ∀ a x, ((![v123, v627] : Fin 2 → IVec S16 32) a x).toNat < S8x4096.size a := fun v123 v627 k0_hw393 => k0_hw393

def k0_chk394 (v123 : IVec S16 32) (v631 : IVec S16 32) : Prop :=
  (∀ a x, ((![v123, v631] : Fin 2 → IVec S16 32) a x).toNat < S8x4096.size a)
theorem k0_idx394_inb : ∀ (v123 : IVec S16 32) (v631 : IVec S16 32) (k0_hw394 : k0_chk394 v123 v631), ∀ a x, ((![v123, v631] : Fin 2 → IVec S16 32) a x).toNat < S8x4096.size a := fun v123 v631 k0_hw394 => k0_hw394

def k0_chk395 (v123 : IVec S16 32) (v635 : IVec S16 32) : Prop :=
  (∀ a x, ((![v123, v635] : Fin 2 → IVec S16 32) a x).toNat < S8x4096.size a)
theorem k0_idx395_inb : ∀ (v123 : IVec S16 32) (v635 : IVec S16 32) (k0_hw395 : k0_chk395 v123 v635), ∀ a x, ((![v123, v635] : Fin 2 → IVec S16 32) a x).toNat < S8x4096.size a := fun v123 v635 k0_hw395 => k0_hw395

def k0_chk396 (v123 : IVec S16 32) (v639 : IVec S16 32) : Prop :=
  (∀ a x, ((![v123, v639] : Fin 2 → IVec S16 32) a x).toNat < S8x128.size a)
theorem k0_idx396_inb : ∀ (v123 : IVec S16 32) (v639 : IVec S16 32) (k0_hw396 : k0_chk396 v123 v639), ∀ a x, ((![v123, v639] : Fin 2 → IVec S16 32) a x).toNat < S8x128.size a := fun v123 v639 k0_hw396 => k0_hw396

def k0_chk397 (v123 : IVec S16 32) (v641 : IVec S16 32) : Prop :=
  (∀ a x, ((![v123, v641] : Fin 2 → IVec S16 32) a x).toNat < S8x4096.size a)
theorem k0_idx397_inb : ∀ (v123 : IVec S16 32) (v641 : IVec S16 32) (k0_hw397 : k0_chk397 v123 v641), ∀ a x, ((![v123, v641] : Fin 2 → IVec S16 32) a x).toNat < S8x4096.size a := fun v123 v641 k0_hw397 => k0_hw397

def k0_chk398 (v123 : IVec S16 32) (v644 : IVec S16 32) : Prop :=
  (∀ a x, ((![v123, v644] : Fin 2 → IVec S16 32) a x).toNat < S8x4096.size a)
theorem k0_idx398_inb : ∀ (v123 : IVec S16 32) (v644 : IVec S16 32) (k0_hw398 : k0_chk398 v123 v644), ∀ a x, ((![v123, v644] : Fin 2 → IVec S16 32) a x).toNat < S8x4096.size a := fun v123 v644 k0_hw398 => k0_hw398

def k0_chk399 (v123 : IVec S16 32) (v648 : IVec S16 32) : Prop :=
  (∀ a x, ((![v123, v648] : Fin 2 → IVec S16 32) a x).toNat < S8x4096.size a)
theorem k0_idx399_inb : ∀ (v123 : IVec S16 32) (v648 : IVec S16 32) (k0_hw399 : k0_chk399 v123 v648), ∀ a x, ((![v123, v648] : Fin 2 → IVec S16 32) a x).toNat < S8x4096.size a := fun v123 v648 k0_hw399 => k0_hw399

def k0_chk400 (v123 : IVec S16 32) (v652 : IVec S16 32) : Prop :=
  (∀ a x, ((![v123, v652] : Fin 2 → IVec S16 32) a x).toNat < S8x4096.size a)
theorem k0_idx400_inb : ∀ (v123 : IVec S16 32) (v652 : IVec S16 32) (k0_hw400 : k0_chk400 v123 v652), ∀ a x, ((![v123, v652] : Fin 2 → IVec S16 32) a x).toNat < S8x4096.size a := fun v123 v652 k0_hw400 => k0_hw400

def k0_chk401 (v123 : IVec S16 32) (v656 : IVec S16 32) : Prop :=
  (∀ a x, ((![v123, v656] : Fin 2 → IVec S16 32) a x).toNat < S8x4096.size a)
theorem k0_idx401_inb : ∀ (v123 : IVec S16 32) (v656 : IVec S16 32) (k0_hw401 : k0_chk401 v123 v656), ∀ a x, ((![v123, v656] : Fin 2 → IVec S16 32) a x).toNat < S8x4096.size a := fun v123 v656 k0_hw401 => k0_hw401

def k0_chk402 (v123 : IVec S16 32) (v660 : IVec S16 32) : Prop :=
  (∀ a x, ((![v123, v660] : Fin 2 → IVec S16 32) a x).toNat < S8x4096.size a)
theorem k0_idx402_inb : ∀ (v123 : IVec S16 32) (v660 : IVec S16 32) (k0_hw402 : k0_chk402 v123 v660), ∀ a x, ((![v123, v660] : Fin 2 → IVec S16 32) a x).toNat < S8x4096.size a := fun v123 v660 k0_hw402 => k0_hw402

def k0_chk403 (v123 : IVec S16 32) (v664 : IVec S16 32) : Prop :=
  (∀ a x, ((![v123, v664] : Fin 2 → IVec S16 32) a x).toNat < S8x4096.size a)
theorem k0_idx403_inb : ∀ (v123 : IVec S16 32) (v664 : IVec S16 32) (k0_hw403 : k0_chk403 v123 v664), ∀ a x, ((![v123, v664] : Fin 2 → IVec S16 32) a x).toNat < S8x4096.size a := fun v123 v664 k0_hw403 => k0_hw403

def k0_chk404 (v123 : IVec S16 32) (v668 : IVec S16 32) : Prop :=
  (∀ a x, ((![v123, v668] : Fin 2 → IVec S16 32) a x).toNat < S8x4096.size a)
theorem k0_idx404_inb : ∀ (v123 : IVec S16 32) (v668 : IVec S16 32) (k0_hw404 : k0_chk404 v123 v668), ∀ a x, ((![v123, v668] : Fin 2 → IVec S16 32) a x).toNat < S8x4096.size a := fun v123 v668 k0_hw404 => k0_hw404

def k0_chk405 (v123 : IVec S16 32) (v672 : IVec S16 32) : Prop :=
  (∀ a x, ((![v123, v672] : Fin 2 → IVec S16 32) a x).toNat < S8x4096.size a)
theorem k0_idx405_inb : ∀ (v123 : IVec S16 32) (v672 : IVec S16 32) (k0_hw405 : k0_chk405 v123 v672), ∀ a x, ((![v123, v672] : Fin 2 → IVec S16 32) a x).toNat < S8x4096.size a := fun v123 v672 k0_hw405 => k0_hw405

def k0_chk406 (v123 : IVec S16 32) (v676 : IVec S16 32) : Prop :=
  (∀ a x, ((![v123, v676] : Fin 2 → IVec S16 32) a x).toNat < S8x4096.size a)
theorem k0_idx406_inb : ∀ (v123 : IVec S16 32) (v676 : IVec S16 32) (k0_hw406 : k0_chk406 v123 v676), ∀ a x, ((![v123, v676] : Fin 2 → IVec S16 32) a x).toNat < S8x4096.size a := fun v123 v676 k0_hw406 => k0_hw406

def k0_chk407 (v123 : IVec S16 32) (v680 : IVec S16 32) : Prop :=
  (∀ a x, ((![v123, v680] : Fin 2 → IVec S16 32) a x).toNat < S8x4096.size a)
theorem k0_idx407_inb : ∀ (v123 : IVec S16 32) (v680 : IVec S16 32) (k0_hw407 : k0_chk407 v123 v680), ∀ a x, ((![v123, v680] : Fin 2 → IVec S16 32) a x).toNat < S8x4096.size a := fun v123 v680 k0_hw407 => k0_hw407

def k0_chk408 (v123 : IVec S16 32) (v684 : IVec S16 32) : Prop :=
  (∀ a x, ((![v123, v684] : Fin 2 → IVec S16 32) a x).toNat < S8x4096.size a)
theorem k0_idx408_inb : ∀ (v123 : IVec S16 32) (v684 : IVec S16 32) (k0_hw408 : k0_chk408 v123 v684), ∀ a x, ((![v123, v684] : Fin 2 → IVec S16 32) a x).toNat < S8x4096.size a := fun v123 v684 k0_hw408 => k0_hw408

def k0_chk409 (v123 : IVec S16 32) (v688 : IVec S16 32) : Prop :=
  (∀ a x, ((![v123, v688] : Fin 2 → IVec S16 32) a x).toNat < S8x4096.size a)
theorem k0_idx409_inb : ∀ (v123 : IVec S16 32) (v688 : IVec S16 32) (k0_hw409 : k0_chk409 v123 v688), ∀ a x, ((![v123, v688] : Fin 2 → IVec S16 32) a x).toNat < S8x4096.size a := fun v123 v688 k0_hw409 => k0_hw409

def k0_chk410 (v123 : IVec S16 32) (v692 : IVec S16 32) : Prop :=
  (∀ a x, ((![v123, v692] : Fin 2 → IVec S16 32) a x).toNat < S8x4096.size a)
theorem k0_idx410_inb : ∀ (v123 : IVec S16 32) (v692 : IVec S16 32) (k0_hw410 : k0_chk410 v123 v692), ∀ a x, ((![v123, v692] : Fin 2 → IVec S16 32) a x).toNat < S8x4096.size a := fun v123 v692 k0_hw410 => k0_hw410

def k0_chk411 (v123 : IVec S16 32) (v696 : IVec S16 32) : Prop :=
  (∀ a x, ((![v123, v696] : Fin 2 → IVec S16 32) a x).toNat < S8x4096.size a)
theorem k0_idx411_inb : ∀ (v123 : IVec S16 32) (v696 : IVec S16 32) (k0_hw411 : k0_chk411 v123 v696), ∀ a x, ((![v123, v696] : Fin 2 → IVec S16 32) a x).toNat < S8x4096.size a := fun v123 v696 k0_hw411 => k0_hw411

def k0_chk412 (v123 : IVec S16 32) (v700 : IVec S16 32) : Prop :=
  (∀ a x, ((![v123, v700] : Fin 2 → IVec S16 32) a x).toNat < S8x4096.size a)
theorem k0_idx412_inb : ∀ (v123 : IVec S16 32) (v700 : IVec S16 32) (k0_hw412 : k0_chk412 v123 v700), ∀ a x, ((![v123, v700] : Fin 2 → IVec S16 32) a x).toNat < S8x4096.size a := fun v123 v700 k0_hw412 => k0_hw412

def k0_chk413 (v123 : IVec S16 32) (v704 : IVec S16 32) : Prop :=
  (∀ a x, ((![v123, v704] : Fin 2 → IVec S16 32) a x).toNat < S8x4096.size a)
theorem k0_idx413_inb : ∀ (v123 : IVec S16 32) (v704 : IVec S16 32) (k0_hw413 : k0_chk413 v123 v704), ∀ a x, ((![v123, v704] : Fin 2 → IVec S16 32) a x).toNat < S8x4096.size a := fun v123 v704 k0_hw413 => k0_hw413

def k0_chk414 (v123 : IVec S16 32) (v708 : IVec S16 32) : Prop :=
  (∀ a x, ((![v123, v708] : Fin 2 → IVec S16 32) a x).toNat < S8x4096.size a)
theorem k0_idx414_inb : ∀ (v123 : IVec S16 32) (v708 : IVec S16 32) (k0_hw414 : k0_chk414 v123 v708), ∀ a x, ((![v123, v708] : Fin 2 → IVec S16 32) a x).toNat < S8x4096.size a := fun v123 v708 k0_hw414 => k0_hw414

def k0_chk415 (v123 : IVec S16 32) (v712 : IVec S16 32) : Prop :=
  (∀ a x, ((![v123, v712] : Fin 2 → IVec S16 32) a x).toNat < S8x4096.size a)
theorem k0_idx415_inb : ∀ (v123 : IVec S16 32) (v712 : IVec S16 32) (k0_hw415 : k0_chk415 v123 v712), ∀ a x, ((![v123, v712] : Fin 2 → IVec S16 32) a x).toNat < S8x4096.size a := fun v123 v712 k0_hw415 => k0_hw415

def k0_chk416 (v123 : IVec S16 32) (v716 : IVec S16 32) : Prop :=
  (∀ a x, ((![v123, v716] : Fin 2 → IVec S16 32) a x).toNat < S8x4096.size a)
theorem k0_idx416_inb : ∀ (v123 : IVec S16 32) (v716 : IVec S16 32) (k0_hw416 : k0_chk416 v123 v716), ∀ a x, ((![v123, v716] : Fin 2 → IVec S16 32) a x).toNat < S8x4096.size a := fun v123 v716 k0_hw416 => k0_hw416

def k0_chk417 (v123 : IVec S16 32) (v720 : IVec S16 32) : Prop :=
  (∀ a x, ((![v123, v720] : Fin 2 → IVec S16 32) a x).toNat < S8x4096.size a)
theorem k0_idx417_inb : ∀ (v123 : IVec S16 32) (v720 : IVec S16 32) (k0_hw417 : k0_chk417 v123 v720), ∀ a x, ((![v123, v720] : Fin 2 → IVec S16 32) a x).toNat < S8x4096.size a := fun v123 v720 k0_hw417 => k0_hw417

def k0_chk418 (v123 : IVec S16 32) (v724 : IVec S16 32) : Prop :=
  (∀ a x, ((![v123, v724] : Fin 2 → IVec S16 32) a x).toNat < S8x4096.size a)
theorem k0_idx418_inb : ∀ (v123 : IVec S16 32) (v724 : IVec S16 32) (k0_hw418 : k0_chk418 v123 v724), ∀ a x, ((![v123, v724] : Fin 2 → IVec S16 32) a x).toNat < S8x4096.size a := fun v123 v724 k0_hw418 => k0_hw418

def k0_chk419 (v123 : IVec S16 32) (v728 : IVec S16 32) : Prop :=
  (∀ a x, ((![v123, v728] : Fin 2 → IVec S16 32) a x).toNat < S8x4096.size a)
theorem k0_idx419_inb : ∀ (v123 : IVec S16 32) (v728 : IVec S16 32) (k0_hw419 : k0_chk419 v123 v728), ∀ a x, ((![v123, v728] : Fin 2 → IVec S16 32) a x).toNat < S8x4096.size a := fun v123 v728 k0_hw419 => k0_hw419

def k0_chk420 (v123 : IVec S16 32) (v732 : IVec S16 32) : Prop :=
  (∀ a x, ((![v123, v732] : Fin 2 → IVec S16 32) a x).toNat < S8x4096.size a)
theorem k0_idx420_inb : ∀ (v123 : IVec S16 32) (v732 : IVec S16 32) (k0_hw420 : k0_chk420 v123 v732), ∀ a x, ((![v123, v732] : Fin 2 → IVec S16 32) a x).toNat < S8x4096.size a := fun v123 v732 k0_hw420 => k0_hw420

def k0_chk421 (v123 : IVec S16 32) (v736 : IVec S16 32) : Prop :=
  (∀ a x, ((![v123, v736] : Fin 2 → IVec S16 32) a x).toNat < S8x4096.size a)
theorem k0_idx421_inb : ∀ (v123 : IVec S16 32) (v736 : IVec S16 32) (k0_hw421 : k0_chk421 v123 v736), ∀ a x, ((![v123, v736] : Fin 2 → IVec S16 32) a x).toNat < S8x4096.size a := fun v123 v736 k0_hw421 => k0_hw421

def k0_chk422 (v123 : IVec S16 32) (v740 : IVec S16 32) : Prop :=
  (∀ a x, ((![v123, v740] : Fin 2 → IVec S16 32) a x).toNat < S8x4096.size a)
theorem k0_idx422_inb : ∀ (v123 : IVec S16 32) (v740 : IVec S16 32) (k0_hw422 : k0_chk422 v123 v740), ∀ a x, ((![v123, v740] : Fin 2 → IVec S16 32) a x).toNat < S8x4096.size a := fun v123 v740 k0_hw422 => k0_hw422

def k0_chk423 (v123 : IVec S16 32) (v744 : IVec S16 32) : Prop :=
  (∀ a x, ((![v123, v744] : Fin 2 → IVec S16 32) a x).toNat < S8x4096.size a)
theorem k0_idx423_inb : ∀ (v123 : IVec S16 32) (v744 : IVec S16 32) (k0_hw423 : k0_chk423 v123 v744), ∀ a x, ((![v123, v744] : Fin 2 → IVec S16 32) a x).toNat < S8x4096.size a := fun v123 v744 k0_hw423 => k0_hw423

def k0_chk424 (v123 : IVec S16 32) (v748 : IVec S16 32) : Prop :=
  (∀ a x, ((![v123, v748] : Fin 2 → IVec S16 32) a x).toNat < S8x4096.size a)
theorem k0_idx424_inb : ∀ (v123 : IVec S16 32) (v748 : IVec S16 32) (k0_hw424 : k0_chk424 v123 v748), ∀ a x, ((![v123, v748] : Fin 2 → IVec S16 32) a x).toNat < S8x4096.size a := fun v123 v748 k0_hw424 => k0_hw424

def k0_chk425 (v123 : IVec S16 32) (v752 : IVec S16 32) : Prop :=
  (∀ a x, ((![v123, v752] : Fin 2 → IVec S16 32) a x).toNat < S8x4096.size a)
theorem k0_idx425_inb : ∀ (v123 : IVec S16 32) (v752 : IVec S16 32) (k0_hw425 : k0_chk425 v123 v752), ∀ a x, ((![v123, v752] : Fin 2 → IVec S16 32) a x).toNat < S8x4096.size a := fun v123 v752 k0_hw425 => k0_hw425

def k0_chk426 (v123 : IVec S16 32) (v756 : IVec S16 32) : Prop :=
  (∀ a x, ((![v123, v756] : Fin 2 → IVec S16 32) a x).toNat < S8x4096.size a)
theorem k0_idx426_inb : ∀ (v123 : IVec S16 32) (v756 : IVec S16 32) (k0_hw426 : k0_chk426 v123 v756), ∀ a x, ((![v123, v756] : Fin 2 → IVec S16 32) a x).toNat < S8x4096.size a := fun v123 v756 k0_hw426 => k0_hw426

def k0_chk427 (v123 : IVec S16 32) (v760 : IVec S16 32) : Prop :=
  (∀ a x, ((![v123, v760] : Fin 2 → IVec S16 32) a x).toNat < S8x4096.size a)
theorem k0_idx427_inb : ∀ (v123 : IVec S16 32) (v760 : IVec S16 32) (k0_hw427 : k0_chk427 v123 v760), ∀ a x, ((![v123, v760] : Fin 2 → IVec S16 32) a x).toNat < S8x4096.size a := fun v123 v760 k0_hw427 => k0_hw427

def k0_chk428 (v123 : IVec S16 32) (v764 : IVec S16 32) : Prop :=
  (∀ a x, ((![v123, v764] : Fin 2 → IVec S16 32) a x).toNat < S8x4096.size a)
theorem k0_idx428_inb : ∀ (v123 : IVec S16 32) (v764 : IVec S16 32) (k0_hw428 : k0_chk428 v123 v764), ∀ a x, ((![v123, v764] : Fin 2 → IVec S16 32) a x).toNat < S8x4096.size a := fun v123 v764 k0_hw428 => k0_hw428

def k0_chk429 (v123 : IVec S16 32) (v768 : IVec S16 32) : Prop :=
  (∀ a x, ((![v123, v768] : Fin 2 → IVec S16 32) a x).toNat < S8x128.size a)
theorem k0_idx429_inb : ∀ (v123 : IVec S16 32) (v768 : IVec S16 32) (k0_hw429 : k0_chk429 v123 v768), ∀ a x, ((![v123, v768] : Fin 2 → IVec S16 32) a x).toNat < S8x128.size a := fun v123 v768 k0_hw429 => k0_hw429

def k0_chk430 (v123 : IVec S16 32) (v770 : IVec S16 32) : Prop :=
  (∀ a x, ((![v123, v770] : Fin 2 → IVec S16 32) a x).toNat < S8x4096.size a)
theorem k0_idx430_inb : ∀ (v123 : IVec S16 32) (v770 : IVec S16 32) (k0_hw430 : k0_chk430 v123 v770), ∀ a x, ((![v123, v770] : Fin 2 → IVec S16 32) a x).toNat < S8x4096.size a := fun v123 v770 k0_hw430 => k0_hw430

def k0_chk431 (v123 : IVec S16 32) (v773 : IVec S16 32) : Prop :=
  (∀ a x, ((![v123, v773] : Fin 2 → IVec S16 32) a x).toNat < S8x4096.size a)
theorem k0_idx431_inb : ∀ (v123 : IVec S16 32) (v773 : IVec S16 32) (k0_hw431 : k0_chk431 v123 v773), ∀ a x, ((![v123, v773] : Fin 2 → IVec S16 32) a x).toNat < S8x4096.size a := fun v123 v773 k0_hw431 => k0_hw431

def k0_chk432 (v123 : IVec S16 32) (v777 : IVec S16 32) : Prop :=
  (∀ a x, ((![v123, v777] : Fin 2 → IVec S16 32) a x).toNat < S8x4096.size a)
theorem k0_idx432_inb : ∀ (v123 : IVec S16 32) (v777 : IVec S16 32) (k0_hw432 : k0_chk432 v123 v777), ∀ a x, ((![v123, v777] : Fin 2 → IVec S16 32) a x).toNat < S8x4096.size a := fun v123 v777 k0_hw432 => k0_hw432

def k0_chk433 (v123 : IVec S16 32) (v781 : IVec S16 32) : Prop :=
  (∀ a x, ((![v123, v781] : Fin 2 → IVec S16 32) a x).toNat < S8x4096.size a)
theorem k0_idx433_inb : ∀ (v123 : IVec S16 32) (v781 : IVec S16 32) (k0_hw433 : k0_chk433 v123 v781), ∀ a x, ((![v123, v781] : Fin 2 → IVec S16 32) a x).toNat < S8x4096.size a := fun v123 v781 k0_hw433 => k0_hw433

def k0_chk434 (v123 : IVec S16 32) (v785 : IVec S16 32) : Prop :=
  (∀ a x, ((![v123, v785] : Fin 2 → IVec S16 32) a x).toNat < S8x4096.size a)
theorem k0_idx434_inb : ∀ (v123 : IVec S16 32) (v785 : IVec S16 32) (k0_hw434 : k0_chk434 v123 v785), ∀ a x, ((![v123, v785] : Fin 2 → IVec S16 32) a x).toNat < S8x4096.size a := fun v123 v785 k0_hw434 => k0_hw434

def k0_chk435 (v123 : IVec S16 32) (v789 : IVec S16 32) : Prop :=
  (∀ a x, ((![v123, v789] : Fin 2 → IVec S16 32) a x).toNat < S8x4096.size a)
theorem k0_idx435_inb : ∀ (v123 : IVec S16 32) (v789 : IVec S16 32) (k0_hw435 : k0_chk435 v123 v789), ∀ a x, ((![v123, v789] : Fin 2 → IVec S16 32) a x).toNat < S8x4096.size a := fun v123 v789 k0_hw435 => k0_hw435

def k0_chk436 (v123 : IVec S16 32) (v793 : IVec S16 32) : Prop :=
  (∀ a x, ((![v123, v793] : Fin 2 → IVec S16 32) a x).toNat < S8x4096.size a)
theorem k0_idx436_inb : ∀ (v123 : IVec S16 32) (v793 : IVec S16 32) (k0_hw436 : k0_chk436 v123 v793), ∀ a x, ((![v123, v793] : Fin 2 → IVec S16 32) a x).toNat < S8x4096.size a := fun v123 v793 k0_hw436 => k0_hw436

def k0_chk437 (v123 : IVec S16 32) (v797 : IVec S16 32) : Prop :=
  (∀ a x, ((![v123, v797] : Fin 2 → IVec S16 32) a x).toNat < S8x4096.size a)
theorem k0_idx437_inb : ∀ (v123 : IVec S16 32) (v797 : IVec S16 32) (k0_hw437 : k0_chk437 v123 v797), ∀ a x, ((![v123, v797] : Fin 2 → IVec S16 32) a x).toNat < S8x4096.size a := fun v123 v797 k0_hw437 => k0_hw437

def k0_chk438 (v123 : IVec S16 32) (v801 : IVec S16 32) : Prop :=
  (∀ a x, ((![v123, v801] : Fin 2 → IVec S16 32) a x).toNat < S8x4096.size a)
theorem k0_idx438_inb : ∀ (v123 : IVec S16 32) (v801 : IVec S16 32) (k0_hw438 : k0_chk438 v123 v801), ∀ a x, ((![v123, v801] : Fin 2 → IVec S16 32) a x).toNat < S8x4096.size a := fun v123 v801 k0_hw438 => k0_hw438

def k0_chk439 (v123 : IVec S16 32) (v805 : IVec S16 32) : Prop :=
  (∀ a x, ((![v123, v805] : Fin 2 → IVec S16 32) a x).toNat < S8x4096.size a)
theorem k0_idx439_inb : ∀ (v123 : IVec S16 32) (v805 : IVec S16 32) (k0_hw439 : k0_chk439 v123 v805), ∀ a x, ((![v123, v805] : Fin 2 → IVec S16 32) a x).toNat < S8x4096.size a := fun v123 v805 k0_hw439 => k0_hw439

def k0_chk440 (v123 : IVec S16 32) (v809 : IVec S16 32) : Prop :=
  (∀ a x, ((![v123, v809] : Fin 2 → IVec S16 32) a x).toNat < S8x4096.size a)
theorem k0_idx440_inb : ∀ (v123 : IVec S16 32) (v809 : IVec S16 32) (k0_hw440 : k0_chk440 v123 v809), ∀ a x, ((![v123, v809] : Fin 2 → IVec S16 32) a x).toNat < S8x4096.size a := fun v123 v809 k0_hw440 => k0_hw440

def k0_chk441 (v123 : IVec S16 32) (v813 : IVec S16 32) : Prop :=
  (∀ a x, ((![v123, v813] : Fin 2 → IVec S16 32) a x).toNat < S8x4096.size a)
theorem k0_idx441_inb : ∀ (v123 : IVec S16 32) (v813 : IVec S16 32) (k0_hw441 : k0_chk441 v123 v813), ∀ a x, ((![v123, v813] : Fin 2 → IVec S16 32) a x).toNat < S8x4096.size a := fun v123 v813 k0_hw441 => k0_hw441

def k0_chk442 (v123 : IVec S16 32) (v817 : IVec S16 32) : Prop :=
  (∀ a x, ((![v123, v817] : Fin 2 → IVec S16 32) a x).toNat < S8x4096.size a)
theorem k0_idx442_inb : ∀ (v123 : IVec S16 32) (v817 : IVec S16 32) (k0_hw442 : k0_chk442 v123 v817), ∀ a x, ((![v123, v817] : Fin 2 → IVec S16 32) a x).toNat < S8x4096.size a := fun v123 v817 k0_hw442 => k0_hw442

def k0_chk443 (v123 : IVec S16 32) (v821 : IVec S16 32) : Prop :=
  (∀ a x, ((![v123, v821] : Fin 2 → IVec S16 32) a x).toNat < S8x4096.size a)
theorem k0_idx443_inb : ∀ (v123 : IVec S16 32) (v821 : IVec S16 32) (k0_hw443 : k0_chk443 v123 v821), ∀ a x, ((![v123, v821] : Fin 2 → IVec S16 32) a x).toNat < S8x4096.size a := fun v123 v821 k0_hw443 => k0_hw443

def k0_chk444 (v123 : IVec S16 32) (v825 : IVec S16 32) : Prop :=
  (∀ a x, ((![v123, v825] : Fin 2 → IVec S16 32) a x).toNat < S8x4096.size a)
theorem k0_idx444_inb : ∀ (v123 : IVec S16 32) (v825 : IVec S16 32) (k0_hw444 : k0_chk444 v123 v825), ∀ a x, ((![v123, v825] : Fin 2 → IVec S16 32) a x).toNat < S8x4096.size a := fun v123 v825 k0_hw444 => k0_hw444

def k0_chk445 (v123 : IVec S16 32) (v829 : IVec S16 32) : Prop :=
  (∀ a x, ((![v123, v829] : Fin 2 → IVec S16 32) a x).toNat < S8x4096.size a)
theorem k0_idx445_inb : ∀ (v123 : IVec S16 32) (v829 : IVec S16 32) (k0_hw445 : k0_chk445 v123 v829), ∀ a x, ((![v123, v829] : Fin 2 → IVec S16 32) a x).toNat < S8x4096.size a := fun v123 v829 k0_hw445 => k0_hw445

def k0_chk446 (v123 : IVec S16 32) (v833 : IVec S16 32) : Prop :=
  (∀ a x, ((![v123, v833] : Fin 2 → IVec S16 32) a x).toNat < S8x4096.size a)
theorem k0_idx446_inb : ∀ (v123 : IVec S16 32) (v833 : IVec S16 32) (k0_hw446 : k0_chk446 v123 v833), ∀ a x, ((![v123, v833] : Fin 2 → IVec S16 32) a x).toNat < S8x4096.size a := fun v123 v833 k0_hw446 => k0_hw446

def k0_chk447 (v123 : IVec S16 32) (v837 : IVec S16 32) : Prop :=
  (∀ a x, ((![v123, v837] : Fin 2 → IVec S16 32) a x).toNat < S8x4096.size a)
theorem k0_idx447_inb : ∀ (v123 : IVec S16 32) (v837 : IVec S16 32) (k0_hw447 : k0_chk447 v123 v837), ∀ a x, ((![v123, v837] : Fin 2 → IVec S16 32) a x).toNat < S8x4096.size a := fun v123 v837 k0_hw447 => k0_hw447

def k0_chk448 (v123 : IVec S16 32) (v841 : IVec S16 32) : Prop :=
  (∀ a x, ((![v123, v841] : Fin 2 → IVec S16 32) a x).toNat < S8x4096.size a)
theorem k0_idx448_inb : ∀ (v123 : IVec S16 32) (v841 : IVec S16 32) (k0_hw448 : k0_chk448 v123 v841), ∀ a x, ((![v123, v841] : Fin 2 → IVec S16 32) a x).toNat < S8x4096.size a := fun v123 v841 k0_hw448 => k0_hw448

def k0_chk449 (v123 : IVec S16 32) (v845 : IVec S16 32) : Prop :=
  (∀ a x, ((![v123, v845] : Fin 2 → IVec S16 32) a x).toNat < S8x4096.size a)
theorem k0_idx449_inb : ∀ (v123 : IVec S16 32) (v845 : IVec S16 32) (k0_hw449 : k0_chk449 v123 v845), ∀ a x, ((![v123, v845] : Fin 2 → IVec S16 32) a x).toNat < S8x4096.size a := fun v123 v845 k0_hw449 => k0_hw449

def k0_chk450 (v123 : IVec S16 32) (v849 : IVec S16 32) : Prop :=
  (∀ a x, ((![v123, v849] : Fin 2 → IVec S16 32) a x).toNat < S8x4096.size a)
theorem k0_idx450_inb : ∀ (v123 : IVec S16 32) (v849 : IVec S16 32) (k0_hw450 : k0_chk450 v123 v849), ∀ a x, ((![v123, v849] : Fin 2 → IVec S16 32) a x).toNat < S8x4096.size a := fun v123 v849 k0_hw450 => k0_hw450

def k0_chk451 (v123 : IVec S16 32) (v853 : IVec S16 32) : Prop :=
  (∀ a x, ((![v123, v853] : Fin 2 → IVec S16 32) a x).toNat < S8x4096.size a)
theorem k0_idx451_inb : ∀ (v123 : IVec S16 32) (v853 : IVec S16 32) (k0_hw451 : k0_chk451 v123 v853), ∀ a x, ((![v123, v853] : Fin 2 → IVec S16 32) a x).toNat < S8x4096.size a := fun v123 v853 k0_hw451 => k0_hw451

def k0_chk452 (v123 : IVec S16 32) (v857 : IVec S16 32) : Prop :=
  (∀ a x, ((![v123, v857] : Fin 2 → IVec S16 32) a x).toNat < S8x4096.size a)
theorem k0_idx452_inb : ∀ (v123 : IVec S16 32) (v857 : IVec S16 32) (k0_hw452 : k0_chk452 v123 v857), ∀ a x, ((![v123, v857] : Fin 2 → IVec S16 32) a x).toNat < S8x4096.size a := fun v123 v857 k0_hw452 => k0_hw452

def k0_chk453 (v123 : IVec S16 32) (v861 : IVec S16 32) : Prop :=
  (∀ a x, ((![v123, v861] : Fin 2 → IVec S16 32) a x).toNat < S8x4096.size a)
theorem k0_idx453_inb : ∀ (v123 : IVec S16 32) (v861 : IVec S16 32) (k0_hw453 : k0_chk453 v123 v861), ∀ a x, ((![v123, v861] : Fin 2 → IVec S16 32) a x).toNat < S8x4096.size a := fun v123 v861 k0_hw453 => k0_hw453

def k0_chk454 (v123 : IVec S16 32) (v865 : IVec S16 32) : Prop :=
  (∀ a x, ((![v123, v865] : Fin 2 → IVec S16 32) a x).toNat < S8x4096.size a)
theorem k0_idx454_inb : ∀ (v123 : IVec S16 32) (v865 : IVec S16 32) (k0_hw454 : k0_chk454 v123 v865), ∀ a x, ((![v123, v865] : Fin 2 → IVec S16 32) a x).toNat < S8x4096.size a := fun v123 v865 k0_hw454 => k0_hw454

def k0_chk455 (v123 : IVec S16 32) (v869 : IVec S16 32) : Prop :=
  (∀ a x, ((![v123, v869] : Fin 2 → IVec S16 32) a x).toNat < S8x4096.size a)
theorem k0_idx455_inb : ∀ (v123 : IVec S16 32) (v869 : IVec S16 32) (k0_hw455 : k0_chk455 v123 v869), ∀ a x, ((![v123, v869] : Fin 2 → IVec S16 32) a x).toNat < S8x4096.size a := fun v123 v869 k0_hw455 => k0_hw455

def k0_chk456 (v123 : IVec S16 32) (v873 : IVec S16 32) : Prop :=
  (∀ a x, ((![v123, v873] : Fin 2 → IVec S16 32) a x).toNat < S8x4096.size a)
theorem k0_idx456_inb : ∀ (v123 : IVec S16 32) (v873 : IVec S16 32) (k0_hw456 : k0_chk456 v123 v873), ∀ a x, ((![v123, v873] : Fin 2 → IVec S16 32) a x).toNat < S8x4096.size a := fun v123 v873 k0_hw456 => k0_hw456

def k0_chk457 (v123 : IVec S16 32) (v877 : IVec S16 32) : Prop :=
  (∀ a x, ((![v123, v877] : Fin 2 → IVec S16 32) a x).toNat < S8x4096.size a)
theorem k0_idx457_inb : ∀ (v123 : IVec S16 32) (v877 : IVec S16 32) (k0_hw457 : k0_chk457 v123 v877), ∀ a x, ((![v123, v877] : Fin 2 → IVec S16 32) a x).toNat < S8x4096.size a := fun v123 v877 k0_hw457 => k0_hw457

def k0_chk458 (v123 : IVec S16 32) (v881 : IVec S16 32) : Prop :=
  (∀ a x, ((![v123, v881] : Fin 2 → IVec S16 32) a x).toNat < S8x4096.size a)
theorem k0_idx458_inb : ∀ (v123 : IVec S16 32) (v881 : IVec S16 32) (k0_hw458 : k0_chk458 v123 v881), ∀ a x, ((![v123, v881] : Fin 2 → IVec S16 32) a x).toNat < S8x4096.size a := fun v123 v881 k0_hw458 => k0_hw458

def k0_chk459 (v123 : IVec S16 32) (v885 : IVec S16 32) : Prop :=
  (∀ a x, ((![v123, v885] : Fin 2 → IVec S16 32) a x).toNat < S8x4096.size a)
theorem k0_idx459_inb : ∀ (v123 : IVec S16 32) (v885 : IVec S16 32) (k0_hw459 : k0_chk459 v123 v885), ∀ a x, ((![v123, v885] : Fin 2 → IVec S16 32) a x).toNat < S8x4096.size a := fun v123 v885 k0_hw459 => k0_hw459

def k0_chk460 (v123 : IVec S16 32) (v889 : IVec S16 32) : Prop :=
  (∀ a x, ((![v123, v889] : Fin 2 → IVec S16 32) a x).toNat < S8x4096.size a)
theorem k0_idx460_inb : ∀ (v123 : IVec S16 32) (v889 : IVec S16 32) (k0_hw460 : k0_chk460 v123 v889), ∀ a x, ((![v123, v889] : Fin 2 → IVec S16 32) a x).toNat < S8x4096.size a := fun v123 v889 k0_hw460 => k0_hw460

def k0_chk461 (v123 : IVec S16 32) (v893 : IVec S16 32) : Prop :=
  (∀ a x, ((![v123, v893] : Fin 2 → IVec S16 32) a x).toNat < S8x4096.size a)
theorem k0_idx461_inb : ∀ (v123 : IVec S16 32) (v893 : IVec S16 32) (k0_hw461 : k0_chk461 v123 v893), ∀ a x, ((![v123, v893] : Fin 2 → IVec S16 32) a x).toNat < S8x4096.size a := fun v123 v893 k0_hw461 => k0_hw461

def k0_chk462 (v123 : IVec S16 32) (v897 : IVec S16 32) : Prop :=
  (∀ a x, ((![v123, v897] : Fin 2 → IVec S16 32) a x).toNat < S8x128.size a)
theorem k0_idx462_inb : ∀ (v123 : IVec S16 32) (v897 : IVec S16 32) (k0_hw462 : k0_chk462 v123 v897), ∀ a x, ((![v123, v897] : Fin 2 → IVec S16 32) a x).toNat < S8x128.size a := fun v123 v897 k0_hw462 => k0_hw462

def k0_chk463 (v123 : IVec S16 32) (v899 : IVec S16 32) : Prop :=
  (∀ a x, ((![v123, v899] : Fin 2 → IVec S16 32) a x).toNat < S8x4096.size a)
theorem k0_idx463_inb : ∀ (v123 : IVec S16 32) (v899 : IVec S16 32) (k0_hw463 : k0_chk463 v123 v899), ∀ a x, ((![v123, v899] : Fin 2 → IVec S16 32) a x).toNat < S8x4096.size a := fun v123 v899 k0_hw463 => k0_hw463

def k0_chk464 (v123 : IVec S16 32) (v902 : IVec S16 32) : Prop :=
  (∀ a x, ((![v123, v902] : Fin 2 → IVec S16 32) a x).toNat < S8x4096.size a)
theorem k0_idx464_inb : ∀ (v123 : IVec S16 32) (v902 : IVec S16 32) (k0_hw464 : k0_chk464 v123 v902), ∀ a x, ((![v123, v902] : Fin 2 → IVec S16 32) a x).toNat < S8x4096.size a := fun v123 v902 k0_hw464 => k0_hw464

def k0_chk465 (v123 : IVec S16 32) (v906 : IVec S16 32) : Prop :=
  (∀ a x, ((![v123, v906] : Fin 2 → IVec S16 32) a x).toNat < S8x4096.size a)
theorem k0_idx465_inb : ∀ (v123 : IVec S16 32) (v906 : IVec S16 32) (k0_hw465 : k0_chk465 v123 v906), ∀ a x, ((![v123, v906] : Fin 2 → IVec S16 32) a x).toNat < S8x4096.size a := fun v123 v906 k0_hw465 => k0_hw465

def k0_chk466 (v123 : IVec S16 32) (v910 : IVec S16 32) : Prop :=
  (∀ a x, ((![v123, v910] : Fin 2 → IVec S16 32) a x).toNat < S8x4096.size a)
theorem k0_idx466_inb : ∀ (v123 : IVec S16 32) (v910 : IVec S16 32) (k0_hw466 : k0_chk466 v123 v910), ∀ a x, ((![v123, v910] : Fin 2 → IVec S16 32) a x).toNat < S8x4096.size a := fun v123 v910 k0_hw466 => k0_hw466

def k0_chk467 (v123 : IVec S16 32) (v914 : IVec S16 32) : Prop :=
  (∀ a x, ((![v123, v914] : Fin 2 → IVec S16 32) a x).toNat < S8x4096.size a)
theorem k0_idx467_inb : ∀ (v123 : IVec S16 32) (v914 : IVec S16 32) (k0_hw467 : k0_chk467 v123 v914), ∀ a x, ((![v123, v914] : Fin 2 → IVec S16 32) a x).toNat < S8x4096.size a := fun v123 v914 k0_hw467 => k0_hw467

def k0_chk468 (v123 : IVec S16 32) (v918 : IVec S16 32) : Prop :=
  (∀ a x, ((![v123, v918] : Fin 2 → IVec S16 32) a x).toNat < S8x4096.size a)
theorem k0_idx468_inb : ∀ (v123 : IVec S16 32) (v918 : IVec S16 32) (k0_hw468 : k0_chk468 v123 v918), ∀ a x, ((![v123, v918] : Fin 2 → IVec S16 32) a x).toNat < S8x4096.size a := fun v123 v918 k0_hw468 => k0_hw468

def k0_chk469 (v123 : IVec S16 32) (v922 : IVec S16 32) : Prop :=
  (∀ a x, ((![v123, v922] : Fin 2 → IVec S16 32) a x).toNat < S8x4096.size a)
theorem k0_idx469_inb : ∀ (v123 : IVec S16 32) (v922 : IVec S16 32) (k0_hw469 : k0_chk469 v123 v922), ∀ a x, ((![v123, v922] : Fin 2 → IVec S16 32) a x).toNat < S8x4096.size a := fun v123 v922 k0_hw469 => k0_hw469

def k0_chk470 (v123 : IVec S16 32) (v926 : IVec S16 32) : Prop :=
  (∀ a x, ((![v123, v926] : Fin 2 → IVec S16 32) a x).toNat < S8x4096.size a)
theorem k0_idx470_inb : ∀ (v123 : IVec S16 32) (v926 : IVec S16 32) (k0_hw470 : k0_chk470 v123 v926), ∀ a x, ((![v123, v926] : Fin 2 → IVec S16 32) a x).toNat < S8x4096.size a := fun v123 v926 k0_hw470 => k0_hw470

def k0_chk471 (v123 : IVec S16 32) (v930 : IVec S16 32) : Prop :=
  (∀ a x, ((![v123, v930] : Fin 2 → IVec S16 32) a x).toNat < S8x4096.size a)
theorem k0_idx471_inb : ∀ (v123 : IVec S16 32) (v930 : IVec S16 32) (k0_hw471 : k0_chk471 v123 v930), ∀ a x, ((![v123, v930] : Fin 2 → IVec S16 32) a x).toNat < S8x4096.size a := fun v123 v930 k0_hw471 => k0_hw471

def k0_chk472 (v123 : IVec S16 32) (v934 : IVec S16 32) : Prop :=
  (∀ a x, ((![v123, v934] : Fin 2 → IVec S16 32) a x).toNat < S8x4096.size a)
theorem k0_idx472_inb : ∀ (v123 : IVec S16 32) (v934 : IVec S16 32) (k0_hw472 : k0_chk472 v123 v934), ∀ a x, ((![v123, v934] : Fin 2 → IVec S16 32) a x).toNat < S8x4096.size a := fun v123 v934 k0_hw472 => k0_hw472

def k0_chk473 (v123 : IVec S16 32) (v938 : IVec S16 32) : Prop :=
  (∀ a x, ((![v123, v938] : Fin 2 → IVec S16 32) a x).toNat < S8x4096.size a)
theorem k0_idx473_inb : ∀ (v123 : IVec S16 32) (v938 : IVec S16 32) (k0_hw473 : k0_chk473 v123 v938), ∀ a x, ((![v123, v938] : Fin 2 → IVec S16 32) a x).toNat < S8x4096.size a := fun v123 v938 k0_hw473 => k0_hw473

def k0_chk474 (v123 : IVec S16 32) (v942 : IVec S16 32) : Prop :=
  (∀ a x, ((![v123, v942] : Fin 2 → IVec S16 32) a x).toNat < S8x4096.size a)
theorem k0_idx474_inb : ∀ (v123 : IVec S16 32) (v942 : IVec S16 32) (k0_hw474 : k0_chk474 v123 v942), ∀ a x, ((![v123, v942] : Fin 2 → IVec S16 32) a x).toNat < S8x4096.size a := fun v123 v942 k0_hw474 => k0_hw474

def k0_chk475 (v123 : IVec S16 32) (v946 : IVec S16 32) : Prop :=
  (∀ a x, ((![v123, v946] : Fin 2 → IVec S16 32) a x).toNat < S8x4096.size a)
theorem k0_idx475_inb : ∀ (v123 : IVec S16 32) (v946 : IVec S16 32) (k0_hw475 : k0_chk475 v123 v946), ∀ a x, ((![v123, v946] : Fin 2 → IVec S16 32) a x).toNat < S8x4096.size a := fun v123 v946 k0_hw475 => k0_hw475

def k0_chk476 (v123 : IVec S16 32) (v950 : IVec S16 32) : Prop :=
  (∀ a x, ((![v123, v950] : Fin 2 → IVec S16 32) a x).toNat < S8x4096.size a)
theorem k0_idx476_inb : ∀ (v123 : IVec S16 32) (v950 : IVec S16 32) (k0_hw476 : k0_chk476 v123 v950), ∀ a x, ((![v123, v950] : Fin 2 → IVec S16 32) a x).toNat < S8x4096.size a := fun v123 v950 k0_hw476 => k0_hw476

def k0_chk477 (v123 : IVec S16 32) (v954 : IVec S16 32) : Prop :=
  (∀ a x, ((![v123, v954] : Fin 2 → IVec S16 32) a x).toNat < S8x4096.size a)
theorem k0_idx477_inb : ∀ (v123 : IVec S16 32) (v954 : IVec S16 32) (k0_hw477 : k0_chk477 v123 v954), ∀ a x, ((![v123, v954] : Fin 2 → IVec S16 32) a x).toNat < S8x4096.size a := fun v123 v954 k0_hw477 => k0_hw477

def k0_chk478 (v123 : IVec S16 32) (v958 : IVec S16 32) : Prop :=
  (∀ a x, ((![v123, v958] : Fin 2 → IVec S16 32) a x).toNat < S8x4096.size a)
theorem k0_idx478_inb : ∀ (v123 : IVec S16 32) (v958 : IVec S16 32) (k0_hw478 : k0_chk478 v123 v958), ∀ a x, ((![v123, v958] : Fin 2 → IVec S16 32) a x).toNat < S8x4096.size a := fun v123 v958 k0_hw478 => k0_hw478

def k0_chk479 (v123 : IVec S16 32) (v962 : IVec S16 32) : Prop :=
  (∀ a x, ((![v123, v962] : Fin 2 → IVec S16 32) a x).toNat < S8x4096.size a)
theorem k0_idx479_inb : ∀ (v123 : IVec S16 32) (v962 : IVec S16 32) (k0_hw479 : k0_chk479 v123 v962), ∀ a x, ((![v123, v962] : Fin 2 → IVec S16 32) a x).toNat < S8x4096.size a := fun v123 v962 k0_hw479 => k0_hw479

def k0_chk480 (v123 : IVec S16 32) (v966 : IVec S16 32) : Prop :=
  (∀ a x, ((![v123, v966] : Fin 2 → IVec S16 32) a x).toNat < S8x4096.size a)
theorem k0_idx480_inb : ∀ (v123 : IVec S16 32) (v966 : IVec S16 32) (k0_hw480 : k0_chk480 v123 v966), ∀ a x, ((![v123, v966] : Fin 2 → IVec S16 32) a x).toNat < S8x4096.size a := fun v123 v966 k0_hw480 => k0_hw480

def k0_chk481 (v123 : IVec S16 32) (v970 : IVec S16 32) : Prop :=
  (∀ a x, ((![v123, v970] : Fin 2 → IVec S16 32) a x).toNat < S8x4096.size a)
theorem k0_idx481_inb : ∀ (v123 : IVec S16 32) (v970 : IVec S16 32) (k0_hw481 : k0_chk481 v123 v970), ∀ a x, ((![v123, v970] : Fin 2 → IVec S16 32) a x).toNat < S8x4096.size a := fun v123 v970 k0_hw481 => k0_hw481

def k0_chk482 (v123 : IVec S16 32) (v974 : IVec S16 32) : Prop :=
  (∀ a x, ((![v123, v974] : Fin 2 → IVec S16 32) a x).toNat < S8x4096.size a)
theorem k0_idx482_inb : ∀ (v123 : IVec S16 32) (v974 : IVec S16 32) (k0_hw482 : k0_chk482 v123 v974), ∀ a x, ((![v123, v974] : Fin 2 → IVec S16 32) a x).toNat < S8x4096.size a := fun v123 v974 k0_hw482 => k0_hw482

def k0_chk483 (v123 : IVec S16 32) (v978 : IVec S16 32) : Prop :=
  (∀ a x, ((![v123, v978] : Fin 2 → IVec S16 32) a x).toNat < S8x4096.size a)
theorem k0_idx483_inb : ∀ (v123 : IVec S16 32) (v978 : IVec S16 32) (k0_hw483 : k0_chk483 v123 v978), ∀ a x, ((![v123, v978] : Fin 2 → IVec S16 32) a x).toNat < S8x4096.size a := fun v123 v978 k0_hw483 => k0_hw483

def k0_chk484 (v123 : IVec S16 32) (v982 : IVec S16 32) : Prop :=
  (∀ a x, ((![v123, v982] : Fin 2 → IVec S16 32) a x).toNat < S8x4096.size a)
theorem k0_idx484_inb : ∀ (v123 : IVec S16 32) (v982 : IVec S16 32) (k0_hw484 : k0_chk484 v123 v982), ∀ a x, ((![v123, v982] : Fin 2 → IVec S16 32) a x).toNat < S8x4096.size a := fun v123 v982 k0_hw484 => k0_hw484

def k0_chk485 (v123 : IVec S16 32) (v986 : IVec S16 32) : Prop :=
  (∀ a x, ((![v123, v986] : Fin 2 → IVec S16 32) a x).toNat < S8x4096.size a)
theorem k0_idx485_inb : ∀ (v123 : IVec S16 32) (v986 : IVec S16 32) (k0_hw485 : k0_chk485 v123 v986), ∀ a x, ((![v123, v986] : Fin 2 → IVec S16 32) a x).toNat < S8x4096.size a := fun v123 v986 k0_hw485 => k0_hw485

def k0_chk486 (v123 : IVec S16 32) (v990 : IVec S16 32) : Prop :=
  (∀ a x, ((![v123, v990] : Fin 2 → IVec S16 32) a x).toNat < S8x4096.size a)
theorem k0_idx486_inb : ∀ (v123 : IVec S16 32) (v990 : IVec S16 32) (k0_hw486 : k0_chk486 v123 v990), ∀ a x, ((![v123, v990] : Fin 2 → IVec S16 32) a x).toNat < S8x4096.size a := fun v123 v990 k0_hw486 => k0_hw486

def k0_chk487 (v123 : IVec S16 32) (v994 : IVec S16 32) : Prop :=
  (∀ a x, ((![v123, v994] : Fin 2 → IVec S16 32) a x).toNat < S8x4096.size a)
theorem k0_idx487_inb : ∀ (v123 : IVec S16 32) (v994 : IVec S16 32) (k0_hw487 : k0_chk487 v123 v994), ∀ a x, ((![v123, v994] : Fin 2 → IVec S16 32) a x).toNat < S8x4096.size a := fun v123 v994 k0_hw487 => k0_hw487

def k0_chk488 (v123 : IVec S16 32) (v998 : IVec S16 32) : Prop :=
  (∀ a x, ((![v123, v998] : Fin 2 → IVec S16 32) a x).toNat < S8x4096.size a)
theorem k0_idx488_inb : ∀ (v123 : IVec S16 32) (v998 : IVec S16 32) (k0_hw488 : k0_chk488 v123 v998), ∀ a x, ((![v123, v998] : Fin 2 → IVec S16 32) a x).toNat < S8x4096.size a := fun v123 v998 k0_hw488 => k0_hw488

def k0_chk489 (v123 : IVec S16 32) (v1002 : IVec S16 32) : Prop :=
  (∀ a x, ((![v123, v1002] : Fin 2 → IVec S16 32) a x).toNat < S8x4096.size a)
theorem k0_idx489_inb : ∀ (v123 : IVec S16 32) (v1002 : IVec S16 32) (k0_hw489 : k0_chk489 v123 v1002), ∀ a x, ((![v123, v1002] : Fin 2 → IVec S16 32) a x).toNat < S8x4096.size a := fun v123 v1002 k0_hw489 => k0_hw489

def k0_chk490 (v123 : IVec S16 32) (v1006 : IVec S16 32) : Prop :=
  (∀ a x, ((![v123, v1006] : Fin 2 → IVec S16 32) a x).toNat < S8x4096.size a)
theorem k0_idx490_inb : ∀ (v123 : IVec S16 32) (v1006 : IVec S16 32) (k0_hw490 : k0_chk490 v123 v1006), ∀ a x, ((![v123, v1006] : Fin 2 → IVec S16 32) a x).toNat < S8x4096.size a := fun v123 v1006 k0_hw490 => k0_hw490

def k0_chk491 (v123 : IVec S16 32) (v1010 : IVec S16 32) : Prop :=
  (∀ a x, ((![v123, v1010] : Fin 2 → IVec S16 32) a x).toNat < S8x4096.size a)
theorem k0_idx491_inb : ∀ (v123 : IVec S16 32) (v1010 : IVec S16 32) (k0_hw491 : k0_chk491 v123 v1010), ∀ a x, ((![v123, v1010] : Fin 2 → IVec S16 32) a x).toNat < S8x4096.size a := fun v123 v1010 k0_hw491 => k0_hw491

def k0_chk492 (v123 : IVec S16 32) (v1014 : IVec S16 32) : Prop :=
  (∀ a x, ((![v123, v1014] : Fin 2 → IVec S16 32) a x).toNat < S8x4096.size a)
theorem k0_idx492_inb : ∀ (v123 : IVec S16 32) (v1014 : IVec S16 32) (k0_hw492 : k0_chk492 v123 v1014), ∀ a x, ((![v123, v1014] : Fin 2 → IVec S16 32) a x).toNat < S8x4096.size a := fun v123 v1014 k0_hw492 => k0_hw492

def k0_chk493 (v123 : IVec S16 32) (v1018 : IVec S16 32) : Prop :=
  (∀ a x, ((![v123, v1018] : Fin 2 → IVec S16 32) a x).toNat < S8x4096.size a)
theorem k0_idx493_inb : ∀ (v123 : IVec S16 32) (v1018 : IVec S16 32) (k0_hw493 : k0_chk493 v123 v1018), ∀ a x, ((![v123, v1018] : Fin 2 → IVec S16 32) a x).toNat < S8x4096.size a := fun v123 v1018 k0_hw493 => k0_hw493

def k0_chk494 (v123 : IVec S16 32) (v1022 : IVec S16 32) : Prop :=
  (∀ a x, ((![v123, v1022] : Fin 2 → IVec S16 32) a x).toNat < S8x4096.size a)
theorem k0_idx494_inb : ∀ (v123 : IVec S16 32) (v1022 : IVec S16 32) (k0_hw494 : k0_chk494 v123 v1022), ∀ a x, ((![v123, v1022] : Fin 2 → IVec S16 32) a x).toNat < S8x4096.size a := fun v123 v1022 k0_hw494 => k0_hw494

def k0_chk495 (v123 : IVec S16 32) (v1026 : IVec S16 32) : Prop :=
  (∀ a x, ((![v123, v1026] : Fin 2 → IVec S16 32) a x).toNat < S8x128.size a)
theorem k0_idx495_inb : ∀ (v123 : IVec S16 32) (v1026 : IVec S16 32) (k0_hw495 : k0_chk495 v123 v1026), ∀ a x, ((![v123, v1026] : Fin 2 → IVec S16 32) a x).toNat < S8x128.size a := fun v123 v1026 k0_hw495 => k0_hw495

def k0_chk496 (v123 : IVec S16 32) (v1028 : IVec S16 32) : Prop :=
  (∀ a x, ((![v123, v1028] : Fin 2 → IVec S16 32) a x).toNat < S8x4096.size a)
theorem k0_idx496_inb : ∀ (v123 : IVec S16 32) (v1028 : IVec S16 32) (k0_hw496 : k0_chk496 v123 v1028), ∀ a x, ((![v123, v1028] : Fin 2 → IVec S16 32) a x).toNat < S8x4096.size a := fun v123 v1028 k0_hw496 => k0_hw496

def k0_chk497 (v123 : IVec S16 32) (v1031 : IVec S16 32) : Prop :=
  (∀ a x, ((![v123, v1031] : Fin 2 → IVec S16 32) a x).toNat < S8x4096.size a)
theorem k0_idx497_inb : ∀ (v123 : IVec S16 32) (v1031 : IVec S16 32) (k0_hw497 : k0_chk497 v123 v1031), ∀ a x, ((![v123, v1031] : Fin 2 → IVec S16 32) a x).toNat < S8x4096.size a := fun v123 v1031 k0_hw497 => k0_hw497

def k0_chk498 (v123 : IVec S16 32) (v1035 : IVec S16 32) : Prop :=
  (∀ a x, ((![v123, v1035] : Fin 2 → IVec S16 32) a x).toNat < S8x4096.size a)
theorem k0_idx498_inb : ∀ (v123 : IVec S16 32) (v1035 : IVec S16 32) (k0_hw498 : k0_chk498 v123 v1035), ∀ a x, ((![v123, v1035] : Fin 2 → IVec S16 32) a x).toNat < S8x4096.size a := fun v123 v1035 k0_hw498 => k0_hw498

def k0_chk499 (v123 : IVec S16 32) (v1039 : IVec S16 32) : Prop :=
  (∀ a x, ((![v123, v1039] : Fin 2 → IVec S16 32) a x).toNat < S8x4096.size a)
theorem k0_idx499_inb : ∀ (v123 : IVec S16 32) (v1039 : IVec S16 32) (k0_hw499 : k0_chk499 v123 v1039), ∀ a x, ((![v123, v1039] : Fin 2 → IVec S16 32) a x).toNat < S8x4096.size a := fun v123 v1039 k0_hw499 => k0_hw499

def k0_chk500 (v123 : IVec S16 32) (v1043 : IVec S16 32) : Prop :=
  (∀ a x, ((![v123, v1043] : Fin 2 → IVec S16 32) a x).toNat < S8x4096.size a)
theorem k0_idx500_inb : ∀ (v123 : IVec S16 32) (v1043 : IVec S16 32) (k0_hw500 : k0_chk500 v123 v1043), ∀ a x, ((![v123, v1043] : Fin 2 → IVec S16 32) a x).toNat < S8x4096.size a := fun v123 v1043 k0_hw500 => k0_hw500

def k0_chk501 (v123 : IVec S16 32) (v1047 : IVec S16 32) : Prop :=
  (∀ a x, ((![v123, v1047] : Fin 2 → IVec S16 32) a x).toNat < S8x4096.size a)
theorem k0_idx501_inb : ∀ (v123 : IVec S16 32) (v1047 : IVec S16 32) (k0_hw501 : k0_chk501 v123 v1047), ∀ a x, ((![v123, v1047] : Fin 2 → IVec S16 32) a x).toNat < S8x4096.size a := fun v123 v1047 k0_hw501 => k0_hw501

def k0_chk502 (v123 : IVec S16 32) (v1051 : IVec S16 32) : Prop :=
  (∀ a x, ((![v123, v1051] : Fin 2 → IVec S16 32) a x).toNat < S8x4096.size a)
theorem k0_idx502_inb : ∀ (v123 : IVec S16 32) (v1051 : IVec S16 32) (k0_hw502 : k0_chk502 v123 v1051), ∀ a x, ((![v123, v1051] : Fin 2 → IVec S16 32) a x).toNat < S8x4096.size a := fun v123 v1051 k0_hw502 => k0_hw502

def k0_chk503 (v123 : IVec S16 32) (v1055 : IVec S16 32) : Prop :=
  (∀ a x, ((![v123, v1055] : Fin 2 → IVec S16 32) a x).toNat < S8x4096.size a)
theorem k0_idx503_inb : ∀ (v123 : IVec S16 32) (v1055 : IVec S16 32) (k0_hw503 : k0_chk503 v123 v1055), ∀ a x, ((![v123, v1055] : Fin 2 → IVec S16 32) a x).toNat < S8x4096.size a := fun v123 v1055 k0_hw503 => k0_hw503

def k0_chk504 (v123 : IVec S16 32) (v1059 : IVec S16 32) : Prop :=
  (∀ a x, ((![v123, v1059] : Fin 2 → IVec S16 32) a x).toNat < S8x4096.size a)
theorem k0_idx504_inb : ∀ (v123 : IVec S16 32) (v1059 : IVec S16 32) (k0_hw504 : k0_chk504 v123 v1059), ∀ a x, ((![v123, v1059] : Fin 2 → IVec S16 32) a x).toNat < S8x4096.size a := fun v123 v1059 k0_hw504 => k0_hw504

def k0_chk505 (v123 : IVec S16 32) (v1063 : IVec S16 32) : Prop :=
  (∀ a x, ((![v123, v1063] : Fin 2 → IVec S16 32) a x).toNat < S8x4096.size a)
theorem k0_idx505_inb : ∀ (v123 : IVec S16 32) (v1063 : IVec S16 32) (k0_hw505 : k0_chk505 v123 v1063), ∀ a x, ((![v123, v1063] : Fin 2 → IVec S16 32) a x).toNat < S8x4096.size a := fun v123 v1063 k0_hw505 => k0_hw505

def k0_chk506 (v123 : IVec S16 32) (v1067 : IVec S16 32) : Prop :=
  (∀ a x, ((![v123, v1067] : Fin 2 → IVec S16 32) a x).toNat < S8x4096.size a)
theorem k0_idx506_inb : ∀ (v123 : IVec S16 32) (v1067 : IVec S16 32) (k0_hw506 : k0_chk506 v123 v1067), ∀ a x, ((![v123, v1067] : Fin 2 → IVec S16 32) a x).toNat < S8x4096.size a := fun v123 v1067 k0_hw506 => k0_hw506

def k0_chk507 (v123 : IVec S16 32) (v1071 : IVec S16 32) : Prop :=
  (∀ a x, ((![v123, v1071] : Fin 2 → IVec S16 32) a x).toNat < S8x4096.size a)
theorem k0_idx507_inb : ∀ (v123 : IVec S16 32) (v1071 : IVec S16 32) (k0_hw507 : k0_chk507 v123 v1071), ∀ a x, ((![v123, v1071] : Fin 2 → IVec S16 32) a x).toNat < S8x4096.size a := fun v123 v1071 k0_hw507 => k0_hw507

def k0_chk508 (v123 : IVec S16 32) (v1075 : IVec S16 32) : Prop :=
  (∀ a x, ((![v123, v1075] : Fin 2 → IVec S16 32) a x).toNat < S8x4096.size a)
theorem k0_idx508_inb : ∀ (v123 : IVec S16 32) (v1075 : IVec S16 32) (k0_hw508 : k0_chk508 v123 v1075), ∀ a x, ((![v123, v1075] : Fin 2 → IVec S16 32) a x).toNat < S8x4096.size a := fun v123 v1075 k0_hw508 => k0_hw508

def k0_chk509 (v123 : IVec S16 32) (v1079 : IVec S16 32) : Prop :=
  (∀ a x, ((![v123, v1079] : Fin 2 → IVec S16 32) a x).toNat < S8x4096.size a)
theorem k0_idx509_inb : ∀ (v123 : IVec S16 32) (v1079 : IVec S16 32) (k0_hw509 : k0_chk509 v123 v1079), ∀ a x, ((![v123, v1079] : Fin 2 → IVec S16 32) a x).toNat < S8x4096.size a := fun v123 v1079 k0_hw509 => k0_hw509

def k0_chk510 (v123 : IVec S16 32) (v1083 : IVec S16 32) : Prop :=
  (∀ a x, ((![v123, v1083] : Fin 2 → IVec S16 32) a x).toNat < S8x4096.size a)
theorem k0_idx510_inb : ∀ (v123 : IVec S16 32) (v1083 : IVec S16 32) (k0_hw510 : k0_chk510 v123 v1083), ∀ a x, ((![v123, v1083] : Fin 2 → IVec S16 32) a x).toNat < S8x4096.size a := fun v123 v1083 k0_hw510 => k0_hw510

def k0_chk511 (v123 : IVec S16 32) (v1087 : IVec S16 32) : Prop :=
  (∀ a x, ((![v123, v1087] : Fin 2 → IVec S16 32) a x).toNat < S8x4096.size a)
theorem k0_idx511_inb : ∀ (v123 : IVec S16 32) (v1087 : IVec S16 32) (k0_hw511 : k0_chk511 v123 v1087), ∀ a x, ((![v123, v1087] : Fin 2 → IVec S16 32) a x).toNat < S8x4096.size a := fun v123 v1087 k0_hw511 => k0_hw511

def k0_chk512 (v123 : IVec S16 32) (v1091 : IVec S16 32) : Prop :=
  (∀ a x, ((![v123, v1091] : Fin 2 → IVec S16 32) a x).toNat < S8x4096.size a)
theorem k0_idx512_inb : ∀ (v123 : IVec S16 32) (v1091 : IVec S16 32) (k0_hw512 : k0_chk512 v123 v1091), ∀ a x, ((![v123, v1091] : Fin 2 → IVec S16 32) a x).toNat < S8x4096.size a := fun v123 v1091 k0_hw512 => k0_hw512

def k0_chk513 (v123 : IVec S16 32) (v1095 : IVec S16 32) : Prop :=
  (∀ a x, ((![v123, v1095] : Fin 2 → IVec S16 32) a x).toNat < S8x4096.size a)
theorem k0_idx513_inb : ∀ (v123 : IVec S16 32) (v1095 : IVec S16 32) (k0_hw513 : k0_chk513 v123 v1095), ∀ a x, ((![v123, v1095] : Fin 2 → IVec S16 32) a x).toNat < S8x4096.size a := fun v123 v1095 k0_hw513 => k0_hw513

def k0_chk514 (v123 : IVec S16 32) (v1099 : IVec S16 32) : Prop :=
  (∀ a x, ((![v123, v1099] : Fin 2 → IVec S16 32) a x).toNat < S8x4096.size a)
theorem k0_idx514_inb : ∀ (v123 : IVec S16 32) (v1099 : IVec S16 32) (k0_hw514 : k0_chk514 v123 v1099), ∀ a x, ((![v123, v1099] : Fin 2 → IVec S16 32) a x).toNat < S8x4096.size a := fun v123 v1099 k0_hw514 => k0_hw514

def k0_chk515 (v123 : IVec S16 32) (v1103 : IVec S16 32) : Prop :=
  (∀ a x, ((![v123, v1103] : Fin 2 → IVec S16 32) a x).toNat < S8x4096.size a)
theorem k0_idx515_inb : ∀ (v123 : IVec S16 32) (v1103 : IVec S16 32) (k0_hw515 : k0_chk515 v123 v1103), ∀ a x, ((![v123, v1103] : Fin 2 → IVec S16 32) a x).toNat < S8x4096.size a := fun v123 v1103 k0_hw515 => k0_hw515

def k0_chk516 (v123 : IVec S16 32) (v1107 : IVec S16 32) : Prop :=
  (∀ a x, ((![v123, v1107] : Fin 2 → IVec S16 32) a x).toNat < S8x4096.size a)
theorem k0_idx516_inb : ∀ (v123 : IVec S16 32) (v1107 : IVec S16 32) (k0_hw516 : k0_chk516 v123 v1107), ∀ a x, ((![v123, v1107] : Fin 2 → IVec S16 32) a x).toNat < S8x4096.size a := fun v123 v1107 k0_hw516 => k0_hw516

def k0_chk517 (v123 : IVec S16 32) (v1111 : IVec S16 32) : Prop :=
  (∀ a x, ((![v123, v1111] : Fin 2 → IVec S16 32) a x).toNat < S8x4096.size a)
theorem k0_idx517_inb : ∀ (v123 : IVec S16 32) (v1111 : IVec S16 32) (k0_hw517 : k0_chk517 v123 v1111), ∀ a x, ((![v123, v1111] : Fin 2 → IVec S16 32) a x).toNat < S8x4096.size a := fun v123 v1111 k0_hw517 => k0_hw517

def k0_chk518 (v123 : IVec S16 32) (v1115 : IVec S16 32) : Prop :=
  (∀ a x, ((![v123, v1115] : Fin 2 → IVec S16 32) a x).toNat < S8x4096.size a)
theorem k0_idx518_inb : ∀ (v123 : IVec S16 32) (v1115 : IVec S16 32) (k0_hw518 : k0_chk518 v123 v1115), ∀ a x, ((![v123, v1115] : Fin 2 → IVec S16 32) a x).toNat < S8x4096.size a := fun v123 v1115 k0_hw518 => k0_hw518

def k0_chk519 (v123 : IVec S16 32) (v1119 : IVec S16 32) : Prop :=
  (∀ a x, ((![v123, v1119] : Fin 2 → IVec S16 32) a x).toNat < S8x4096.size a)
theorem k0_idx519_inb : ∀ (v123 : IVec S16 32) (v1119 : IVec S16 32) (k0_hw519 : k0_chk519 v123 v1119), ∀ a x, ((![v123, v1119] : Fin 2 → IVec S16 32) a x).toNat < S8x4096.size a := fun v123 v1119 k0_hw519 => k0_hw519

def k0_chk520 (v123 : IVec S16 32) (v1123 : IVec S16 32) : Prop :=
  (∀ a x, ((![v123, v1123] : Fin 2 → IVec S16 32) a x).toNat < S8x4096.size a)
theorem k0_idx520_inb : ∀ (v123 : IVec S16 32) (v1123 : IVec S16 32) (k0_hw520 : k0_chk520 v123 v1123), ∀ a x, ((![v123, v1123] : Fin 2 → IVec S16 32) a x).toNat < S8x4096.size a := fun v123 v1123 k0_hw520 => k0_hw520

def k0_chk521 (v123 : IVec S16 32) (v1127 : IVec S16 32) : Prop :=
  (∀ a x, ((![v123, v1127] : Fin 2 → IVec S16 32) a x).toNat < S8x4096.size a)
theorem k0_idx521_inb : ∀ (v123 : IVec S16 32) (v1127 : IVec S16 32) (k0_hw521 : k0_chk521 v123 v1127), ∀ a x, ((![v123, v1127] : Fin 2 → IVec S16 32) a x).toNat < S8x4096.size a := fun v123 v1127 k0_hw521 => k0_hw521

def k0_chk522 (v123 : IVec S16 32) (v1131 : IVec S16 32) : Prop :=
  (∀ a x, ((![v123, v1131] : Fin 2 → IVec S16 32) a x).toNat < S8x4096.size a)
theorem k0_idx522_inb : ∀ (v123 : IVec S16 32) (v1131 : IVec S16 32) (k0_hw522 : k0_chk522 v123 v1131), ∀ a x, ((![v123, v1131] : Fin 2 → IVec S16 32) a x).toNat < S8x4096.size a := fun v123 v1131 k0_hw522 => k0_hw522

def k0_chk523 (v123 : IVec S16 32) (v1135 : IVec S16 32) : Prop :=
  (∀ a x, ((![v123, v1135] : Fin 2 → IVec S16 32) a x).toNat < S8x4096.size a)
theorem k0_idx523_inb : ∀ (v123 : IVec S16 32) (v1135 : IVec S16 32) (k0_hw523 : k0_chk523 v123 v1135), ∀ a x, ((![v123, v1135] : Fin 2 → IVec S16 32) a x).toNat < S8x4096.size a := fun v123 v1135 k0_hw523 => k0_hw523

def k0_chk524 (v123 : IVec S16 32) (v1139 : IVec S16 32) : Prop :=
  (∀ a x, ((![v123, v1139] : Fin 2 → IVec S16 32) a x).toNat < S8x4096.size a)
theorem k0_idx524_inb : ∀ (v123 : IVec S16 32) (v1139 : IVec S16 32) (k0_hw524 : k0_chk524 v123 v1139), ∀ a x, ((![v123, v1139] : Fin 2 → IVec S16 32) a x).toNat < S8x4096.size a := fun v123 v1139 k0_hw524 => k0_hw524

def k0_chk525 (v123 : IVec S16 32) (v1143 : IVec S16 32) : Prop :=
  (∀ a x, ((![v123, v1143] : Fin 2 → IVec S16 32) a x).toNat < S8x4096.size a)
theorem k0_idx525_inb : ∀ (v123 : IVec S16 32) (v1143 : IVec S16 32) (k0_hw525 : k0_chk525 v123 v1143), ∀ a x, ((![v123, v1143] : Fin 2 → IVec S16 32) a x).toNat < S8x4096.size a := fun v123 v1143 k0_hw525 => k0_hw525

def k0_chk526 (v123 : IVec S16 32) (v1147 : IVec S16 32) : Prop :=
  (∀ a x, ((![v123, v1147] : Fin 2 → IVec S16 32) a x).toNat < S8x4096.size a)
theorem k0_idx526_inb : ∀ (v123 : IVec S16 32) (v1147 : IVec S16 32) (k0_hw526 : k0_chk526 v123 v1147), ∀ a x, ((![v123, v1147] : Fin 2 → IVec S16 32) a x).toNat < S8x4096.size a := fun v123 v1147 k0_hw526 => k0_hw526

def k0_chk527 (v123 : IVec S16 32) (v1151 : IVec S16 32) : Prop :=
  (∀ a x, ((![v123, v1151] : Fin 2 → IVec S16 32) a x).toNat < S8x4096.size a)
theorem k0_idx527_inb : ∀ (v123 : IVec S16 32) (v1151 : IVec S16 32) (k0_hw527 : k0_chk527 v123 v1151), ∀ a x, ((![v123, v1151] : Fin 2 → IVec S16 32) a x).toNat < S8x4096.size a := fun v123 v1151 k0_hw527 => k0_hw527

def k0_chk528 (v123 : IVec S16 32) (v1155 : IVec S16 32) : Prop :=
  (∀ a x, ((![v123, v1155] : Fin 2 → IVec S16 32) a x).toNat < S8x128.size a)
theorem k0_idx528_inb : ∀ (v123 : IVec S16 32) (v1155 : IVec S16 32) (k0_hw528 : k0_chk528 v123 v1155), ∀ a x, ((![v123, v1155] : Fin 2 → IVec S16 32) a x).toNat < S8x128.size a := fun v123 v1155 k0_hw528 => k0_hw528
def k0_off8 (i : grid0.Coords) (c16_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_0 : BitVec 32 := 32#32
  let v4 : BitVec 32 := Scalar.muli v1 c32_i32_0
  let v78 : BitVec 32 := Scalar.addi v4 c16_i32_11
  let c0_i32_12 : BitVec 32 := 0#32
  ![v78.toNat, 0]
abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S4096 : Shape := ⟨1, ![4096]⟩
abbrev S4096x16384 : Shape := ⟨2, ![4096, 16384]⟩
abbrev S_ : Shape := ⟨0, ![]⟩
abbrev S128x16384 : Shape := ⟨2, ![128, 16384]⟩
abbrev S4096x1 : Shape := ⟨2, ![4096, 1]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .i32⟩
  | .hbm, ⟨2, _⟩ => ⟨S4096x16384, .f32⟩
  | .hbm, ⟨3, _⟩ => ⟨S_, .f32⟩
  | .hbm, ⟨4, _⟩ => ⟨S128x16384, .f32⟩
  | .hbm, ⟨5, _⟩ => ⟨S4096x1, .i32⟩
  | .hbm, ⟨6, _⟩ => ⟨S128x16384, .f32⟩
  | .hbm, ⟨7, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Setup.lean ====
/-
  The program as the launch theorem sees it: the SparseCore call and the TensorCore call of one @main, the ghost
  state the proof runs over (the launch's handshakes, and the counters of the tiles' own transfers), and names for the
  buffers the two calls work on.
-/
module

public import proofs.«01_k».proof.Proof.Gen.KernelIdeal.Skeleton
public import Idealize.ShloMosaic.Lib.SparseCore.Quiescent
public import Idealize.ShloMosaic.Lib.SparseCore.Ops
public import Idealize.ShloMosaic.Lib.Transfers
public import Idealize.ShloMosaic.Lib.Scf
public import Idealize.ShloMosaic.Lib.StableHlo.Run
public import Idealize.ShloMosaic.Lib.Tactic

@[expose] public section

noncomputable section

namespace Cert.Proof.SegSum

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

/-- The labels of the program: the two kernels' and the pipelined call's. -/
abbrev ΛP : Labels := Pipeline.Sig Λ₀ (Fin 1) fun p => (pcfgs (F := F) p).Adm
/-- The SparseCore launch. -/
abbrev K : SparseCore.Cfg τ sig (ΛP (F := F)) 1 := sc (F := F)
/-- What the launch's labels run. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake semaphores are what the launch theorem asks of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The rounds of the TensorCore call's staging buffers. -/
abbrev UP : Type := URounds (GSem nD τ sig) Unit
/-- The two, and the counters a tile's transfers draw from. -/
abbrev UU : Type := (UH × UP) × Counters

/-- The assertions' model. -/
abbrev MM (F : FTy → Type) : Type := MT nD τ sig (SparseCore.Cfg.HIx 1) (Elt F) ℕ UU ℕ

/-- The user's part of the model. -/
abbrev EU : Emb UU (MM F) := (uEmb (nD := nD) (sig := sig) (Ix := SparseCore.Cfg.HIx 1) (Val := Elt F) (Name := ℕ) (U := UU) (Lvl := ℕ)).toEmb

def EH : Emb UH (MM F) := ((Emb.inl : Emb UH (UH × UP)).trans (Emb.inl : Emb (UH × UP) UU)).trans EU
def EP : Emb UP (MM F) := ((Emb.inr : Emb UP (UH × UP)).trans (Emb.inl : Emb (UH × UP) UU)).trans EU

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- The counters of a tile's transfers. -/
abbrev EC : UEmb Counters (MM F) := countersEmb (U := UU)

/-! ## The buffers -/

variable (m : (ℓ : Loc nD τ sig) → Buf (Elt F) ℓ) (ρ : Dev nD → PrngReg)

/-- The argument `x`. -/
abbrev xLoc (d : Dev nD) : Loc nD τ sig := (SparseCore.T d).loc main_arg0
/-- The SparseCore call's result: the last 1024 rows. -/
abbrev oLoc (d : Dev nD) : Loc nD τ sig := (SparseCore.T d).loc main_v0

abbrev xV : Memref sig .scVector .hbm S16384x4096 .f32 := Memref.whole main_arg0_scv
abbrev oV : Memref sig .scVector .hbm S1024x128 .f32 := Memref.whole main_v0_scv
/-- A tile's scratch: two buffers of eight input rows, two of eight output rows. -/
abbrev sI0 : Memref sig .scVector .vmem S8x4096 .f32 := Memref.whole cc0_scratch0
abbrev sI1 : Memref sig .scVector .vmem S8x4096 .f32 := Memref.whole cc0_scratch1
abbrev sO0 : Memref sig .scVector .vmem S8x128 .f32 := Memref.whole cc0_scratch2
abbrev sO1 : Memref sig .scVector .vmem S8x128 .f32 := Memref.whole cc0_scratch3

/-- The SparseCore and the tile a grid point runs on. -/
abbrev cV (L : grid0.Coords) : Fin τ.nSC := (L 0).castLE hcore0
abbrev jV (L : grid0.Coords) : Fin τ.nSub := (L 1).castLE hsub0

end Cert.Proof.SegSum

end
-- ==== Proof.Row.lean ====
/-
  One row of a tile's work. The kernel sums a row of 4096 numbers in blocks of 512: sixteen lanes, lane `l` adding the
  32 numbers at `512 v + ((33 l) xor j)` for `j = 0 … 31`, and the sixteen sums written to columns `16 v … 16 v + 15`
  of the output row. The printed body of either loop over rows is one program (`rowOf`), and its run leaves the output
  row at those sums (`chunkSum`).
-/
module

public import proofs.«01_k».proof.Proof.Setup

@[expose] public section

set_option maxRecDepth 65536

noncomputable section

namespace Cert.Proof.SegSum

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The program of a row -/

/-- The program of a tile's task. -/
abbrev TileProg (i : grid0.Coords) (α : Type) : Type 1 :=
  Prog (TpuEff nD τ sig (Elt F) Λ₀ (.scVector ((i 0).castLE hcore0) ((i 1).castLE hsub0))) α

/-- Sixteen numbers of the input buffer, lane `l` the one at row `r l`, column `x l`, after the check that they are in
    range. -/
def gather (i : grid0.Coords) (ib : Memref sig .scVector .vmem S8x4096 .f32) (r x : IVec S16 32) :
    TileProg (F := F) i (Vec F S16 .f32) :=
  .op (.assume (k0_chk1 r x) (k0_chk1.dec r x)) fun h =>
    SparseCore.vectorLoadIdx ib ![r, x] (k0_idx1_inb r x h.down) (View.loads_vmem h_S8x4096)

/-- Sixteen numbers written to the output buffer, lane `l` to row `r l`, column `x l`, after the same check. -/
def scatter (i : grid0.Coords) (ob : Memref sig .scVector .vmem S8x128 .f32) (r x : IVec S16 32) (v : FVec F S16 .f32) :
    TileProg (F := F) i PUnit :=
  .op (.assume (k0_chk33 r x) (k0_chk33.dec r x)) fun h =>
    SparseCore.vectorStoreIdx ob ![r, x] v (fun _ => 1#1) false (k0_idx33_inb r x h.down) (View.stores_vmem_bits_univ h_S8x128 rfl)

/-- The gathers of one block after the first, each added to what is summed so far. -/
def gathers (i : grid0.Coords) (ib : Memref sig .scVector .vmem S8x4096 .f32) (r : IVec S16 32) (a : BitVec 32)
    (ds : List (IVec S16 32)) (s : FVec F S16 .f32) : TileProg (F := F) i (FVec F S16 .f32) :=
  ds.foldlM (fun s d => do let g ← gather i ib r (addi (broadcast S16 a) d); pure (addf s g)) s

/-- One block of a row: the sums of the sixteen lanes, written to sixteen columns of the output row. -/
def block (i : grid0.Coords) (ib : Memref sig .scVector .vmem S8x4096 .f32) (ob : Memref sig .scVector .vmem S8x128 .f32)
    (r lanes d : IVec S16 32) (ds : List (IVec S16 32)) (a b : BitVec 32) : TileProg (F := F) i PUnit := do
  let g ← gather (F := F) i ib r (addi (broadcast S16 a) d)
  let s ← gathers i ib r a ds g
  scatter i ob r (addi (broadcast S16 b) lanes) s

/-- A row, block by block. -/
def rowOf (i : grid0.Coords) (ib : Memref sig .scVector .vmem S8x4096 .f32) (ob : Memref sig .scVector .vmem S8x128 .f32)
    (r lanes d : IVec S16 32) (ds : List (IVec S16 32)) : List (BitVec 32 × BitVec 32) → TileProg (F := F) i PUnit
  | [] => pure ⟨⟩
  | ab :: l => block i ib ob r lanes d ds ab.1 ab.2 >>= fun _ => rowOf i ib ob r lanes d ds l

/-! ## The index vectors -/

/-- The lanes' numbers. -/
abbrev lanesV : IVec S16 32 := iota .scVector S16 32 [0] iota_S16_d0_w32_scVector
/-- The columns, within a block, of the lanes' `j`-th numbers: `(33 l) xor j`. -/
def colV (j : ℕ) : IVec S16 32 := xori (k0_pay595) (broadcast S16 (BitVec.ofNat 32 j))
/-- The row every lane reads, row `t`. -/
abbrev rowV (t : BitVec 32) : IVec S16 32 := addi (k0_pay628 lanesV) (broadcast S16 t)
/-- Where block `v` starts in an input row, and where in an output row. -/
def starts (v : ℕ) : BitVec 32 × BitVec 32 := (BitVec.ofNat 32 (512 * v), BitVec.ofNat 32 (16 * v))

/-- The lane of an index of a vector of sixteen. -/
theorem lane_lt (x : S16.Idx) : (x 0).val < 16 := (x 0).isLt

theorem xor_lt {l j : ℕ} (hl : l < 16) (hj : j < 32) : (33 * l) ^^^ j < 512 :=
  Nat.xor_lt_two_pow (n := 9) (by omega) (by omega)

theorem lanesV_toNat (x : S16.Idx) : (lanesV x).toNat = (x 0).val := by
  have := lane_lt x
  show (BitVec.ofNat 32 (List.foldl (fun n a => n * S16.size a + (x a).val) 0 [0])).toNat = _
  simp only [List.foldl_cons, List.foldl_nil, BitVec.toNat_ofNat]
  omega

theorem colV_toNat {j : ℕ} (hj : j < 32) (x : S16.Idx) : (colV j x).toNat = (33 * (x 0).val) ^^^ j := by
  have h := lanesV_toNat x
  have hl := lane_lt x
  show ((lanesV x * 33#32) ^^^ BitVec.ofNat 32 j).toNat = _
  rw [BitVec.toNat_xor, BitVec.toNat_mul, h, BitVec.toNat_ofNat, BitVec.toNat_ofNat, Nat.mod_eq_of_lt (b := 2 ^ 32) (a := j) (by omega)]
  congr 1
  show (x 0).val * (33 % 2 ^ 32) % 2 ^ 32 = _
  rw [Nat.mod_eq_of_lt (by omega)]; omega

theorem rowV_toNat {t : ℕ} (ht : t < 8) (x : S16.Idx) : (rowV (BitVec.ofNat 32 t) x).toNat = t := by
  show (lanesV x * 0#32 + BitVec.ofNat 32 t).toNat = t
  simp; omega

theorem addi_toNat {a : ℕ} (ha : a < 4096) (d : IVec S16 32) (x : S16.Idx) (hd : (d x).toNat < 4096) :
    (addi (broadcast S16 (BitVec.ofNat 32 a)) d x).toNat = a + (d x).toNat := by
  show (BitVec.ofNat 32 a + d x).toNat = _
  rw [BitVec.toNat_add, BitVec.toNat_ofNat]; omega

/-! ## The printed loop bodies are `rowOf` -/

theorem t2_body_eq (i : grid0.Coords) (arg2 : Memref sig .scVector .hbm S16384x4096 .f32) (harg2 : arg2.IsWhole) (arg3 : Memref sig .scVector .hbm S1024x128 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S8x128 .f32) (harg6 : arg6.IsWhole) (arg7 : Memref sig .scVector .vmem S8x128 .f32) (harg7 : arg7.IsWhole)
    (arg8 arg9 arg10 arg11 : DmaSems sig S_) (v3 v4 : BitVec 32) (v5 v9 v11 v13 v15 v17 v19 v21 v23 v25 v27 v29 v31 v33 v35 v37 v39 v41 v43 v45 v47 v49 v51 v53 v55 v57 v59 v61 v63 v65 v67 v69 v71 v73 : IVec S16 32) (b0 b1 : BitVec 32) (t1 : Fin k0_t1_loop.trips) (t : Fin k0_t2_loop.trips) :
    k0_t2_body (F := F) i arg2 harg2 arg3 harg3 arg4 harg4 arg5 harg5 arg6 harg6 arg7 harg7 arg8 arg9 arg10 arg11 v3 v4 v5 v9 v11 v13 v15 v17 v19 v21 v23 v25 v27 v29 v31 v33 v35 v37 v39 v41 v43 v45 v47 v49 v51 v53 v55 v57 v59 v61 v63 v65 v67 v69 v71 v73 b0 b1 t1 t ⟨⟩
      = rowOf i arg4 arg6 (addi v73 (broadcast S16 (Scf.iv 0#32 1#32 t))) v5 v9 [v11, v13, v15, v17, v19, v21, v23, v25, v27, v29, v31, v33, v35, v37, v39, v41, v43, v45, v47, v49, v51, v53, v55, v57, v59, v61, v63, v65, v67, v69, v71]
          ((List.range' 0 8).map starts) := rfl

theorem t3_body_eq (i : grid0.Coords) (arg2 : Memref sig .scVector .hbm S16384x4096 .f32) (harg2 : arg2.IsWhole) (arg3 : Memref sig .scVector .hbm S1024x128 .f32) (harg3 : arg3.IsWhole) (arg4 : Memref sig .scVector .vmem S8x4096 .f32) (harg4 : arg4.IsWhole) (arg5 : Memref sig .scVector .vmem S8x4096 .f32) (harg5 : arg5.IsWhole) (arg6 : Memref sig .scVector .vmem S8x128 .f32) (harg6 : arg6.IsWhole) (arg7 : Memref sig .scVector .vmem S8x128 .f32) (harg7 : arg7.IsWhole)
    (arg8 arg9 arg10 arg11 : DmaSems sig S_) (v5 v9 v11 v13 v15 v17 v19 v21 v23 v25 v27 v29 v31 v33 v35 v37 v39 v41 v43 v45 v47 v49 v51 v53 v55 v57 v59 v61 v63 v65 v67 v69 v71 v73 : IVec S16 32) (t : Fin k0_t3_loop.trips) :
    k0_t3_body (F := F) i arg2 harg2 arg3 harg3 arg4 harg4 arg5 harg5 arg6 harg6 arg7 harg7 arg8 arg9 arg10 arg11 v5 v9 v11 v13 v15 v17 v19 v21 v23 v25 v27 v29 v31 v33 v35 v37 v39 v41 v43 v45 v47 v49 v51 v53 v55 v57 v59 v61 v63 v65 v67 v69 v71 v73 t ⟨⟩
      = rowOf i arg5 arg7 (addi v73 (broadcast S16 (Scf.iv 0#32 1#32 t))) v5 v9 [v11, v13, v15, v17, v19, v21, v23, v25, v27, v29, v31, v33, v35, v37, v39, v41, v43, v45, v47, v49, v51, v53, v55, v57, v59, v61, v63, v65, v67, v69, v71]
          ((List.range' 0 8).map starts) := rfl

/-! ## What a row's run leaves -/

/-- An index of the input buffer. -/
def inIx (r : Fin 8) (c : Fin 4096) : S8x4096.Idx := fun a => match a with | 0 => r | 1 => c

theorem col_lt {v l j : ℕ} (hv : v < 8) (hl : l < 16) (hj : j < 32) : 512 * v + ((33 * l) ^^^ j) < 4096 := by
  have := xor_lt hl hj; omega

/-- The `j`-th number of output column `c`: at column `512 (c / 16) + ((33 (c mod 16)) xor j)` of the same row (any
    number for `j` past 31). -/
def term (f : Vec F S8x4096 .f32) (r : Fin 8) (c : Fin 128) (j : ℕ) : F .f32 :=
  if hj : j < 32 then f (inIx r ⟨512 * (c.val / 16) + ((33 * (c.val % 16)) ^^^ j), col_lt (by omega) (Nat.mod_lt _ (by decide)) hj⟩)
  else FloatOps.ofBits .f32 0

/-- The sum the kernel forms for output column `c` of row `r`: the terms added one after another. -/
def chunkSum (f : Vec F S8x4096 .f32) : Vec F S8x128 .f32 := fun y =>
  (List.range' 1 31).foldl (fun s j => FloatOps.addf s (term f (y 0) (y 1) j)) (term f (y 0) (y 1) 0)

/-- The output buffer after `n` blocks (eight a row): the finished columns at their sums, the others as they were. -/
def partSum (f : Vec F S8x4096 .f32) (g : Vec F S8x128 .f32) (n : ℕ) : Vec F S8x128 .f32 := fun y =>
  if 8 * (y 0).val + (y 1).val / 16 < n then chunkSum f y else g y

theorem partSum_zero (f : Vec F S8x4096 .f32) (g : Vec F S8x128 .f32) : partSum f g 0 = g := by
  funext y; simp [partSum]

theorem partSum_all (f : Vec F S8x4096 .f32) (g : Vec F S8x128 .f32) : partSum f g 64 = chunkSum f := by
  funext y
  have h0 : (y 0).val < 8 := (y 0).isLt
  have h1 : (y 1).val < 128 := (y 1).isLt
  exact if_pos (by omega)

/-- The output column of lane `l` in block `v`. -/
def outCol (v : ℕ) (hv : v < 8) (l : Fin 16) : Fin 128 := ⟨16 * v + l.val, by omega⟩

/-- The lanes' `j`-th numbers of block `v` of row `r`. -/
def lanesTerm (f : Vec F S8x4096 .f32) (r : Fin 8) (v : ℕ) (hv : v < 8) (j : ℕ) : FVec F S16 .f32 :=
  fun x => term f r (outCol v hv (x 0)) j

/-- The lanes' sums over a list of positions, from sums already there. -/
def lanesSum (f : Vec F S8x4096 .f32) (r : Fin 8) (v : ℕ) (hv : v < 8) (js : List ℕ) (s : FVec F S16 .f32) : FVec F S16 .f32 :=
  js.foldl (fun s j => addf s (lanesTerm f r v hv j)) s

theorem lanesSum_apply (f : Vec F S8x4096 .f32) (r : Fin 8) (v : ℕ) (hv : v < 8) (js : List ℕ) (s : FVec F S16 .f32) (x : S16.Idx) :
    lanesSum f r v hv js s x = js.foldl (fun s j => FloatOps.addf s (term f r (outCol v hv (x 0)) j)) (s x) := by
  unfold lanesSum
  induction js generalizing s with
  | nil => rfl
  | cons j js ih => exact ih _

/-- A gather reads the lanes' numbers. -/
theorem loadIdx_term (f : Vec F S8x4096 .f32) {r : ℕ} (hr : r < 8) {v : ℕ} (hv : v < 8) {j : ℕ} (hj : j < 32)
    (h : k0_chk1 (rowV (BitVec.ofNat 32 r)) (addi (broadcast S16 (starts v).1) (colV j))) :
    loadIdx f ![rowV (BitVec.ofNat 32 r), addi (broadcast S16 (starts v).1) (colV j)] (k0_idx1_inb _ _ h) = lanesTerm f ⟨r, hr⟩ v hv j := by
  funext x
  have hl := lane_lt x
  have hc := colV_toNat hj x
  have hx := xor_lt hl hj
  unfold lanesTerm term
  rw [dif_pos hj]
  refine congrArg f (funext fun a => ?_)
  match a with
  | 0 => exact Fin.ext (rowV_toNat hr x)
  | 1 =>
    refine Fin.ext ?_
    show (addi (broadcast S16 (BitVec.ofNat 32 (512 * v))) (colV j) x).toNat = 512 * ((16 * v + (x 0).val) / 16) + (33 * ((16 * v + (x 0).val) % 16) ^^^ j)
    rw [addi_toNat (by omega) _ _ (by omega), hc, show (16 * v + (x 0).val) / 16 = v by omega, show (16 * v + (x 0).val) % 16 = (x 0).val by omega]

theorem chk_in {r v j : ℕ} (hr : r < 8) (hv : v < 8) (hj : j < 32) :
    k0_chk1 (rowV (BitVec.ofNat 32 r)) (addi (broadcast S16 (starts v).1) (colV j)) := by
  intro a x
  have hc := colV_toNat hj x
  have hx := xor_lt (lane_lt x) hj
  match a with
  | 0 => show (rowV (BitVec.ofNat 32 r) x).toNat < 8; rw [rowV_toNat hr]; exact hr
  | 1 =>
    show (addi (broadcast S16 (BitVec.ofNat 32 (512 * v))) (colV j) x).toNat < 4096
    rw [addi_toNat (by omega) _ _ (by omega)]; omega

theorem chk_out {r v : ℕ} (hr : r < 8) (hv : v < 8) :
    k0_chk33 (rowV (BitVec.ofNat 32 r)) (addi (broadcast S16 (starts v).2) lanesV) := by
  intro a x
  have hc := lanesV_toNat x
  have hx := lane_lt x
  match a with
  | 0 => show (rowV (BitVec.ofNat 32 r) x).toNat < 8; rw [rowV_toNat hr]; exact hr
  | 1 =>
    show (addi (broadcast S16 (BitVec.ofNat 32 (16 * v))) lanesV x).toNat < 128
    rw [addi_toNat (by omega) _ _ (by omega)]; omega

/-- A run of writes, each at the places its condition names, leaves at a place one write names that write's value,
    where no two writes name one place. -/
theorem foldl_write {ι κ α : Type} (hit : ι → κ → Prop) [∀ i k, Decidable (hit i k)] (val : ι → α) (y : κ) :
    ∀ (l : List ι) (g : κ → α) (i : ι), i ∈ l → hit i y → (∀ j ∈ l, hit j y → j = i) →
      l.foldl (fun g i => fun k => if hit i k then val i else g k) g y = val i := by
  intro l
  induction l using List.reverseRecOn with
  | nil => intro _ _ h; cases h
  | append_singleton l a ih =>
    intro g i hi hy hu
    rw [List.foldl_append]
    show (if hit a y then val a else _) = _
    by_cases ha : hit a y
    · rw [if_pos ha, hu a (by simp) ha]
    · rw [if_neg ha]
      refine ih g i ?_ hy fun j hj => hu j (by simp [hj])
      rcases List.mem_append.mp hi with h | h
      · exact h
      · exact absurd (List.mem_singleton.mp h ▸ hy) ha

/-- Where no write names a place, it keeps what it had. -/
theorem foldl_keep {ι κ α : Type} (hit : ι → κ → Prop) [∀ i k, Decidable (hit i k)] (val : ι → α) (y : κ) :
    ∀ (l : List ι) (g : κ → α), (∀ j ∈ l, ¬ hit j y) → l.foldl (fun g i => fun k => if hit i k then val i else g k) g y = g y := by
  intro l
  induction l with
  | nil => intro _ _; rfl
  | cons a l ih =>
    intro g h
    refine (ih _ fun j hj => h j (by simp [hj])).trans ?_
    exact if_neg (h a (by simp))

/-- An unmasked scatter is its lanes' writes in order. -/
theorem storeIdx_all {s : Shape} {e : EltTy} {d : Fin 1 → ℕ} (f : Vec F s e) (idxs : Fin s.rank → IVec ⟨1, d⟩ 32) (v : Vec F ⟨1, d⟩ e)
    (h : ∀ a x, (idxs a x).toNat < s.size a) :
    storeIdx f idxs v (fun _ => 1#1) false h
      = (List.finRange (d 0)).foldl (fun g k => fun j => if ∀ a, (j a).val = (idxAt idxs h (Shape.ofLane k) a).val then v (Shape.ofLane k) else g j) f := by
  unfold storeIdx
  simp

/-- The scatter of block `v`'s sums takes the output buffer one block on. -/
theorem storeIdx_part (f : Vec F S8x4096 .f32) (g : Vec F S8x128 .f32) {r : ℕ} (hr : r < 8) {v : ℕ} (hv : v < 8)
    (h : k0_chk33 (rowV (BitVec.ofNat 32 r)) (addi (broadcast S16 (starts v).2) lanesV)) :
    storeIdx (partSum f g (8 * r + v)) ![rowV (BitVec.ofNat 32 r), addi (broadcast S16 (starts v).2) lanesV]
        (lanesSum f ⟨r, hr⟩ v hv (List.range' 1 31) (lanesTerm f ⟨r, hr⟩ v hv 0)) (fun _ => 1#1) false (k0_idx33_inb _ _ h)
      = partSum f g (8 * r + (v + 1)) := by
  funext y
  have h0 : (y 0).val < 8 := (y 0).isLt
  have h1 : (y 1).val < 128 := (y 1).isLt
  -- lane `k` writes row `r`, column `16 v + k`
  have key : ∀ k : Fin 16, (∀ a, (y a).val = (idxAt (s := S8x128) ![rowV (BitVec.ofNat 32 r), addi (broadcast S16 (starts v).2) lanesV] (k0_idx33_inb _ _ h) (Shape.ofLane (d := ![16]) k) a).val)
      ↔ (y 0).val = r ∧ (y 1).val = 16 * v + k.val := by
    intro k
    have e0 : (idxAt (s := S8x128) ![rowV (BitVec.ofNat 32 r), addi (broadcast S16 (starts v).2) lanesV] (k0_idx33_inb _ _ h) (Shape.ofLane (d := ![16]) k) 0).val = r := rowV_toNat hr _
    have e1 : (idxAt (s := S8x128) ![rowV (BitVec.ofNat 32 r), addi (broadcast S16 (starts v).2) lanesV] (k0_idx33_inb _ _ h) (Shape.ofLane (d := ![16]) k) 1).val = 16 * v + k.val := by
      have hk : (lanesV (Shape.ofLane (d := ![16]) k)).toNat = k.val := lanesV_toNat _
      have := k.isLt
      exact (addi_toNat (a := 16 * v) (by omega) lanesV _ (by omega)).trans (by rw [hk])
    constructor
    · intro hh; exact ⟨(hh 0).trans e0, (hh 1).trans e1⟩
    · rintro ⟨ha, hb⟩ a
      match a with
      | 0 => exact ha.trans e0.symm
      | 1 => exact hb.trans e1.symm
  refine (congrFun (storeIdx_all (s := S8x128) (d := ![16]) _ _ _ (k0_idx33_inb _ _ h)) y).trans ?_
  show (List.finRange 16).foldl (fun (g : Vec F S8x128 .f32) (k : Fin 16) => fun j =>
      if ∀ a, (j a).val = (idxAt (s := S8x128) ![rowV (BitVec.ofNat 32 r), addi (broadcast S16 (starts v).2) lanesV] (k0_idx33_inb _ _ h) (Shape.ofLane (d := ![16]) k) a).val
      then lanesSum f ⟨r, hr⟩ v hv (List.range' 1 31) (lanesTerm f ⟨r, hr⟩ v hv 0) (Shape.ofLane (d := ![16]) k) else g j) (partSum f g (8 * r + v)) y = _
  by_cases hy : (y 0).val = r ∧ (y 1).val / 16 = v
  · refine (foldl_write (fun (k : Fin 16) (j : S8x128.Idx) => ∀ a, (j a).val = (idxAt (s := S8x128) ![rowV (BitVec.ofNat 32 r), addi (broadcast S16 (starts v).2) lanesV] (k0_idx33_inb _ _ h) (Shape.ofLane (d := ![16]) k) a).val)
        (fun k => lanesSum f ⟨r, hr⟩ v hv (List.range' 1 31) (lanesTerm f ⟨r, hr⟩ v hv 0) (Shape.ofLane (d := ![16]) k)) y (List.finRange 16) _
        ⟨(y 1).val % 16, Nat.mod_lt _ (by decide)⟩ (List.mem_finRange _) ((key _).mpr ⟨hy.1, by show _ = 16 * v + (y 1).val % 16; omega⟩)
        fun k _ hk => Fin.ext (by have := ((key k).mp hk).2; show k.val = (y 1).val % 16; omega)).trans ?_
    have ec : outCol v hv ⟨(y 1).val % 16, Nat.mod_lt _ (by decide)⟩ = y 1 := Fin.ext (by show 16 * v + (y 1).val % 16 = (y 1).val; omega)
    have er : (⟨r, hr⟩ : Fin 8) = y 0 := Fin.ext hy.1.symm
    unfold partSum
    rw [if_pos (by omega), lanesSum_apply]
    show List.foldl (fun s j => FloatOps.addf s (term f ⟨r, hr⟩ (outCol v hv ⟨(y 1).val % 16, _⟩) j)) (term f ⟨r, hr⟩ (outCol v hv ⟨(y 1).val % 16, _⟩) 0) (List.range' 1 31) = _
    rw [ec, er]; rfl
  · refine (foldl_keep (fun (k : Fin 16) (j : S8x128.Idx) => ∀ a, (j a).val = (idxAt (s := S8x128) ![rowV (BitVec.ofNat 32 r), addi (broadcast S16 (starts v).2) lanesV] (k0_idx33_inb _ _ h) (Shape.ofLane (d := ![16]) k) a).val)
        (fun k => lanesSum f ⟨r, hr⟩ v hv (List.range' 1 31) (lanesTerm f ⟨r, hr⟩ v hv 0) (Shape.ofLane (d := ![16]) k)) y (List.finRange 16) _
        fun k _ hk => hy ?_).trans ?_
    · have := (key k).mp hk; have := k.isLt; omega
    unfold partSum
    congr 1
    apply propext
    omega

/-! ## The run of a row -/

section Run

variable (d : Dev nD) (i : grid0.Coords) {α : Type}
variable (ib : Memref sig .scVector .vmem S8x4096 .f32) (ob : Memref sig .scVector .vmem S8x128 .f32)

/-- The tile's thread. -/
abbrev thr : Thread nD τ := V d (cV i) (jV i)

/-- The input buffer held at contents that read `f`. -/
def inAt (f : Vec F S8x4096 .f32) : sProp (MM F) :=
  iprop(∃ b : Buf (Elt F) ((ib.access (.whole _)).loc (thr d i)), ⌜(ib.access (.whole _)).read (Elt F) b = f⌝
    ∗ (ib.access (.whole _)).loc (thr d i) ↦[(ib.access (.whole _)).set]{fullShare} b)
/-- The output buffer held at contents that read `g`. -/
def outAt (g : Vec F S8x128 .f32) : sProp (MM F) :=
  iprop(∃ b : Buf (Elt F) ((ob.access (.whole _)).loc (thr d i)), ⌜(ob.access (.whole _)).read (Elt F) b = g⌝
    ∗ (ob.access (.whole _)).loc (thr d i) ↦[(ob.access (.whole _)).set]{fullShare} b)

/-- Running a program on the tile. -/
abbrev tileWp {β : Type} (p : TileProg (F := F) i β) (Q : β → sProp (MM F)) : sProp (MM F) :=
  wp frame (wpE (defs₀ (F := F)) 𝒱₀ (thr d i) none) Set.univ p Q

theorem wp_gather {f : Vec F S8x4096 .f32} {r v j : ℕ} (hr : r < 8) (hv : v < 8) (hj : j < 32) {k : Vec F S16 .f32 → TileProg (F := F) i α} {Q : α → sProp (MM F)} :
    inAt d i ib f ⊢ iprop((inAt d i ib f -∗ tileWp d i (k (lanesTerm f ⟨r, hr⟩ v hv j)) Q)
      -∗ tileWp d i (gather i ib (rowV (BitVec.ofNat 32 r)) (addi (broadcast S16 (starts v).1) (colV j)) >>= k) Q) := by
  unfold gather inAt tileWp
  rw [Prog.bind_op, wp_assume_of _ _ _ _ (chk_in hr hv hj)]
  iintro ⟨%b, %hb, H⟩ Hk
  iapply (SparseCore.wp_vectorLoadIdx 𝒱₀ (thr d i) none Set.univ (base := ib) (q := fullShare) (f := b) subset_rfl) $$ H
  iintro H
  rw [hb, loadIdx_term f hr hv hj (chk_in hr hv hj)]
  iapply Hk
  iexists b; isplitr
  · ipureintro; exact hb
  · iexact H

theorem wp_gathers {f : Vec F S8x4096 .f32} {r v : ℕ} (hr : r < 8) (hv : v < 8) {k : FVec F S16 .f32 → TileProg (F := F) i α} {Q : α → sProp (MM F)} :
    ∀ (js : List ℕ) (_ : ∀ j ∈ js, j < 32) (s : FVec F S16 .f32),
      inAt d i ib f ⊢ iprop((inAt d i ib f -∗ tileWp d i (k (lanesSum f ⟨r, hr⟩ v hv js s)) Q)
        -∗ tileWp d i (gathers i ib (rowV (BitVec.ofNat 32 r)) (starts v).1 (js.map colV) s >>= k) Q) := by
  intro js
  induction js with
  | nil =>
    intro _ s
    unfold gathers
    rw [List.map_nil, List.foldlM_nil, pure_bind]
    iintro H Hk
    iapply Hk; iexact H
  | cons j js ih =>
    intro hjs s
    have ih' := ih (fun j' hj' => hjs j' (List.mem_cons_of_mem _ hj')) (addf s (lanesTerm f ⟨r, hr⟩ v hv j))
    unfold gathers at ih' ⊢
    rw [List.map_cons, List.foldlM_cons, bind_assoc, bind_assoc]
    iintro H Hk
    iapply (wp_gather d i ib hr hv (hjs j List.mem_cons_self)) $$ H
    iintro H
    rw [pure_bind]
    iapply ih' $$ H
    iexact Hk

theorem wp_scatter {f : Vec F S8x4096 .f32} {g : Vec F S8x128 .f32} {r v : ℕ} (hr : r < 8) (hv : v < 8) {k : PUnit → TileProg (F := F) i α} {Q : α → sProp (MM F)} :
    outAt d i ob (partSum f g (8 * r + v)) ⊢ iprop((outAt d i ob (partSum f g (8 * r + (v + 1))) -∗ tileWp d i (k ⟨⟩) Q)
      -∗ tileWp d i (scatter i ob (rowV (BitVec.ofNat 32 r)) (addi (broadcast S16 (starts v).2) lanesV)
          (lanesSum f ⟨r, hr⟩ v hv (List.range' 1 31) (lanesTerm f ⟨r, hr⟩ v hv 0)) >>= k) Q) := by
  unfold scatter outAt tileWp
  rw [Prog.bind_op, wp_assume_of _ _ _ _ (chk_out hr hv)]
  iintro ⟨%b, %hb, H⟩ Hk
  iapply (SparseCore.wp_vectorStoreIdx 𝒱₀ (thr d i) none Set.univ (base := ob) (f := b)) $$ H
  iintro H
  rw [hb, storeIdx_part f g hr hv (chk_out hr hv)]
  iapply Hk
  iexists _; isplitr
  rotate_left
  · iexact H
  · ipureintro; exact View.read_write_univ _ _

theorem wp_block {f : Vec F S8x4096 .f32} {g : Vec F S8x128 .f32} {r v : ℕ} (hr : r < 8) (hv : v < 8) {k : PUnit → TileProg (F := F) i α} {Q : α → sProp (MM F)} :
    iprop(inAt d i ib f ∗ outAt d i ob (partSum f g (8 * r + v)))
      ⊢ iprop((iprop(inAt d i ib f ∗ outAt d i ob (partSum f g (8 * r + (v + 1)))) -∗ tileWp d i (k ⟨⟩) Q)
        -∗ tileWp d i (block i ib ob (rowV (BitVec.ofNat 32 r)) lanesV (colV 0) ((List.range' 1 31).map colV) (starts v).1 (starts v).2 >>= k) Q) := by
  unfold block
  rw [bind_assoc]
  iintro ⟨Hi, Ho⟩ Hk
  iapply (wp_gather d i ib hr hv (j := 0) (by decide)) $$ Hi
  iintro Hi
  rw [bind_assoc]
  iapply (wp_gathers d i ib hr hv (List.range' 1 31) (fun j hj => by have := List.mem_range'_1.mp hj; omega)) $$ Hi
  iintro Hi
  iapply (wp_scatter d i ob hr hv) $$ Ho
  iintro Ho
  iapply Hk
  isplitl [Hi]
  · iexact Hi
  · iexact Ho

/-- A row's run: its eight blocks' columns at their sums. -/
theorem wp_rowOf {f : Vec F S8x4096 .f32} {g : Vec F S8x128 .f32} {r : ℕ} (hr : r < 8) {Q : PUnit → sProp (MM F)} :
    ∀ (n v : ℕ), v + n = 8 →
      iprop(inAt d i ib f ∗ outAt d i ob (partSum f g (8 * r + v)))
        ⊢ iprop((iprop(inAt d i ib f ∗ outAt d i ob (partSum f g (8 * (r + 1)))) -∗ Q ⟨⟩)
          -∗ tileWp d i (rowOf i ib ob (rowV (BitVec.ofNat 32 r)) lanesV (colV 0) ((List.range' 1 31).map colV) ((List.range' v n).map starts)) Q) := by
  intro n
  induction n with
  | zero =>
    intro v hv
    obtain rfl : v = 8 := by omega
    rw [List.range'_zero, List.map_nil]
    rw [show 8 * r + 8 = 8 * (r + 1) by omega]
    iintro H Hk
    unfold tileWp rowOf
    rw [Prog.pure_eq_ret, wp_ret]
    imodintro
    iapply Hk; iexact H
  | succ n ih =>
    intro v hv
    have hb := wp_block (Q := Q) d i ib ob (f := f) (g := g) hr (show v < 8 by omega)
      (k := fun _ => rowOf i ib ob (rowV (BitVec.ofNat 32 r)) lanesV (colV 0) ((List.range' 1 31).map colV) ((List.range' (v + 1) n).map starts))
    rw [List.range'_succ, List.map_cons]
    iintro H Hk
    iapply hb $$ H
    iintro H
    iapply (ih (v + 1) (by omega)) $$ H
    iexact Hk

end Run

end Cert.Proof.SegSum

end
-- ==== Proof.Tile.lean ====
/-
  A tile's task. Tile `s` of SparseCore `c` is worker `2 s + c`: it brings four chunks of eight rows of `x` into its two
  input buffers, one transfer ahead of the sums, and sends the eight rows of sums of each out of its two output buffers.
  What each transfer carries is stated with the value: a fetched buffer holds the chunk's rows of `x`, a chunk of the
  result that has landed holds its rows of `outVal`, the kernel's sums of the whole of the last 1024 rows.
-/
module

public import proofs.«01_k».proof.Proof.Row

@[expose] public section

set_option maxRecDepth 65536

noncomputable section

namespace Cert.Proof.SegSum

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The chunks -/

theorem x_inb (q : Fin 128) : ∀ a, (![8 * (1920 + q.val), 0] : Fin 2 → ℕ) a + S8x4096.size a ≤ S16384x4096.size a := by
  have := q.isLt
  intro a
  match a with
  | 0 => show 8 * (1920 + q.val) + 8 ≤ 16384; omega
  | 1 => show 0 + 4096 ≤ 4096; omega
theorem o_inb (q : Fin 128) : ∀ a, (![8 * q.val, 0] : Fin 2 → ℕ) a + S8x128.size a ≤ S1024x128.size a := by
  have := q.isLt
  intro a
  match a with
  | 0 => show 8 * q.val + 8 ≤ 1024; omega
  | 1 => show 0 + 128 ≤ 128; omega

/-- Chunk `q` of the last 1024 rows of `x`. -/
abbrev xRect (q : Fin 128) : Rect S16384x4096 := Rect.unit (s := S16384x4096) ![8 * (1920 + q.val), 0] S8x4096.size (x_inb q)
/-- Chunk `q` of the SparseCore call's result. -/
abbrev oRect (q : Fin 128) : Rect S1024x128 := Rect.unit (s := S1024x128) ![8 * q.val, 0] S8x128.size (o_inb q)

/-- The index of `x` that index `y` of chunk `q` is. -/
def xIx (q : Fin 128) (y : S8x4096.Idx) : S16384x4096.Idx := fun a => match a with
  | 0 => ⟨8 * (1920 + q.val) + (y 0).val, by have h : (y 0).val < 8 := (y 0).isLt; have := q.isLt; show _ < 16384; omega⟩
  | 1 => y 1

section Chunks

variable (m : (ℓ : Loc nD τ sig) → Buf (Elt F) ℓ) (d : Dev nD)

/-- Chunk `q`'s rows of `x`. -/
def xChunk (q : Fin 128) : Vec F S8x4096 .f32 := fun y => (m (xLoc d) : S16384x4096.Idx → F .f32) (xIx q y)

/-- The sums of the last 1024 rows of `x`, as the kernel forms them: row `r` of chunk `q` is row `8 q + r`. -/
def outVal : S1024x128.Idx → F .f32 := fun y =>
  chunkSum (xChunk m d ⟨(y 0).val / 8, by have h : (y 0).val < 1024 := (y 0).isLt; omega⟩)
    (fun a => match a with | 0 => ⟨(y 0).val % 8, Nat.mod_lt _ (by decide)⟩ | 1 => y 1)

/-- Chunk `q` of `x`. -/
def xPts (q : Fin 128) : sProp (MM F) := xLoc d ↦[(xRect q).set]{fullShare} m (xLoc d)
/-- Chunk `q` of the call's result, at any contents. -/
def oPts (q : Fin 128) : sProp (MM F) := iprop(∃ f : Buf (Elt F) (oLoc d), oLoc d ↦[(oRect q).set]{fullShare} f)
/-- Chunk `q` of the call's result, at the sums. -/
def oDone (q : Fin 128) : sProp (MM F) := oLoc d ↦[(oRect q).set]{fullShare} (outVal m d : Buf (Elt F) (oLoc d))

instance (q : Fin 128) : BI.Storable (upEmb : UEmb _ (MM F)) (xPts m d q) := by unfold xPts; infer_instance
instance (q : Fin 128) : BI.Storable (upEmb : UEmb _ (MM F)) (oPts d q) := by unfold oPts; infer_instance
instance (q : Fin 128) : BI.Storable (upEmb : UEmb _ (MM F)) (oDone m d q) := by unfold oDone; infer_instance

theorem pts_x (i : grid0.Coords) (q : Fin 128) {off : Fin 2 → ℕ} (hoff : off = ![8 * (1920 + q.val), 0])
    (inb : ∀ a, off a + S8x4096.size a ≤ S16384x4096.size a) :
    ((xV.slice (Rect.unit (s := S16384x4096) off S8x4096.size inb) (fun _ => rfl)).view.loc (thr d i)
        ↦[(xV.slice (Rect.unit (s := S16384x4096) off S8x4096.size inb) (fun _ => rfl)).view.set]{fullShare} m (xLoc d) : sProp (MM F))
      = xPts m d q := by
  subst hoff
  show (xLoc d ↦[((View.whole main_arg0_scv).slice (xRect q)).set]{fullShare} m (xLoc d) : sProp (MM F)) = _
  rw [View.set_slice_whole]; rfl

theorem read_x (i : grid0.Coords) (q : Fin 128) {off : Fin 2 → ℕ} (hoff : off = ![8 * (1920 + q.val), 0])
    (inb : ∀ a, off a + S8x4096.size a ≤ S16384x4096.size a) :
    (xV.slice (Rect.unit (s := S16384x4096) off S8x4096.size inb) (fun _ => rfl)).view.read (Elt F) (m (xLoc d)) = xChunk m d q := by
  subst hoff
  funext y
  refine (View.read_apply _ _).trans ((cast_eq _ _).trans ?_)
  show (m (xLoc d) : S16384x4096.Idx → F .f32) ((xRect q).emb y) = _
  unfold xChunk
  refine congrArg _ (funext fun a => Fin.ext ?_)
  match a with
  | 0 => show 8 * (1920 + q.val) + 1 * (y 0).val = 8 * (1920 + q.val) + (y 0).val; omega
  | 1 => show 0 + 1 * (y 1).val = (y 1).val; omega

theorem pts_o (i : grid0.Coords) (q : Fin 128) {off : Fin 2 → ℕ} (hoff : off = ![8 * q.val, 0])
    (inb : ∀ a, off a + S8x128.size a ≤ S1024x128.size a) (f : Buf (Elt F) (oLoc d)) :
    ((oV.slice (Rect.unit (s := S1024x128) off S8x128.size inb) (fun _ => rfl)).view.loc (thr d i)
        ↦[(oV.slice (Rect.unit (s := S1024x128) off S8x128.size inb) (fun _ => rfl)).view.set]{fullShare} f : sProp (MM F))
      = oLoc d ↦[(oRect q).set]{fullShare} f := by
  subst hoff
  show (oLoc d ↦[((View.whole main_v0_scv).slice (oRect q)).set]{fullShare} f : sProp (MM F)) = _
  rw [View.set_slice_whole]

/-- A chunk of sums written at its place holds that chunk of `outVal`. -/
theorem write_o (i : grid0.Coords) (q : Fin 128) {off : Fin 2 → ℕ} (hoff : off = ![8 * q.val, 0])
    (inb : ∀ a, off a + S8x128.size a ≤ S1024x128.size a) (f : Buf (Elt F) (oLoc d)) :
    (oLoc d ↦[(oRect q).set]{fullShare} ((oV.slice (Rect.unit (s := S1024x128) off S8x128.size inb) (fun _ => rfl)).view.write (Elt F) f (chunkSum (xChunk m d q)) Finset.univ) : sProp (MM F))
      = oDone m d q := by
  subst hoff
  unfold oDone
  refine pointsTo_congr fun y hy => ?_
  obtain ⟨x, rfl⟩ : ∃ x, (oRect q).emb x = y := by
    rw [← Rect.map_emb_univ] at hy
    obtain ⟨x, -, hx⟩ := Finset.mem_map.mp hy
    exact ⟨x, hx⟩
  refine (View.write_emb_of_mem (v := (oV.slice (oRect q) (fun _ => rfl)).view) f _ (x := x) (Finset.mem_univ _)).trans ((cast_eq _ _).trans ?_)
  have h0 : (x 0).val < 8 := (x 0).isLt
  have e0 : ((oRect q).emb x 0).val = 8 * q.val + (x 0).val := by show 8 * q.val + 1 * (x 0).val = _; omega
  have e1 : ((oRect q).emb x 1).val = (x 1).val := by show 0 + 1 * (x 1).val = _; omega
  unfold outVal
  have eq : (⟨((oRect q).emb x 0).val / 8, by rw [e0]; have := q.isLt; omega⟩ : Fin 128) = q := Fin.ext (by show ((oRect q).emb x 0).val / 8 = _; rw [e0]; omega)
  rw [eq]
  refine congrArg _ (funext fun a => Fin.ext ?_)
  match a with
  | 0 => show (x 0).val = ((oRect q).emb x 0).val % 8; rw [e0]; omega
  | 1 => exact e1.symm

end Chunks

/-! ## A transfer in, a transfer out, and their waits -/

section Steps

variable (m : (ℓ : Loc nD τ sig) → Buf (Elt F) ℓ) (d : Dev nD) (i : grid0.Coords) {α : Type} {Q : α → sProp (MM F)}
variable (ib : Memref sig .scVector .vmem S8x4096 .f32) (ob : Memref sig .scVector .vmem S8x128 .f32) (sem : DmaSem sig)

/-- An input buffer, an output buffer, at any contents; a semaphore at rest. -/
def inAny : sProp (MM F) := iprop(∃ f, inAt d i ib f)
def outAny : sProp (MM F) := iprop(∃ g, outAt d i ob g)
abbrev idle : sProp (MM F) := semVal (thr d i, SemLoc.dma sem) 0

/-- What a transfer out is worth to its semaphore. -/
abbrev NO : ℕ := (main_v0_scv : Ref sig .scVector).dmaCredit S8x128 .f32

/-- Chunk `q` of `x` on its way to an input buffer: what the wait for it hands over. -/
def fetching (q : Fin 128) : sProp (MM F) :=
  Transfers.Flight EC (thr d i) (.dma sem) none ib.view.dmaCredit iprop(inAt d i ib (xChunk m d q) ∗ xPts m d q)
/-- The sums of chunk `q` on their way out of an output buffer. -/
def sending (q : Fin 128) : sProp (MM F) :=
  Transfers.Flight EC (thr d i) (.dma sem) none NO iprop(oDone m d q ∗ outAny d i ob)

theorem view_set_in : ib.view.set = (ib.access (.whole S8x4096)).set := by
  refine ((View.set_slice ib.view (Rect.whole S8x4096)).trans ?_).symm
  rw [Rect.set_whole]; rfl
theorem view_set_out : ob.view.set = (ob.access (.whole S8x128)).set := by
  refine ((View.set_slice ob.view (Rect.whole S8x128)).trans ?_).symm
  rw [Rect.set_whole]; rfl

theorem read_in (f : Buf (Elt F) (ib.view.loc (thr d i))) : (ib.access (.whole S8x4096)).read (Elt F) f = ib.view.read (Elt F) f := by
  funext y
  show cast _ (f (ib.view.emb ((Rect.whole S8x4096).emb y))) = cast _ (f (ib.view.emb y))
  rw [Rect.emb_whole_apply]
theorem read_out (f : Buf (Elt F) (ob.view.loc (thr d i))) : (ob.access (.whole S8x128)).read (Elt F) f = ob.view.read (Elt F) f := by
  funext y
  show cast _ (f (ob.view.emb ((Rect.whole S8x128).emb y))) = cast _ (f (ob.view.emb y))
  rw [Rect.emb_whole_apply]

/-- What the thread still owes, its waits grown by some on its own transfers alone. -/
def owesOk (O : CellTallies nD τ sig (HIx 1)) (W : Waits sig (HIx 1)) : sProp (MM F) :=
  iprop(∃ W', ⌜∀ p ∈ W', p ∈ W ∨ p.2 = none⌝ ∗ owes (thr d i) O W')

/-- A transfer in: chunk `q` of `x` and an idle input buffer are on their way. -/
theorem wp_fetch (q : Fin 128) {off : Fin 2 → ℕ} (hoff : off = ![8 * (1920 + q.val), 0])
    {inb : ∀ a, off a + S8x4096.size a ≤ S16384x4096.size a} {h1 h2 h3} {k : PUnit → TileProg (F := F) i α} :
    iprop(xPts m d q ∗ inAny d i ib ∗ idle d i sem)
      ⊢ iprop((fetching m d i ib sem q -∗ tileWp d i (k ⟨⟩) Q)
        -∗ tileWp d i (.op (.enqueueDma (xV.slice (Rect.unit (s := S16384x4096) off S8x4096.size inb) (fun _ => rfl)) (.here ib) (.dma sem) h1 h2 h3) k) Q) := by
  unfold inAny inAt
  iintro ⟨Hx, ⟨%f, %b, -, Hb⟩, Hs⟩ Hk
  ihave Hx := (Entails.of_eq (pts_x m d i q hoff inb).symm) $$ Hx
  rw [← view_set_in]
  iapply (Transfers.wp_dmaLocal EC 𝒱₀ (thr d i) none (src := xV.slice (Rect.unit (s := S16384x4096) off S8x4096.size inb) (fun _ => rfl)) (dst := ib)
    (q := fullShare) (fs := m (xLoc d)) (Sd := ib.view.set) (fd := b) none ib.view.dmaCredit rfl (View.dmaCredit_pos _ (by decide)) subset_rfl) $$ [Hx Hb Hs]
  · isplitl [Hx]; · iexact Hx
    isplitl [Hb]; · iexact Hb
    iexact Hs
  iintro Hf
  iapply Hk
  unfold fetching
  iapply (Transfers.Flight_mono EC (thr d i) ?hm) $$ Hf
  case hm =>
    rw [pts_x m d i q hoff inb, read_x m d i q hoff inb]
    iintro ⟨Hb, Hx⟩
    isplitr [Hx]
    · unfold inAt
      iexists (ib.view.write (Elt F) b (xChunk m d q) Finset.univ); isplitr
      · ipureintro
        exact (read_in d i ib _).trans (View.read_write_univ _ _)
      · rw [← view_set_in]; iexact Hb
    · iexact Hx

/-- The wait for it. -/
theorem wp_fetched (q : Fin 128) {O : CellTallies nD τ sig (HIx 1)} {W : Waits sig (HIx 1)} {sp' : Space} {s' : Shape} {e' : EltTy}
    {srcw : Memref sig .scVector sp' s' e'} {h1 h2} {k : PUnit → TileProg (F := F) i α} :
    iprop(Transfers.MayWaits (thr d i) none O ∗ fetching m d i ib sem q ∗ owesOk d i O W)
      ⊢ iprop((iprop(inAt d i ib (xChunk m d q) ∗ xPts m d q ∗ idle d i sem ∗ owesOk d i O W) -∗ tileWp d i (k ⟨⟩) Q)
        -∗ tileWp d i (.op (.waitDma2 sem srcw ib h1 h2) k) Q) := by
  unfold fetching owesOk
  iintro ⟨Hm, Hf, ⟨%W', %hW, HO⟩⟩ Hk
  iapply (Transfers.wp_waitLocalO EC 𝒱₀ (thr d i) none none rfl) $$ [Hm Hf HO]
  · isplitl [Hf]; · iexact Hf
    isplitl [HO]; · iexact HO
    iapply (Transfers.MayWaits.elim (SemLoc.dma sem)); iexact Hm
  iintro ⟨⟨Hi, Hx⟩, Hs, HO⟩
  iapply Hk
  isplitl [Hi]; · iexact Hi
  isplitl [Hx]; · iexact Hx
  isplitl [Hs]; · iexact Hs
  iexists (insert (SemLoc.dma sem, none) W'); isplitr
  · ipureintro
    intro p hp
    rcases Finset.mem_insert.mp hp with rfl | h
    · exact Or.inr rfl
    · exact hW p h
  iexact HO

/-- A transfer out: the sums of chunk `q` are on their way to its place in the result. -/
theorem wp_send (q : Fin 128) {off : Fin 2 → ℕ} (hoff : off = ![8 * q.val, 0])
    {inb : ∀ a, off a + S8x128.size a ≤ S1024x128.size a} {h1 h2 h3} {k : PUnit → TileProg (F := F) i α} :
    iprop(outAt d i ob (chunkSum (xChunk m d q)) ∗ oPts d q ∗ idle d i sem)
      ⊢ iprop((sending m d i ob sem q -∗ tileWp d i (k ⟨⟩) Q)
        -∗ tileWp d i (.op (.enqueueDma ob (.here (oV.slice (Rect.unit (s := S1024x128) off S8x128.size inb) (fun _ => rfl))) (.dma sem) h1 h2 h3) k) Q) := by
  unfold oPts outAt
  iintro ⟨⟨%b, %hb, Hb⟩, ⟨%f, Ho⟩, Hs⟩ Hk
  ihave Ho := (Entails.of_eq (pts_o d i q hoff inb f).symm) $$ Ho
  rw [← view_set_out]
  rw [read_out] at hb
  iapply (Transfers.wp_dmaLocal EC 𝒱₀ (thr d i) none (src := ob) (dst := oV.slice (Rect.unit (s := S1024x128) off S8x128.size inb) (fun _ => rfl))
    (q := fullShare) (fs := b) (fd := f) none NO rfl
    (View.dmaCredit_pos (oV.slice (Rect.unit (s := S1024x128) off S8x128.size inb) (fun _ => rfl)).view (by decide : 0 < S8x128.numel)) subset_rfl) $$ [Ho Hb Hs]
  · isplitl [Hb]; · iexact Hb
    isplitl [Ho]; · iexact Ho
    iexact Hs
  iintro Hf
  iapply Hk
  unfold sending
  iapply (Transfers.Flight_mono EC (thr d i) ?hm) $$ Hf
  case hm =>
    rw [pts_o d i q hoff inb, hb]
    iintro ⟨Ho, Hb⟩
    isplitl [Ho]
    · iapply (Entails.of_eq (write_o m d i q hoff inb f)); iexact Ho
    · unfold outAny outAt
      iexists (chunkSum (xChunk m d q)); iexists b; isplitr
      · ipureintro; exact (read_out d i ob b).trans hb
      · rw [← view_set_out]; iexact Hb

/-- The wait for it. -/
theorem wp_sent (q : Fin 128) {O : CellTallies nD τ sig (HIx 1)} {W : Waits sig (HIx 1)} {off : Fin 2 → ℕ}
    {inb : ∀ a, off a + S8x128.size a ≤ S1024x128.size a} {h1 h2} {k : PUnit → TileProg (F := F) i α} :
    iprop(Transfers.MayWaits (thr d i) none O ∗ sending m d i ob sem q ∗ owesOk d i O W)
      ⊢ iprop((iprop(oDone m d q ∗ outAny d i ob ∗ idle d i sem ∗ owesOk d i O W) -∗ tileWp d i (k ⟨⟩) Q)
        -∗ tileWp d i (.op (.waitDma2 sem ob (oV.slice (Rect.unit (s := S1024x128) off S8x128.size inb) (fun _ => rfl)) h1 h2) k) Q) := by
  unfold sending owesOk
  iintro ⟨Hm, Hf, ⟨%W', %hW, HO⟩⟩ Hk
  iapply (Transfers.wp_waitLocalO EC 𝒱₀ (thr d i) none none rfl) $$ [Hm Hf HO]
  · isplitl [Hf]; · iexact Hf
    isplitl [HO]; · iexact HO
    iapply (Transfers.MayWaits.elim (SemLoc.dma sem)); iexact Hm
  iintro ⟨⟨Ho, Hb⟩, Hs, HO⟩
  iapply Hk
  isplitl [Ho]; · iexact Ho
  isplitl [Hb]; · iexact Hb
  isplitl [Hs]; · iexact Hs
  iexists (insert (SemLoc.dma sem, none) W'); isplitr
  · ipureintro
    intro p hp
    rcases Finset.mem_insert.mp hp with rfl | h
    · exact Or.inr rfl
    · exact hW p h
  iexact HO

/-- The loop over a chunk's eight rows: the output buffer at the chunk's sums. -/
theorem wp_rows {f : Vec F S8x4096 .f32} {lb ub st : BitVec 32} (ok : Scf.OK lb ub st) (ht : Scf.trips lb ub st = 8)
    {body : Fin (Scf.trips lb ub st) → Unit → TileProg (F := F) i Unit}
    (hbody : ∀ t, body t ⟨⟩ = rowOf i ib ob (rowV (BitVec.ofNat 32 t.val)) lanesV (colV 0) ((List.range' 1 31).map colV) ((List.range' 0 8).map starts))
    {k : Unit → TileProg (F := F) i α} :
    iprop(inAt d i ib f ∗ outAny d i ob)
      ⊢ iprop((iprop(inAt d i ib f ∗ outAt d i ob (chunkSum f)) -∗ tileWp d i (k ⟨⟩) Q)
        -∗ tileWp d i (Scf.for lb ub st ok ⟨⟩ body >>= k) Q) := by
  unfold outAny
  iintro ⟨Hi, ⟨%g, Ho⟩⟩ Hk
  iapply (Scf.wp_for_bind frame (wpE (defs₀ (F := F)) 𝒱₀ (thr d i) none) Set.univ lb ub st ok ⟨⟩ body
    (fun t _ => iprop(inAt d i ib f ∗ outAt d i ob (partSum f g (8 * t)))) ?hb) $$ [Hi Ho]
  case hb =>
    intro t _
    have h8 : t.val < 8 := ht ▸ t.isLt
    rw [hbody t]
    iintro H
    iapply (wp_rowOf d i ib ob (g := g) h8 8 0 rfl) $$ H
    iintro H; iexact H
  · rw [partSum_zero]
    isplitl [Hi]; · iexact Hi
    iexact Ho
  iintro %_ H
  rw [ht, partSum_all]
  iapply Hk; iexact H

end Steps

end Cert.Proof.SegSum

end
-- ==== Proof.Body.lean ====
/-
  A tile's body, whole: the two trips of its loop, each of two chunks, and the waits for the last two transfers out.
-/
module

public import proofs.«01_k».proof.Proof.Tile

@[expose] public section

set_option maxRecDepth 65536

noncomputable section

namespace Cert.Proof.SegSum

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tile at a grid point works on chunks `4 (2 s + c) + k`, for `k` below 4. -/
def ch (i : grid0.Coords) (k : Fin 4) : Fin 128 :=
  ⟨4 * (2 * (i 1).val + (i 0).val) + k.val, by have h0 : (i 0).val < 2 := (i 0).isLt; have h1 : (i 1).val < 16 := (i 1).isLt; have := k.isLt; omega⟩

theorem vec2 {a b : ℕ} (h : a = b) : (![a, 0] : Fin 2 → ℕ) = ![b, 0] := by rw [h]

theorem t1_trips : k0_t1_loop.trips = 2 := by decide +kernel
theorem t1_cases : ∀ t : Fin k0_t1_loop.trips, t.val = 0 ∨ t.val = 1 := by decide +kernel
theorem t2_trips : k0_t2_loop.trips = 8 := by decide +kernel
theorem t3_trips : k0_t3_loop.trips = 8 := by decide +kernel

/-- The next chunk of a trip's first half is always fetched ahead; that of its second half in the first trip alone, and
    the output buffers are waited for in the second alone. -/
theorem cond1_all : ∀ t, k0_cond1 t = 1#1 := by decide +kernel
theorem cond2_iff : ∀ t, k0_cond2 t = 1#1 ↔ t.val = 1 := by decide +kernel
theorem cond3_iff : ∀ t, k0_cond3 t = 1#1 ↔ t.val = 0 := by decide +kernel
theorem cond4_iff : ∀ t, k0_cond4 t = 1#1 ↔ t.val = 1 := by decide +kernel

/-- A trip's body at the tile's buffers and the columns the lanes read. -/
def trip (i : grid0.Coords) (v3 v4 : BitVec 32) : Fin k0_t1_loop.trips → Unit → TileProg (F := F) i Unit :=
  k0_t1_body i xV (Memref.isWhole_whole _) oV (Memref.isWhole_whole _) sI0 (Memref.isWhole_whole _) sI1 (Memref.isWhole_whole _)
    sO0 (Memref.isWhole_whole _) sO1 (Memref.isWhole_whole _) cc0_scratch4 cc0_scratch5 cc0_scratch6 cc0_scratch7 v3 v4 lanesV
    (colV 0) (colV 1) (colV 2) (colV 3) (colV 4) (colV 5) (colV 6) (colV 7) (colV 8) (colV 9) (colV 10) (colV 11) (colV 12) (colV 13) (colV 14) (colV 15)
    (colV 16) (colV 17) (colV 18) (colV 19) (colV 20) (colV 21) (colV 22) (colV 23) (colV 24) (colV 25) (colV 26) (colV 27) (colV 28) (colV 29) (colV 30) (colV 31)
    (k0_pay628 lanesV)

/-- The columns the lanes read after their first. -/
abbrev colVs : List (IVec S16 32) := (List.range' 1 31).map colV

theorem iv_eq (t : ℕ) : Scf.iv 0#32 1#32 t = BitVec.ofNat 32 t := by simp [Scf.iv]

section Body

variable (m : (ℓ : Loc nD τ sig) → Buf (Elt F) ℓ) (d : Dev nD) (i : grid0.Coords)
variable (O : CellTallies nD τ sig (HIx 1)) (W : Waits sig (HIx 1))

/-- Before the first trip: chunk 0 on its way in. -/
def atFirst : sProp (MM F) :=
  iprop(fetching m d i sI0 cc0_scratch4.sem (ch i 0) ∗ (inAny d i sI1 ∗ idle d i cc0_scratch5.sem)
    ∗ (outAny d i sO0 ∗ idle d i cc0_scratch6.sem) ∗ (outAny d i sO1 ∗ idle d i cc0_scratch7.sem)
    ∗ (xPts m d (ch i 1) ∗ xPts m d (ch i 2) ∗ xPts m d (ch i 3))
    ∗ (oPts d (ch i 0) ∗ oPts d (ch i 1) ∗ oPts d (ch i 2) ∗ oPts d (ch i 3)))
/-- Between the trips: chunk 2 on its way in, the sums of chunks 0 and 1 on their way out. -/
def atSecond : sProp (MM F) :=
  iprop(fetching m d i sI0 cc0_scratch4.sem (ch i 2) ∗ (inAny d i sI1 ∗ idle d i cc0_scratch5.sem)
    ∗ sending m d i sO0 cc0_scratch6.sem (ch i 0) ∗ sending m d i sO1 cc0_scratch7.sem (ch i 1)
    ∗ (xPts m d (ch i 0) ∗ xPts m d (ch i 1) ∗ xPts m d (ch i 3))
    ∗ (oPts d (ch i 2) ∗ oPts d (ch i 3)))
/-- After the second: the sums of chunks 2 and 3 on their way out. -/
def atEnd : sProp (MM F) :=
  iprop((inAny d i sI0 ∗ idle d i cc0_scratch4.sem) ∗ (inAny d i sI1 ∗ idle d i cc0_scratch5.sem)
    ∗ sending m d i sO0 cc0_scratch6.sem (ch i 2) ∗ sending m d i sO1 cc0_scratch7.sem (ch i 3)
    ∗ (xPts m d (ch i 0) ∗ xPts m d (ch i 1) ∗ xPts m d (ch i 2) ∗ xPts m d (ch i 3))
    ∗ (oDone m d (ch i 0) ∗ oDone m d (ch i 1)))

theorem trip_first (v3 v4 : BitVec 32) (t : Fin k0_t1_loop.trips) (ht : t.val = 0) :
    iprop(Transfers.MayWaits (thr d i) none O ∗ atFirst m d i ∗ owesOk d i O W)
      ⊢ tileWp d i (trip (F := F) i v3 v4 t ⟨⟩) fun _ => iprop(Transfers.MayWaits (thr d i) none O ∗ atSecond m d i ∗ owesOk d i O W) := by
  have c1 := cond1_all t
  have c2 : ¬ k0_cond2 t = 1#1 := fun h => by have := (cond2_iff t).mp h; omega
  have c3 := (cond3_iff t).mpr ht
  have c4 : ¬ k0_cond4 t = 1#1 := fun h => by have := (cond4_iff t).mp h; omega
  unfold trip k0_t1_body
  rw [k0_part53_eq_skeleton]
  unfold k0_part53_skel
  simp only [Prog.lift, Prog.bind_op, Prog.bind_ret, Prog.pure_eq_ret, bind_assoc, dif_pos c1, dif_neg c2, dif_pos c3, dif_neg c4]
  unfold atFirst
  iintro ⟨#Hm, ⟨HF, ⟨Hi1, Hs1⟩, ⟨Ho0, Hr0⟩, ⟨Ho1, Hr1⟩, ⟨X1, X2, X3⟩, ⟨P0, P1, P2, P3⟩⟩, HO⟩
  have off2 := (k0_off2_eq i t).trans (vec2 (b := 8 * (1920 + (ch i 1).val)) (by show _ = 8 * (1920 + (4 * (2 * (i 1).val + (i 0).val) + 1)); omega))
  have off6 := (k0_off6_eq i t).trans (vec2 (b := 8 * (1920 + (ch i 2).val)) (by show _ = 8 * (1920 + (4 * (2 * (i 1).val + (i 0).val) + 2)); omega))
  have off50 := (k0_off5_eq i t 0).trans (vec2 (b := 8 * (ch i 0).val) (by show _ + 8 * 0 = 8 * (4 * (2 * (i 1).val + (i 0).val) + 0); omega))
  have off51 := (k0_off5_eq i t 1).trans (vec2 (b := 8 * (ch i 1).val) (by show _ + 8 * 1 = 8 * (4 * (2 * (i 1).val + (i 0).val) + 1); omega))
  iapply (wp_fetch m d i sI1 cc0_scratch5.sem (ch i 1) off2) $$ [X1 Hi1 Hs1]
  · isplitl [X1]; · iexact X1
    isplitl [Hi1]; · iexact Hi1
    iexact Hs1
  iintro HF1
  iapply (wp_fetched m d i sI0 cc0_scratch4.sem (ch i 0)) $$ [HF HO]
  · isplitr; · iexact Hm
    isplitl [HF]; · iexact HF
    iexact HO
  iintro ⟨Hi0, X0, Hs0, HO⟩
  iapply (wp_rows d i sI0 sO0 k0_t2_ok t2_trips (fun u => (t2_body_eq ..).trans (by rw [iv_eq]; rfl))) $$ [Hi0 Ho0]
  · isplitl [Hi0]; · iexact Hi0
    iexact Ho0
  iintro ⟨Hi0, Ho0⟩
  iapply (wp_send m d i sO0 cc0_scratch6.sem (ch i 0) off50) $$ [Ho0 P0 Hr0]
  · isplitl [Ho0]; · iexact Ho0
    isplitl [P0]; · iexact P0
    iexact Hr0
  iintro HS0
  iapply (wp_fetch m d i sI0 cc0_scratch4.sem (ch i 2) off6) $$ [X2 Hi0 Hs0]
  · isplitl [X2]; · iexact X2
    isplitl [Hi0]; · unfold inAny; iexists _; iexact Hi0
    iexact Hs0
  iintro HF
  iapply (wp_fetched m d i sI1 cc0_scratch5.sem (ch i 1)) $$ [HF1 HO]
  · isplitr; · iexact Hm
    isplitl [HF1]; · iexact HF1
    iexact HO
  iintro ⟨Hi1, X1, Hs1, HO⟩
  iapply (wp_rows d i sI1 sO1 k0_t3_ok t3_trips (fun u => (t3_body_eq ..).trans (by rw [iv_eq]; rfl))) $$ [Hi1 Ho1]
  · isplitl [Hi1]; · iexact Hi1
    iexact Ho1
  iintro ⟨Hi1, Ho1⟩
  iapply (wp_send m d i sO1 cc0_scratch7.sem (ch i 1) off51) $$ [Ho1 P1 Hr1]
  · isplitl [Ho1]; · iexact Ho1
    isplitl [P1]; · iexact P1
    iexact Hr1
  iintro HS1
  unfold tileWp
  rw [wp_ret]; imodintro
  unfold atSecond
  isplitr; · iexact Hm
  isplitr [HO]
  · isplitl [HF]; · iexact HF
    isplitl [Hi1 Hs1]
    · isplitl [Hi1]; · unfold inAny; iexists _; iexact Hi1
      iexact Hs1
    isplitl [HS0]; · iexact HS0
    isplitl [HS1]; · iexact HS1
    isplitl [X0 X1 X3]
    · isplitl [X0]; · iexact X0
      isplitl [X1]; · iexact X1
      iexact X3
    · isplitl [P2]; · iexact P2
      iexact P3
  · iexact HO

theorem trip_second (v3 v4 : BitVec 32) (t : Fin k0_t1_loop.trips) (ht : t.val = 1) :
    iprop(Transfers.MayWaits (thr d i) none O ∗ atSecond m d i ∗ owesOk d i O W)
      ⊢ tileWp d i (trip (F := F) i v3 v4 t ⟨⟩) fun _ => iprop(Transfers.MayWaits (thr d i) none O ∗ atEnd m d i ∗ owesOk d i O W) := by
  have c1 := cond1_all t
  have c2 := (cond2_iff t).mpr ht
  have c3 : ¬ k0_cond3 t = 1#1 := fun h => by have := (cond3_iff t).mp h; omega
  have c4 := (cond4_iff t).mpr ht
  unfold trip k0_t1_body
  rw [k0_part53_eq_skeleton]
  unfold k0_part53_skel
  simp only [Prog.lift, Prog.bind_op, Prog.bind_ret, Prog.pure_eq_ret, bind_assoc, dif_pos c1, dif_pos c2, dif_neg c3, dif_pos c4]
  unfold atSecond
  iintro ⟨#Hm, ⟨HF, ⟨Hi1, Hs1⟩, HS0, HS1, ⟨X0, X1, X3⟩, ⟨P2, P3⟩⟩, HO⟩
  have off2 := (k0_off2_eq i t).trans (vec2 (b := 8 * (1920 + (ch i 3).val)) (by show _ = 8 * (1920 + (4 * (2 * (i 1).val + (i 0).val) + 3)); omega))
  have off50 := (k0_off5_eq i t 0).trans (vec2 (b := 8 * (ch i 2).val) (by show _ + 8 * 0 = 8 * (4 * (2 * (i 1).val + (i 0).val) + 2); omega))
  have off51 := (k0_off5_eq i t 1).trans (vec2 (b := 8 * (ch i 3).val) (by show _ + 8 * 1 = 8 * (4 * (2 * (i 1).val + (i 0).val) + 3); omega))
  iapply (wp_fetch m d i sI1 cc0_scratch5.sem (ch i 3) off2) $$ [X3 Hi1 Hs1]
  · isplitl [X3]; · iexact X3
    isplitl [Hi1]; · iexact Hi1
    iexact Hs1
  iintro HF1
  iapply (wp_fetched m d i sI0 cc0_scratch4.sem (ch i 2)) $$ [HF HO]
  · isplitr; · iexact Hm
    isplitl [HF]; · iexact HF
    iexact HO
  iintro ⟨Hi0, X2, Hs0, HO⟩
  iapply (wp_sent m d i sO0 cc0_scratch6.sem (ch i 0)) $$ [HS0 HO]
  · isplitr; · iexact Hm
    isplitl [HS0]; · iexact HS0
    iexact HO
  iintro ⟨D0, Ho0, Hr0, HO⟩
  iapply (wp_rows d i sI0 sO0 k0_t2_ok t2_trips (fun u => (t2_body_eq ..).trans (by rw [iv_eq]; rfl))) $$ [Hi0 Ho0]
  · isplitl [Hi0]; · iexact Hi0
    iexact Ho0
  iintro ⟨Hi0, Ho0⟩
  iapply (wp_send m d i sO0 cc0_scratch6.sem (ch i 2) off50) $$ [Ho0 P2 Hr0]
  · isplitl [Ho0]; · iexact Ho0
    isplitl [P2]; · iexact P2
    iexact Hr0
  iintro HS0
  iapply (wp_fetched m d i sI1 cc0_scratch5.sem (ch i 3)) $$ [HF1 HO]
  · isplitr; · iexact Hm
    isplitl [HF1]; · iexact HF1
    iexact HO
  iintro ⟨Hi1, X3, Hs1, HO⟩
  iapply (wp_sent m d i sO1 cc0_scratch7.sem (ch i 1)) $$ [HS1 HO]
  · isplitr; · iexact Hm
    isplitl [HS1]; · iexact HS1
    iexact HO
  iintro ⟨D1, Ho1, Hr1, HO⟩
  iapply (wp_rows d i sI1 sO1 k0_t3_ok t3_trips (fun u => (t3_body_eq ..).trans (by rw [iv_eq]; rfl))) $$ [Hi1 Ho1]
  · isplitl [Hi1]; · iexact Hi1
    iexact Ho1
  iintro ⟨Hi1, Ho1⟩
  iapply (wp_send m d i sO1 cc0_scratch7.sem (ch i 3) off51) $$ [Ho1 P3 Hr1]
  · isplitl [Ho1]; · iexact Ho1
    isplitl [P3]; · iexact P3
    iexact Hr1
  iintro HS1
  unfold tileWp
  rw [wp_ret]; imodintro
  unfold atEnd
  isplitr; · iexact Hm
  isplitr [HO]
  · isplitl [Hi0 Hs0]
    · isplitl [Hi0]; · unfold inAny; iexists _; iexact Hi0
      iexact Hs0
    isplitl [Hi1 Hs1]
    · isplitl [Hi1]; · unfold inAny; iexists _; iexact Hi1
      iexact Hs1
    isplitl [HS0]; · iexact HS0
    isplitl [HS1]; · iexact HS1
    isplitl [X0 X1 X2 X3]
    · isplitl [X0]; · iexact X0
      isplitl [X1]; · iexact X1
      isplitl [X2]; · iexact X2
      iexact X3
    · isplitl [D0]; · iexact D0
      iexact D1
  · iexact HO

/-- What a tile is given of the arguments and the result: its four chunks of each; -/
def tileIn : sProp (MM F) :=
  iprop((xPts m d (ch i 0) ∗ xPts m d (ch i 1) ∗ xPts m d (ch i 2) ∗ xPts m d (ch i 3))
    ∗ (oPts d (ch i 0) ∗ oPts d (ch i 1) ∗ oPts d (ch i 2) ∗ oPts d (ch i 3)))
/-- and gives back: the chunks of the result at the sums. -/
def tileOut : sProp (MM F) :=
  iprop((xPts m d (ch i 0) ∗ xPts m d (ch i 1) ∗ xPts m d (ch i 2) ∗ xPts m d (ch i 3))
    ∗ (oDone m d (ch i 0) ∗ oDone m d (ch i 1) ∗ oDone m d (ch i 2) ∗ oDone m d (ch i 3)))
/-- A tile's own buffers, at any contents, and its transfers' semaphores, at rest. -/
def tileBufs : sProp (MM F) := iprop(inAny d i sI0 ∗ inAny d i sI1 ∗ outAny d i sO0 ∗ outAny d i sO1)
def tileSems : sProp (MM F) :=
  iprop(idle d i cc0_scratch4.sem ∗ idle d i cc0_scratch5.sem ∗ idle d i cc0_scratch6.sem ∗ idle d i cc0_scratch7.sem)

/-- The loop's invariant: what holds before trip `t`. -/
def stage : ℕ → sProp (MM F)
  | 0 => atFirst m d i
  | 1 => atSecond m d i
  | _ + 2 => atEnd m d i

theorem stage_zero : stage m d i 0 = atFirst m d i := rfl
theorem stage_one : stage m d i 1 = atSecond m d i := rfl
theorem stage_two : stage m d i 2 = atEnd m d i := rfl

set_option maxHeartbeats 4000000 in
theorem trip_step (v3 v4 : BitVec 32) (t : Fin k0_t1_loop.trips) :
    iprop(Transfers.MayWaits (thr d i) none O ∗ stage m d i t.val ∗ owesOk d i O W)
      ⊢ tileWp d i (trip (F := F) i v3 v4 t ⟨⟩) fun _ => iprop(Transfers.MayWaits (thr d i) none O ∗ stage m d i (t.val + 1) ∗ owesOk d i O W) := by
  obtain h | h := t1_cases t
  · have e0 : stage m d i t.val = atFirst m d i := by rw [h]; rfl
    have e1 : stage m d i (t.val + 1) = atSecond m d i := by rw [h]; rfl
    rw [e0, e1]; exact trip_first m d i O W v3 v4 t h
  · have e0 : stage m d i t.val = atSecond m d i := by rw [h]; rfl
    have e1 : stage m d i (t.val + 1) = atEnd m d i := by rw [h]; rfl
    rw [e0, e1]; exact trip_second m d i O W v3 v4 t h

/-- The tile's run. -/
theorem tile_run :
    iprop(Transfers.MayWaits (thr d i) none O ∗ tileIn m d i ∗ tileBufs d i ∗ tileSems d i ∗ owesOk d i O W)
      ⊢ tileWp d i (cc0__seg_sum_body (F := F) i xV (Memref.isWhole_whole _) oV (Memref.isWhole_whole _) sI0 (Memref.isWhole_whole _) sI1 (Memref.isWhole_whole _)
          sO0 (Memref.isWhole_whole _) sO1 (Memref.isWhole_whole _) cc0_scratch4 cc0_scratch5 cc0_scratch6 cc0_scratch7)
        fun _ => iprop(tileOut m d i ∗ tileBufs d i ∗ tileSems d i ∗ owesOk d i O W) := by
  rw [cc0__seg_sum_body_eq_skeleton]
  unfold cc0__seg_sum_body_skel
  rw [k0_part54_eq_skeleton, k0_part55_eq_skeleton]
  unfold k0_part54_skel k0_part55_skel
  simp only [Prog.lift, Prog.bind_op, Prog.bind_ret, Prog.pure_eq_ret, bind_assoc]
  unfold tileIn tileBufs tileSems
  iintro ⟨#Hm, ⟨⟨X0, X1, X2, X3⟩, P⟩, ⟨Hi0, Hi1, Ho0, Ho1⟩, ⟨Hs0, Hs1, Hr0, Hr1⟩, HO⟩
  have off1 := (k0_off1_eq i).trans (vec2 (b := 8 * (1920 + (ch i 0).val)) (by show _ = 8 * (1920 + (4 * (2 * (i 1).val + (i 0).val) + 0)); omega))
  iapply (wp_fetch m d i sI0 cc0_scratch4.sem (ch i 0) off1) $$ [X0 Hi0 Hs0]
  · isplitl [X0]; · iexact X0
    isplitl [Hi0]; · iexact Hi0
    iexact Hs0
  iintro HF
  iapply (Scf.wp_for_bind frame (wpE (defs₀ (F := F)) 𝒱₀ (thr d i) none) Set.univ _ _ _ k0_t1_ok ⟨⟩ (trip i _ _)
    (fun t _ => iprop(Transfers.MayWaits (thr d i) none O ∗ stage m d i t ∗ owesOk d i O W)) (fun t _ => trip_step m d i O W _ _ t)) $$ [X1 X2 X3 P Hi1 Ho0 Ho1 Hs1 Hr0 Hr1 HF HO]
  · isplitr; · iexact Hm
    isplitr [HO]
    · rw [stage_zero]; unfold atFirst
      isplitl [HF]; · iexact HF
      isplitl [Hi1 Hs1]
      · isplitl [Hi1]; · iexact Hi1
        iexact Hs1
      isplitl [Ho0 Hr0]
      · isplitl [Ho0]; · iexact Ho0
        iexact Hr0
      isplitl [Ho1 Hr1]
      · isplitl [Ho1]; · iexact Ho1
        iexact Hr1
      isplitl [X1 X2 X3]
      · isplitl [X1]; · iexact X1
        isplitl [X2]; · iexact X2
        iexact X3
      · iexact P
    · iexact HO
  iintro %_ H0
  icases H0 with ⟨-, H, HO⟩
  have hT : Scf.trips k0_t1_loop.lb k0_t1_loop.ub k0_t1_loop.st = 2 := t1_trips
  rw [hT]
  ihave H := (Entails.of_eq (stage_two m d i)) $$ H
  ihave H := (Entails.of_eq (show atEnd m d i = _ from by unfold atEnd; rfl)) $$ H
  icases H with ⟨⟨Hi0, Hs0⟩, ⟨Hi1, Hs1⟩, HS0, HS1, X, ⟨D0, D1⟩⟩
  iapply (wp_sent m d i sO0 cc0_scratch6.sem (ch i 2)) $$ [HS0 HO]
  · isplitr; · iexact Hm
    isplitl [HS0]; · iexact HS0
    iexact HO
  iintro ⟨D2, Ho0, Hr0, HO⟩
  iapply (wp_sent m d i sO1 cc0_scratch7.sem (ch i 3)) $$ [HS1 HO]
  · isplitr; · iexact Hm
    isplitl [HS1]; · iexact HS1
    iexact HO
  iintro ⟨D3, Ho1, Hr1, HO⟩
  unfold tileWp tileOut
  rw [wp_ret]; imodintro
  isplitl [X D0 D1 D2 D3]
  · isplitl [X]; · iexact X
    isplitl [D0]; · iexact D0
    isplitl [D1]; · iexact D1
    isplitl [D2]; · iexact D2
    iexact D3
  isplitl [Hi0 Hi1 Ho0 Ho1]
  · isplitl [Hi0]; · iexact Hi0
    isplitl [Hi1]; · iexact Hi1
    isplitl [Ho0]; · iexact Ho0
    iexact Ho1
  isplitl [Hs0 Hs1 Hr0 Hr1]
  · isplitl [Hs0]; · iexact Hs0
    isplitl [Hs1]; · iexact Hs1
    isplitl [Hr0]; · iexact Hr0
    iexact Hr1
  iexact HO

end Body

end Cert.Proof.SegSum

end
-- ==== Proof.Deal.lean ====
/-
  What the call hands its threads: each tile its four chunks of `x` and of the result, and back. The tile's run meets
  what the launch asks of a tile; the 32 tiles' chunks are the last 1024 rows of `x`, and the whole of the result.
-/
module

public import proofs.«01_k».proof.Proof.Body

@[expose] public section

set_option maxRecDepth 65536

noncomputable section

namespace Cert.Proof.SegSum

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two assertions that entail each other are one. -/
theorem eq_of_both {P Q : sProp (MM F)} (h₁ : P ⊢ Q) (h₂ : Q ⊢ P) : P = Q := BI.equiv_iff.mp ⟨h₁, h₂⟩

/-! ## A tile's buffers and semaphores are among its own -/

section Own

variable (d : Dev nD) (i : grid0.Coords)

theorem inAny_eq (ib : Memref sig .scVector .vmem S8x4096 .f32) (h : (ib.access (.whole S8x4096)).set = Finset.univ) :
    inAny (F := F) d i ib = iprop(∃ f, ib.view.loc (thr d i) ↦{fullShare} f) := by
  unfold inAny inAt
  rw [h]
  refine eq_of_both ?_ ?_
  · iintro ⟨%f, %b, -, H⟩; iexists b; iexact H
  · iintro ⟨%b, H⟩; iexists ((ib.access (.whole S8x4096)).read (Elt F) b); iexists b; isplitr
    · ipureintro; rfl
    · iexact H

theorem outAny_eq (ob : Memref sig .scVector .vmem S8x128 .f32) (h : (ob.access (.whole S8x128)).set = Finset.univ) :
    outAny (F := F) d i ob = iprop(∃ f, ob.view.loc (thr d i) ↦{fullShare} f) := by
  unfold outAny outAt
  rw [h]
  refine eq_of_both ?_ ?_
  · iintro ⟨%f, %b, -, H⟩; iexists b; iexact H
  · iintro ⟨%b, H⟩; iexists ((ob.access (.whole S8x128)).read (Elt F) b); iexists b; isplitr
    · ipureintro; rfl
    · iexact H

/-- A vector of the tile's own buffers, in the order of the list; the cells likewise. -/
abbrev bufOf (b : Ref sig .scVector) : DevRef τ sig := (Proc.scVector (cV i) (jV i)).devRef b
abbrev cellOf (s : DmaSem sig) : GSem nD τ sig := (thr d i, SemLoc.dma s)

theorem ownBufs_tile : ∃ R : sProp (MM F), (ownBufs (thr d i) : sProp (MM F)) = iprop(tileBufs d i ∗ R) := by
  refine ⟨bigSep (((((ownRefs (τ := τ) (.scVector (cV i) (jV i))).erase (bufOf i cc0_scratch0)).erase (bufOf i cc0_scratch1)).erase (bufOf i cc0_scratch2)).erase (bufOf i cc0_scratch3))
      fun b => iprop(∃ f, ((d, b) : Loc nD τ sig) ↦{fullShare} f), ?_⟩
  have own : ∀ b : Ref sig .scVector, (bufOf i b).owner = .proc (Proc.scVector (cV i) (jV i)) → bufOf i b ∈ ownRefs (τ := τ) (.scVector (cV i) (jV i)) :=
    fun b h => mem_ownRefs_of_owner (p := Proc.scVector (cV i) (jV i)) (b := bufOf i b) h
  have ne : ∀ a b : Ref sig .scVector, a ≠ b → bufOf i a ≠ bufOf i b := fun a b h e => h (Proc.devRef_injective _ e)
  unfold tileBufs
  rw [inAny_eq d i sI0 (Memref.set_access_whole _), inAny_eq d i sI1 (Memref.set_access_whole _),
    outAny_eq d i sO0 (Memref.set_access_whole _), outAny_eq d i sO1 (Memref.set_access_whole _)]
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩),
    SparseCore.bigSep_erase' (Finset.mem_erase.mpr ⟨ne cc0_scratch3 cc0_scratch2 (by decide),
      Finset.mem_erase.mpr ⟨ne cc0_scratch3 cc0_scratch1 (by decide), Finset.mem_erase.mpr ⟨ne cc0_scratch3 cc0_scratch0 (by decide), own cc0_scratch3 rfl⟩⟩⟩)]
  refine eq_of_both ?_ ?_
  · iintro ⟨H0, H1, H2, H3, H⟩
    isplitr [H]
    · isplitl [H0]; · iexact H0
      isplitl [H1]; · iexact H1
      isplitl [H2]; · iexact H2
      iexact H3
    · iexact H
  · iintro ⟨⟨H0, H1, H2, H3⟩, H⟩
    isplitl [H0]; · iexact H0
    isplitl [H1]; · iexact H1
    isplitl [H2]; · iexact H2
    isplitl [H3]; · iexact H3
    iexact H

theorem ownSems_tile : ∃ R : sProp (MM F), (ownSems0 (thr d i) : sProp (MM F)) = iprop(tileSems d i ∗ R) := by
  refine ⟨bigSep (((((ownCells (thr d i)).erase (cellOf d i cc0_scratch4.sem)).erase (cellOf d i cc0_scratch5.sem)).erase (cellOf d i cc0_scratch6.sem)).erase (cellOf d i cc0_scratch7.sem))
      fun g => semVal g 0, ?_⟩
  have own : ∀ s : DmaSem sig, (SemLoc.dma s : SemLoc sig).isScoped .scVector = true → cellOf d i s ∈ ownCells (thr d i) :=
    fun s h => (mem_ownCells (g := cellOf d i s)).mpr ⟨rfl, h⟩
  have ne : ∀ a b : DmaSem sig, a ≠ b → cellOf d i a ≠ cellOf d i b := fun a b h e => h (SemLoc.dma.inj (Prod.mk.inj e).2)
  unfold tileSems SparseCore.Cfg.ownSems0
  refine (SparseCore.bigSep_erase' (own cc0_scratch4.sem (by decide))).trans ?_
  rw [SparseCore.bigSep_erase' (Finset.mem_erase.mpr ⟨ne cc0_scratch5.sem cc0_scratch4.sem (by decide), own cc0_scratch5.sem (by decide)⟩),
    SparseCore.bigSep_erase' (Finset.mem_erase.mpr ⟨ne cc0_scratch6.sem cc0_scratch5.sem (by decide),
      Finset.mem_erase.mpr ⟨ne cc0_scratch6.sem cc0_scratch4.sem (by decide), own cc0_scratch6.sem (by decide)⟩⟩),
    SparseCore.bigSep_erase' (Finset.mem_erase.mpr ⟨ne cc0_scratch7.sem cc0_scratch6.sem (by decide),
      Finset.mem_erase.mpr ⟨ne cc0_scratch7.sem cc0_scratch5.sem (by decide), Finset.mem_erase.mpr ⟨ne cc0_scratch7.sem cc0_scratch4.sem (by decide), own cc0_scratch7.sem (by decide)⟩⟩⟩)]
  refine eq_of_both ?_ ?_
  · iintro ⟨H0, H1, H2, H3, H⟩
    isplitr [H]
    · isplitl [H0]; · iexact H0
      isplitl [H1]; · iexact H1
      isplitl [H2]; · iexact H2
      iexact H3
    · iexact H
  · iintro ⟨⟨H0, H1, H2, H3⟩, H⟩
    isplitl [H0]; · iexact H0
    isplitl [H1]; · iexact H1
    isplitl [H2]; · iexact H2
    isplitl [H3]; · iexact H3
    iexact H

end Own

/-! ## What the handshakes carry -/

variable (m : (ℓ : Loc nD τ sig) → Buf (Elt F) ℓ) (ρ : Dev nD → PrngReg)

/-- The grid point of SparseCore `c` and tile `s`. -/
def gridPt (c : Fin 2) (s : Fin 16) : grid0.Coords := fun a => match a with | 0 => c | 1 => s

theorem nCore_zero : (K (F := F)).nCore 0 = 2 := rfl
theorem nSub_zero : (K (F := F)).nSub 0 = 16 := rfl

instance (d : Dev nD) (i : grid0.Coords) : BI.Storable (upEmb : UEmb _ (MM F)) (tileIn m d i) := by unfold tileIn; infer_instance
instance (d : Dev nD) (i : grid0.Coords) : BI.Storable (upEmb : UEmb _ (MM F)) (tileOut m d i) := by unfold tileOut; infer_instance

/-- The chunks of a SparseCore's tiles, before the call and after. -/
def coreIn (d : Dev nD) (c : Fin 2) : sProp (MM F) := bigSep Finset.univ fun s : Fin 16 => tileIn m d (gridPt c s)
def coreOut (d : Dev nD) (c : Fin 2) : sProp (MM F) := bigSep Finset.univ fun s : Fin 16 => tileOut m d (gridPt c s)

instance (d : Dev nD) (c : Fin 2) : BI.Storable (upEmb : UEmb _ (MM F)) (coreIn m d c) := by unfold coreIn; infer_instance
instance (d : Dev nD) (c : Fin 2) : BI.Storable (upEmb : UEmb _ (MM F)) (coreOut m d c) := by unfold coreOut; infer_instance

def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c s => match q with | 0 => tileIn m d (gridPt (Fin.cast nCore_zero c) (Fin.cast nSub_zero s))
  td := fun q d c s => match q with | 0 => tileOut m d (gridPt (Fin.cast nCore_zero c) (Fin.cast nSub_zero s))
  x := fun _ _ => iprop(emp)

instance P_storable : (P (F := F) m).IsStorable where
  st q d c := match q with | 0 => (inferInstance : BI.Storable (upEmb : UEmb _ (MM F)) (coreIn m d (Fin.cast nCore_zero c)))
  dn q d c := match q with | 0 => (inferInstance : BI.Storable (upEmb : UEmb _ (MM F)) (coreOut m d (Fin.cast nCore_zero c)))
  go q d c s := match q with | 0 => (inferInstance : BI.Storable (upEmb : UEmb _ (MM F)) (tileIn m d (gridPt (Fin.cast nCore_zero c) (Fin.cast nSub_zero s))))
  td q d c s := match q with | 0 => (inferInstance : BI.Storable (upEmb : UEmb _ (MM F)) (tileOut m d (gridPt (Fin.cast nCore_zero c) (Fin.cast nSub_zero s))))

theorem vecSplit : (K (F := F)).VecSplit' (P m) 0 := by
  intro d c
  show coreIn m d (Fin.cast nCore_zero c) ⊢ |={Set.univ}=> iprop(
      (bigSep Finset.univ fun s : Fin 16 => tileIn m d (gridPt (Fin.cast nCore_zero c) s))
      ∗ ((bigSep Finset.univ fun s : Fin 16 => tileOut m d (gridPt (Fin.cast nCore_zero c) s)) -∗ coreOut m d (Fin.cast nCore_zero c)))
  unfold coreIn coreOut
  iintro H; imodintro
  isplitl [H]; · iexact H
  iintro H; iexact H

/-! ## The tile's obligation -/

/-- The tile's run, from and to what the launch hands a tile. -/
theorem tile_task (hF : (K (F := F)).Facts) (d : Dev nD) (i : grid0.Coords) (O : CellTallies nD τ sig (HIx 1)) (W : Waits sig (HIx 1)) (hO : ∀ g, O g none = 0) :
    iprop(levAts (K (F := F)).L (K (F := F)).lev ∗ emp ∗ tileIn m d i ∗ scopedBufs (thr d i) ∗ scopedSems0 (thr d i) ∗ owes (thr d i) O W)
      ⊢ wp frame (wpE (defs₀ (F := F)) 𝒱₀ (thr d i) none) Set.univ
          (cc0__seg_sum_body (F := F) i xV (Memref.isWhole_whole _) oV (Memref.isWhole_whole _) sI0 (Memref.isWhole_whole _) sI1 (Memref.isWhole_whole _)
            sO0 (Memref.isWhole_whole _) sO1 (Memref.isWhole_whole _) cc0_scratch4 cc0_scratch5 cc0_scratch6 cc0_scratch7)
          fun _ => iprop(tileOut m d i ∗ scopedBufs (thr d i) ∗ scopedSems0 (thr d i)
            ∗ ∃ W', ⌜∀ p ∈ W', p ∈ W ∨ p.2 = none ∨ p.2 = some (0 : Fin 1)⌝ ∗ owes (thr d i) O W') := by
  obtain ⟨RB, hB⟩ := ownBufs_tile (F := F) d i
  obtain ⟨RS, hS⟩ := ownSems_tile (F := F) d i
  rw [(K (F := F)).scopedBufs_V hF d (cV i) (jV i), SparseCore.Cfg.scopedSems0_V (Val := Elt F) d (cV i) (jV i)]
  rw [show (ownBufs (V d (cV i) (jV i)) : sProp (MM F)) = _ from hB, show (ownSems0 (V d (cV i) (jV i)) : sProp (MM F)) = _ from hS]
  have hrun := tile_run m d i O W
  unfold tileWp at hrun
  generalize cc0__seg_sum_body (F := F) i xV (Memref.isWhole_whole _) oV (Memref.isWhole_whole _) sI0 (Memref.isWhole_whole _) sI1 (Memref.isWhole_whole _)
      sO0 (Memref.isWhole_whole _) sO1 (Memref.isWhole_whole _) cc0_scratch4 cc0_scratch5 cc0_scratch6 cc0_scratch7 = prog at hrun ⊢
  iintro ⟨Hlv, -, Hin, ⟨HB, HRB⟩, ⟨HS, HRS⟩, HO⟩
  iapply (wp_wand frame (wpE (defs₀ (F := F)) 𝒱₀ (thr d i) none)) $$ [Hlv Hin HB HS HO]
  · iapply hrun
    isplitl [Hlv]; · iapply ((K (F := F)).mayWaits_none hO); iexact Hlv
    isplitl [Hin]; · iexact Hin
    isplitl [HB]; · iexact HB
    isplitl [HS]; · iexact HS
    unfold owesOk
    iexists W; isplitr
    · ipureintro; exact fun p hp => Or.inl hp
    · iexact HO
  iintro %_ ⟨Hout, HB, HS, HO⟩
  isplitl [Hout]; · iexact Hout
  isplitl [HB HRB]
  · isplitl [HB]; · iexact HB
    iexact HRB
  isplitl [HS HRS]
  · isplitl [HS]; · iexact HS
    iexact HRS
  unfold owesOk
  icases HO with ⟨%W', %hW, HO⟩
  iexists W'; isplitr
  · ipureintro; exact fun p hp => (hW p hp).imp_right Or.inl
  · iexact HO

/-- The program's table at a tile: the body at the tile's grid point. -/
theorem defs₀_tile (c : Fin τ.nSC) (s : Fin τ.nSub) :
    defs₀ (F := F) (.scVector c s) 0 ()
      = SparseCore.onTile hcore0 hsub0 (fun c s => cc0__seg_sum_body (gridPt c s)
          xV (Memref.isWhole_whole _) oV (Memref.isWhole_whole _) sI0 (Memref.isWhole_whole _) sI1 (Memref.isWhole_whole _)
          sO0 (Memref.isWhole_whole _) sO1 (Memref.isWhole_whole _) cc0_scratch4 cc0_scratch5 cc0_scratch6 cc0_scratch7) ⟨⟩ c s := rfl

theorem tileObl (hF : (K (F := F)).Facts) : (K (F := F)).TileObl (D (F := F)) 𝒱 (P m) v₀ 0 := by
  intro d c i O W hO _ _
  simp only [show (P (F := F) m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact tile_task m hF d (gridPt ⟨_, hc.1⟩ ⟨_, hc.2⟩) O W hO

end Cert.Proof.SegSum

end
-- ==== Proof.Split.lean ====
/-
  The arrays of the SparseCore call, shared out among its tiles: the last 1024 rows of `x` are the tiles' chunks, four
  to each of 32 tiles, and the call's result is theirs.
-/
module

public import proofs.«01_k».proof.Proof.Deal
public import Idealize.ShloMosaic.Lib.Pipeline.Kit

@[expose] public section

set_option maxRecDepth 65536

noncomputable section

namespace Cert.Proof.SegSum

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A SparseCore, one of its tiles, and one of the tile's four chunks. -/
abbrev Place : Type := Fin 2 × Fin 16 × Fin 4

/-- The chunk at a place. -/
def chOf (t : Place) : Fin 128 := ch (gridPt t.1 t.2.1) t.2.2

theorem chOf_val (t : Place) : (chOf t).val = 4 * (2 * t.2.1.val + t.1.val) + t.2.2.val := rfl

theorem chOf_ne {t u : Place} (h : t ≠ u) : (chOf t).val ≠ (chOf u).val := by
  intro e
  rw [chOf_val, chOf_val] at e
  have := t.1.isLt; have := u.1.isLt; have := t.2.2.isLt; have := u.2.2.isLt
  exact h (Prod.ext (Fin.ext (by omega)) (Prod.ext (Fin.ext (by omega)) (Fin.ext (by omega))))

theorem four (Φ : Fin 4 → sProp (MM F)) : bigSep Finset.univ Φ = iprop(Φ 0 ∗ Φ 1 ∗ Φ 2 ∗ Φ 3) :=
  bigSep_univ_eq_bigSepL [0, 1, 2, 3] (by decide) (by decide) Φ

/-- The tiles' chunks, tile by tile, are the chunks of all the places. -/
theorem bigSep_places (Φ : Fin 128 → sProp (MM F)) :
    (bigSep Finset.univ fun c : Fin 2 => bigSep Finset.univ fun s : Fin 16 =>
      iprop(Φ (ch (gridPt c s) 0) ∗ Φ (ch (gridPt c s) 1) ∗ Φ (ch (gridPt c s) 2) ∗ Φ (ch (gridPt c s) 3)))
      = bigSep Finset.univ fun t : Place => Φ (chOf t) := by
  rw [BI.bigSep_univ_prod]
  refine bigSep_congr fun c _ => ?_
  rw [BI.bigSep_univ_prod]
  exact bigSep_congr fun s _ => (four fun k => Φ (ch (gridPt c s) k)).symm

variable (m : (ℓ : Loc nD τ sig) → Buf (Elt F) ℓ)

theorem cores_in (d : Dev nD) : (bigSep Finset.univ fun c : Fin 2 => coreIn m d c)
    = iprop((bigSep Finset.univ fun t : Place => xPts m d (chOf t)) ∗ bigSep Finset.univ fun t : Place => oPts (F := F) d (chOf t)) := by
  unfold coreIn tileIn
  rw [← bigSep_places (fun q => xPts m d q), ← bigSep_places (fun q => oPts (F := F) d q), ← bigSep_sep']
  exact bigSep_congr fun c _ => by rw [← bigSep_sep']

theorem cores_out (d : Dev nD) : (bigSep Finset.univ fun c : Fin 2 => coreOut m d c)
    = iprop((bigSep Finset.univ fun t : Place => xPts m d (chOf t)) ∗ bigSep Finset.univ fun t : Place => oDone m d (chOf t)) := by
  unfold coreOut tileOut
  rw [← bigSep_places (fun q => xPts m d q), ← bigSep_places (fun q => oDone m d q), ← bigSep_sep']
  exact bigSep_congr fun c _ => by rw [← bigSep_sep']

/-- Two places' chunks are apart, in `x` and in the result. -/
theorem x_apart : ∀ t ∈ (Finset.univ : Finset Place), ∀ u ∈ (Finset.univ : Finset Place), t ≠ u → Disjoint (xRect (chOf t)).set (xRect (chOf u)).set := by
  intro t _ u _ h
  refine Finset.disjoint_left.mpr fun i h1 h2 => ?_
  have a := Rect.mem_set_unit.mp h1 0; have b := Rect.mem_set_unit.mp h2 0
  have := chOf_ne h
  change 8 * (1920 + (chOf t).val) ≤ (i 0).val ∧ (i 0).val < 8 * (1920 + (chOf t).val) + 8 at a
  change 8 * (1920 + (chOf u).val) ≤ (i 0).val ∧ (i 0).val < 8 * (1920 + (chOf u).val) + 8 at b
  omega

theorem o_apart : ∀ t ∈ (Finset.univ : Finset Place), ∀ u ∈ (Finset.univ : Finset Place), t ≠ u → Disjoint (oRect (chOf t)).set (oRect (chOf u)).set := by
  intro t _ u _ h
  refine Finset.disjoint_left.mpr fun i h1 h2 => ?_
  have a := Rect.mem_set_unit.mp h1 0; have b := Rect.mem_set_unit.mp h2 0
  have := chOf_ne h
  change 8 * (chOf t).val ≤ (i 0).val ∧ (i 0).val < 8 * (chOf t).val + 8 at a
  change 8 * (chOf u).val ≤ (i 0).val ∧ (i 0).val < 8 * (chOf u).val + 8 at b
  omega

/-- The places' chunks are the whole of the result. -/
theorem o_cover : (Finset.univ : Finset Place).biUnion (fun t => (oRect (chOf t)).set) = Finset.univ := by
  refine Finset.eq_univ_iff_forall.mpr fun i => ?_
  have h0 : (i 0).val < 1024 := (i 0).isLt
  have h1 : (i 1).val < 128 := (i 1).isLt
  refine Finset.mem_biUnion.mpr ⟨(⟨(i 0).val / 32 % 2, by omega⟩, ⟨(i 0).val / 64, by omega⟩, ⟨(i 0).val / 8 % 4, by omega⟩), Finset.mem_univ _, ?_⟩
  refine Rect.mem_set_unit.mpr fun a => ?_
  match a with
  | 0 =>
    show 8 * (4 * (2 * ((i 0).val / 64) + (i 0).val / 32 % 2) + (i 0).val / 8 % 4) ≤ (i 0).val
      ∧ (i 0).val < 8 * (4 * (2 * ((i 0).val / 64) + (i 0).val / 32 % 2) + (i 0).val / 8 % 4) + 8
    omega
  | 1 => exact ⟨Nat.zero_le _, by show (i 1).val < 0 + 128; omega⟩

/-- The rows of `x` the SparseCores read. -/
abbrev xTail : Finset S16384x4096.Idx := (Finset.univ : Finset Place).biUnion fun t => (xRect (chOf t)).set

/-- The rest of `x`, which stays with the TensorCore while they run. -/
def xHead (d : Dev nD) : sProp (MM F) := xLoc d ↦[(Finset.univ : Finset S16384x4096.Idx) \ xTail]{fullShare} m (xLoc d)

/-- `x` is its rest and the tiles' chunks. -/
theorem x_split (d : Dev nD) : (xLoc d ↦{fullShare} m (xLoc d) : sProp (MM F))
    = iprop((bigSep Finset.univ fun t : Place => xPts m d (chOf t)) ∗ xHead m d) := by
  unfold xPts xHead
  rw [← pointsTo_biUnion (ℓ := xLoc d) (Finset.univ : Finset Place) (fun t => (xRect (chOf t)).set) x_apart]
  have h := pointsTo_split_subset (ℓ := xLoc d) (q := fullShare) (f := m (xLoc d)) (Ix := SparseCore.Cfg.HIx 1) (Name := ℕ) (U := UU) (Lvl := ℕ) (Finset.subset_univ xTail)
  exact eq_of_both h.1 h.2

/-- A chunk of the result at some contents is the chunk at any. -/
theorem o_any (d : Dev nD) (q : Fin 128) (f : Buf (Elt F) (oLoc d)) : (oLoc d ↦[(oRect q).set]{fullShare} f : sProp (MM F)) ⊢ oPts d q := by
  unfold oPts; iintro H; iexists f; iexact H

/-- The result, at any contents, is chunks at any contents. -/
theorem o_deal (d : Dev nD) (f : Buf (Elt F) (oLoc d)) : (oLoc d ↦{fullShare} f : sProp (MM F)) ⊢ bigSep Finset.univ fun t : Place => oPts d (chOf t) := by
  refine (Entails.of_eq ?_).trans (bigSep_mono (Φ := fun t : Place => (oLoc d ↦[(oRect (chOf t)).set]{fullShare} f : sProp (MM F))) fun t _ => o_any d (chOf t) f)
  rw [← pointsTo_biUnion (ℓ := oLoc d) (Finset.univ : Finset Place) (fun t => (oRect (chOf t)).set) o_apart, o_cover]

/-- The chunks at their sums are the result at its sums. -/
theorem o_join (d : Dev nD) : (bigSep Finset.univ fun t : Place => oDone m d (chOf t)) = (oLoc d ↦{fullShare} (outVal m d : Buf (Elt F) (oLoc d)) : sProp (MM F)) := by
  unfold oDone
  rw [← pointsTo_biUnion (ℓ := oLoc d) (Finset.univ : Finset Place) (fun t => (oRect (chOf t)).set) o_apart, o_cover]

theorem st_eq (d : Dev nD) : (bigSep Finset.univ fun c : Fin ((K (F := F)).nCore 0) => (P m).st 0 d c)
    = iprop((bigSep Finset.univ fun t : Place => xPts m d (chOf t)) ∗ bigSep Finset.univ fun t : Place => oPts (F := F) d (chOf t)) :=
  cores_in m d

theorem dn_eq (d : Dev nD) : (bigSep Finset.univ fun c : Fin ((K (F := F)).nCore 0) => (P m).dn 0 d c)
    = iprop((bigSep Finset.univ fun t : Place => xPts m d (chOf t)) ∗ (oLoc d ↦{fullShare} (outVal m d : Buf (Elt F) (oLoc d)) : sProp (MM F))) :=
  (cores_out m d).trans (by rw [o_join])

end Cert.Proof.SegSum

end
-- ==== Proof.Region.lean ====
/-
  The TensorCore call: 15 blocks of 1024 rows of `x`, each multiplied with the 0/1 matrix. Its body's run, what each
  block leaves, and the call as a segment of the host program: from `x`, the matrix and the result's array, to the
  result's first 15360 rows at the products.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit

@[expose] public section

set_option maxRecDepth 65536

noncomputable section

namespace Cert.Proof.SegSum

open Cert.KernelIdeal Cert.KernelIdeal.Gen
open Idealize.ShloMosaic Idealize.ShloMosaic.TcCoe
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The call's tables: it takes none. -/
abbrev adm : (p : Fin 1) → (pcfgs (F := F) p).Adm := fun p => (cfgs p).toPCfg_adm

/-! ## The body -/

/-- The body from its three staging buffers: the third ends at the product of the first two. -/
theorem wp_tc_body (c : Dev nD) (i : grid1.Coords) (M0 : Memref sig .tc .vmem S1024x4096 .f32) (h0 : M0.IsWhole) (M1 : Memref sig .tc .vmem S4096x128 .f32) (h1 : M1.IsWhole)
    (M2 : Memref sig .tc .vmem S1024x128 .f32) (h2 : M2.IsWhole) (X0 : Vec F S1024x4096 .f32) (X1 : Vec F S4096x128 .f32) (X2 : Vec F S1024x128 .f32) {Q : PUnit → sProp (MM F)} :
    iprop((owns (c : Thread nD τ) M0 fullShare X0 : sProp (MM F)) ∗ owns (c : Thread nD τ) M1 fullShare X1 ∗ owns (c : Thread nD τ) M2 fullShare X2
        ∗ (iprop(owns (c : Thread nD τ) M0 fullShare X0 ∗ owns (c : Thread nD τ) M1 fullShare X1 ∗ owns (c : Thread nD τ) M2 fullShare (k1_pay1 X0 X1)) -∗ Q ⟨⟩))
      ⊢ wp frame (wpE (defs₀ (F := F)) 𝒱₀ (c : Thread nD τ) none) Set.univ (cc1__tc_body i M0 h0 M1 h1 M2 h2) Q := by
  rw [cc1__tc_body_eq_skeleton]
  unfold owns cc1__tc_body_skel
  simp only [Prog.lift, Prog.bind_op, Prog.bind_ret, Prog.pure_eq_ret, bind_assoc]
  iintro ⟨⟨%f0, %e0, H0⟩, ⟨%f1, %e1, H1⟩, ⟨%f2, %e2, H2⟩, Hk⟩
  subst e0 e1 e2
  iapply (wp_load 𝒱₀ (c : Thread nD τ) none Set.univ (m := M0) (q := fullShare) (f := f0) (S := M0.view.set) (View.setOn_subset_set _ _)) $$ H0
  iintro H0
  iapply (wp_load 𝒱₀ (c : Thread nD τ) none Set.univ (m := M1) (q := fullShare) (f := f1) (S := M1.view.set) (View.setOn_subset_set _ _)) $$ H1
  iintro H1
  iapply (wp_load 𝒱₀ (c : Thread nD τ) none Set.univ (m := M2) (q := fullShare) (f := f2) (S := M2.view.set) (View.setOn_subset_set _ _)) $$ H2
  iintro H2
  rw [View.readAt_eq_ld, View.readAt_eq_ld, View.ld_unit_lit _ _ (by decide), View.ld_unit_lit _ _ (by decide)]
  iapply (wp_store 𝒱₀ (c : Thread nD τ) none Set.univ (m := M2) (f := f2) (S := M2.view.set) (r := Rect.unit ![0, 0] S1024x128.size inb_S1024x128_S1024x128_0_0)
    (((View.setOn_subset_set _ _).trans (Finset.subset_of_eq (View.set_slice _ _))).trans (View.setOn_subset_set _ _))) $$ H2
  iintro H2
  rw [wp_ret]; imodintro
  iapply Hk
  isplitl [H0]
  · iexists f0; isplitr; · ipureintro; rfl
    iexact H0
  isplitl [H1]
  · iexists f1; isplitr; · ipureintro; rfl
    iexact H1
  iexists _; isplitr
  rotate_left
  · iexact H2
  · ipureintro
    refine (View.ld_unit_lit (S := S1024x128) (off := ![0, 0]) inb_S1024x128_S1024x128_0_0 _ (by decide)).symm.trans ?_
    exact View.read_write_univ (v := M2.access (Rect.unit (s := S1024x128) ![0, 0] S1024x128.size inb_S1024x128_S1024x128_0_0)) _ _

/-! ## The proof data -/

variable (V : (c : Dev nD) → (b : Ref sig .tc) → Buf (Elt F) ((c : Thread nD τ).loc b))

/-- Block `t` of `x`, and the matrix, as the call stages them. -/
abbrev stgX (c : Dev nD) (t : Fin cfg1.N) : Vec F S1024x4096 .f32 := ((cfg1.win 0).blk t).view.read (Elt F) (V c main_arg0)
abbrev stgC (c : Dev nD) (t : Fin cfg1.N) : Vec F S4096x128 .f32 := ((cfg1.win 1).blk t).view.read (Elt F) (V c main_v6)

/-- The waits recorded while the call runs: those at levels below the next SparseCore call's. -/
def below (c : Dev nD) : Set (SemLoc sig × SparseCore.Cfg.HIx 1) :=
  {p | (K (F := F)).lev ((c : Thread nD τ), p.1) p.2 ≤ 8 * SparseCore.Cfg.Blocks.fst (Q := 1) (N := 1) 1}

/-- What the call holds between its points: the scoped buffers it does not stage. -/
abbrev Φc (c : Dev nD) : sProp (MM F) := Pipeline.scopedRest (Ix := SparseCore.Cfg.HIx 1) (Name := ℕ) (U := UU) (Lvl := ℕ) (Val := Elt F) spec1 c

/-- The call from arrays `V`: each block of `x` and the matrix as fetched, the block of the result at their product. -/
def dat (c : Dev nD) : Dat τ (Elt F) (SparseCore.Cfg.HIx 1) ℕ UU ℕ cfg1 c where
  A w := V c (Pipeline.arrRef spec1 w)
  after w t := match w with
    | ⟨0, _⟩ => stgX V c t
    | ⟨1, _⟩ => stgC V c t
    | ⟨2, _⟩ => k1_pay1 (stgX V c t) (stgC V c t)
  Φ _ := Φc c
  q _ := fullShare
  owed _ := 0
  recorded _ := below (F := F) c

def pdats : (p : Fin 1) → (c : Dev nD) → Dat τ (Elt F) (SparseCore.Cfg.HIx 1) ℕ UU ℕ (Pipeline.pin (pcfgs (F := F)) adm p) c
  | ⟨0, _⟩ => fun c => dat V c

theorem before_x (c : Dev nD) (t : Fin cfg1.N) (d : (cfg1.win 0).block.Idx → Elt F (cfg1.win 0).elt) : (dat V c).before 0 t d = stgX V c t :=
  ((dat V c).before_in_eq_fetched 0 rfl (fun _ => rfl) (fun _ _ _ => rfl) (fun _ => rfl) t d).trans rfl
theorem before_cst (c : Dev nD) (t : Fin cfg1.N) (d : (cfg1.win 1).block.Idx → Elt F (cfg1.win 1).elt) : (dat V c).before 1 t d = stgC V c t :=
  ((dat V c).before_in_eq_fetched 1 rfl (fun _ => rfl) (fun _ _ _ => rfl) (fun _ => rfl) t d).trans rfl

theorem body_obl (c : Dev nD) : Pipeline.BodyObligation (dat V c) (defs₀ (F := F)) 𝒱₀ (none : SparseCore.Cfg.HIx 1) Set.univ := fun t => by
  rw [bigSep_W1, bigSep_W1]
  rw [show (dat V c).Φ t.castSucc = (dat V c).Φ t.succ from rfl,
    show (dat V c).owesAt (none : SparseCore.Cfg.HIx 1) t.succ = (dat V c).owesAt none t.castSucc from rfl]
  iintro ⟨HΦ, Howes, ⟨%d0, H0⟩, ⟨%d1, H1⟩, ⟨%d2, H2⟩⟩
  rw [before_x, before_cst]
  iapply (wp_tc_body c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (stgX V c t) (stgC V c t) ((dat V c).before 2 t d2))
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The call as a segment -/

/-- What the core may have recorded, owing nothing. -/
def idleOwes (c : Dev nD) : sProp (MM F) :=
  iprop(∃ W, ⌜(K (F := F)).WBelow (c : Thread nD τ) W (8 * SparseCore.Cfg.Blocks.fst (Q := 1) (N := 1) 1)⌝ ∗ owes (c : Thread nD τ) (0 : CellTallies nD τ sig (SparseCore.Cfg.HIx 1)) W)

/-- The result's array after the call. -/
def tcOut (c : Dev nD) : Buf (Elt F) ((c : Thread nD τ).loc main_v7) := (dat V c).arrAt 2 cfg1.N

/-- The call's three arrays, one after another. -/
theorem arrays_three (c : Dev nD) (G : (w : Fin 3) → Buf (Elt F) ((c : Thread nD τ).loc (Pipeline.arrRef spec1 w))) :
    ((pdats V 0 c).arrays G : sProp (MM F)) = iprop(((c : Thread nD τ).loc main_arg0 ↦{fullShare} G 0) ∗ ((c : Thread nD τ).loc main_v6 ↦{fullShare} G 1) ∗ ((c : Thread nD τ).loc main_v7 ↦{fullShare} G 2)) := by
  refine (Pipeline.arrays_eq (p := 0) cfgs (pdats V) c launch1.arr_whole ((pdats V 0 c).share_full fun _ => rfl) G).trans ?_
  exact bigSep_W1 _

set_option backward.isDefEq.respectTransparency.types false in
def reg : Pipeline.RegionSeg (pcfgs (F := F)) adm (pdats V) (none : SparseCore.Cfg.HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obl V c).loose
  hwaits c := Pipeline.hwaits_of_owed_zero _ _ _ _ (K (F := F)).L (K (F := F)).lev 0 (fun _ _ => rfl) c
  pre c := iprop(((c : Thread nD τ).loc main_arg0 ↦{fullShare} V c main_arg0) ∗ ((c : Thread nD τ).loc main_v6 ↦{fullShare} V c main_v6)
    ∗ ((c : Thread nD τ).loc main_v7 ↦{fullShare} V c main_v7) ∗ idleOwes c)
  post c := iprop(((c : Thread nD τ).loc main_arg0 ↦{fullShare} V c main_arg0) ∗ ((c : Thread nD τ).loc main_v6 ↦{fullShare} V c main_v6)
    ∗ ((c : Thread nD τ).loc main_v7 ↦{fullShare} tcOut V c) ∗ idleOwes c)
  X _ := BI.emp
  Y _ := BI.emp
  Z _ := BI.emp
  hentry c := by
    rw [Pipeline.ownSems0_none, arrays_three]
    unfold idleOwes
    iintro ⟨⟨Hx, Hm, Hr, %W, %hW, HO⟩, -, -⟩
    imodintro
    isplitl [Hx Hm Hr]
    · isplitl [Hx]; · iexact Hx
      isplitl [Hm]; · iexact Hm
      iexact Hr
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    rw [arrays_three, show (pdats V 0 c).arrAt 0 _ = V c main_arg0 from (dat V c).arrAt_in 0 rfl _,
      show (pdats V 0 c).arrAt 1 _ = V c main_v6 from (dat V c).arrAt_in 1 rfl _]
    iintro ⟨⟨Hx, Hm, Hr⟩, HO, -, -⟩
    imodintro
    isplitl [Hx]; · iexact Hx
    isplitl [Hm]; · iexact Hm
    isplitl [Hr]; · iexact Hr
    unfold Pipeline.Dat.owesAt Pipeline.owesWithin idleOwes
    icases HO with ⟨%W, %hW, HO⟩
    iexists W; isplitr
    · ipureintro
      intro p hp
      rcases hW hp with h | ⟨w, k, rfl⟩
      · exact h
      · exact (SparseCore.Cfg.lev_none (K := K (F := F)) _).le.trans (Nat.zero_le _)
    iexact HO

/-! ## What the call leaves -/

/-- Block `b` of the rows of `x`: its rows `1024 b` to `1024 b + 1023`. -/
def xBlk (X : S16384x4096.Idx → F .f32) (b : Fin 16) : Vec F S1024x4096 .f32 := fun y => X fun a => match a with
  | 0 => ⟨1024 * b.val + (y 0).val, by have h : (y 0).val < 1024 := (y 0).isLt; have := b.isLt; show _ < 16384; omega⟩
  | 1 => y 1

/-- The products of the blocks of `X` with `C`, block by block. -/
def tcVal (X : S16384x4096.Idx → F .f32) (C : Vec F S4096x128 .f32) : S16384x128.Idx → F .f32 := fun i =>
  k1_pay1 (xBlk X ⟨(i 0).val / 1024, by have h : (i 0).val < 16384 := (i 0).isLt; omega⟩) C
    (fun a => match a with | 0 => ⟨(i 0).val % 1024, Nat.mod_lt _ (by decide)⟩ | 1 => i 1)

theorem index_x : ∀ t : Fin grid1.N, win1_0.index t = ![t.val, 0] := by decide +kernel
theorem index_cst : ∀ t : Fin grid1.N, win1_1.index t = ![0, 0] := by decide +kernel
theorem index_out : ∀ t : Fin grid1.N, win1_2.index t = ![t.val, 0] := by decide +kernel

/-- The grid has at most 16 points. -/
theorem lt_grid (t : Fin cfg1.N) : t.val < 16 := by have := t.isLt; have h : cfg1.N = 15 := N_1; omega

/-- The staged block of `x` at point `t` is its block `t` of rows. -/
theorem stgX_eq (c : Dev nD) (t : Fin cfg1.N) : stgX V c t = xBlk (V c main_arg0) ⟨t.val, lt_grid t⟩ := by
  funext y
  refine congrArg (V c main_arg0) ?_
  have h := index_x t
  blk_ext
  · rw [h]; simp [Matrix.cons_val_zero]; try omega
  · rw [h]; simp [Matrix.cons_val_one]; try omega

/-- The staged matrix is the matrix. -/
theorem stgC_eq (c : Dev nD) (t : Fin cfg1.N) : stgC V c t = V c main_v6 := by
  funext y
  refine congrArg (V c main_v6) ?_
  have h := index_cst t
  blk_ext
  · rw [h]; simp [Matrix.cons_val_zero]; try omega
  · rw [h]; simp [Matrix.cons_val_one]; try omega

/-- Row `y 0` of block `b` of the result, column `y 1`. -/
def outIx (b : Fin 16) (y : S1024x128.Idx) : S16384x128.Idx := fun a => match a with
  | 0 => ⟨1024 * b.val + (y 0).val, by have h : (y 0).val < 1024 := (y 0).isLt; have := b.isLt; show _ < 16384; omega⟩
  | 1 => y 1

theorem tcVal_outIx (X : S16384x4096.Idx → F .f32) (C : Vec F S4096x128 .f32) (b : Fin 16) (y : S1024x128.Idx) :
    tcVal X C (outIx b y) = k1_pay1 (xBlk X b) C y := by
  have hy : (y 0).val < 1024 := (y 0).isLt
  have h0 : ((outIx b y) 0).val = 1024 * b.val + (y 0).val := rfl
  have hb (h) : (⟨((outIx b y) 0).val / 1024, h⟩ : Fin 16) = b := Fin.ext (by show ((outIx b y) 0).val / 1024 = b.val; omega)
  unfold tcVal
  rw [hb]
  refine congrArg (k1_pay1 (xBlk X b) C) (funext fun a => ?_)
  match a with
  | 0 => exact Fin.ext (by show ((outIx b y) 0).val % 1024 = (y 0).val; omega)
  | 1 => rfl

theorem emb_out (t : Fin cfg1.N) (y : S1024x128.Idx) : ((win1_2.blk t).view.emb y : S16384x128.Idx) = outIx ⟨t.val, lt_grid t⟩ y := by
  have h := index_out t
  unfold outIx
  blk_ext
  · rw [h]; simp [Matrix.cons_val_zero]; try omega
  · rw [h]; simp [Matrix.cons_val_one]

/-- The result's array after the call: the products in its first 15360 rows, the rest as it was. -/
theorem tcOut_eq (c : Dev nD) (i : S16384x128.Idx) :
    (tcOut V c : S16384x128.Idx → F .f32) i = if (i 0).val < 15360 then tcVal (V c main_arg0) (V c main_v6) i else (V c main_v7 : S16384x128.Idx → F .f32) i := by
  refine (dat V c).arrAt_apply_of_coversWhere 2 (tcVal (V c main_arg0) (V c main_v6)) (P := fun i : S16384x128.Idx => (i 0).val < 15360) (fun β => β 0 < 15) (by decide +kernel)
    (fun t hf y => ?_) (fun j => by blk_simp [Pipeline.Window.cell_apply]; omega) i
  refine (show _ = k1_pay1 (stgX V c t) (stgC V c t) y from rfl).trans ?_
  rw [stgX_eq, stgC_eq]
  exact (tcVal_outIx _ _ ⟨t.val, lt_grid t⟩ y).symm.trans (congrArg (tcVal (V c main_arg0) (V c main_v6)) (emb_out t y).symm)

end Cert.Proof.SegSum

end
-- ==== Proof.Main.lean ====
/-
  The whole program: the SparseCores' call from the last 1024 rows of `x`, the TensorCore's from the first 15360 and
  the matrix, and the first's result laid over the second's last rows. Every run terminates, leaves `x` as it was and
  the result as `resVal` says.
-/
module

public import proofs.«01_k».proof.Proof.Split
public import proofs.«01_k».proof.Proof.Region
public import Idealize.ShloMosaic.Lib.StableHlo.Run

@[expose] public section

set_option maxRecDepth 65536

noncomputable section

namespace Cert.Proof.SegSum

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

/-! ## The ghost state the run starts from -/

/-- The TensorCore call's pipelines, at their tables. -/
abbrev pins : (p : Fin 1) → Pipeline.Cfg sig Λ₀ := Pipeline.pin (pcfgs (F := F)) adm

theorem pins_inj : Function.Injective (Pipeline.cellOf (nD := nD) (τ := τ) (pins (F := F))) := cellOf_inj

def hsInit : UH := initOf (K (F := F)).hsCells (K (F := F)).hsToks
def stInit : UP := initOf (Pipeline.cells (pins (F := F)) pins_inj) (Pipeline.launchToks (pins (F := F)) pins_inj)

/-- The handshakes' rounds and the staging buffers', none passed. -/
def u₀ : UU := ((hsInit (F := F), stInit (F := F)), 1)

theorem ownU_parts (a : UH) (b : UP) : (ownU (((a, b), 1) : UU) : sProp (MM F)) ⊢ iprop(BI.own (EH a) ∗ BI.own (EP b)) :=
  BI.own_op_elim ((EU (F := F)).op_of_mem (Prod.mk_mem_op (Prod.mk_mem_op (URA.mem_op_one a) (URA.mem_one_op b)) (URA.mem_op_one (1 : Counters))))

variable (m : (ℓ : Loc nD τ sig) → Buf (Elt F) ℓ) (ρ : Dev nD → PrngReg)

/-- A core's staging buffers' ghost state. -/
def stGhost (d : Dev nD) : sProp (MM F) :=
  iprop(Pipeline.cellsGhost (pins (F := F)) EP 0 d ∗ Pipeline.toksInit (pins (F := F)) EP 0 d)

theorem ghost_deal : (bigSep Finset.univ fun d : Dev nD => stGhost (F := F) d)
    = iprop((bigSep Finset.univ fun d : Dev nD => bigSep Finset.univ fun p => (Pipeline.cellsGhost (pins (F := F)) EP p d : sProp (MM F)))
      ∗ bigSep Finset.univ fun d : Dev nD => bigSep Finset.univ fun p => (Pipeline.toksInit (pins (F := F)) EP p d : sProp (MM F))) := by
  rw [← bigSep_sep']
  refine bigSep_congr fun d _ => ?_
  unfold stGhost
  rw [bigSep_univ_of_subsingleton (0 : Fin 1), bigSep_univ_of_subsingleton (0 : Fin 1)]

theorem hu₀ : (ownU (u₀ (F := F)) : sProp (MM F))
    ⊢ |={Set.univ}=> iprop(BI.own (EH (hsInit (F := F))) ∗ (bigSep Finset.univ fun d : Dev nD => stGhost d)
        ∗ bigSep Finset.univ fun thr : Thread nD τ => bigSep Finset.univ fun q : Fin 1 => (P m).x q thr) := by
  unfold u₀ stInit
  iintro Hu
  ihave H := (ownU_parts _ _) $$ Hu
  icases H with ⟨HH, HP⟩
  imod (Pipeline.fund_ghost (pins (F := F)) EP pins_inj) $$ HP with ⟨Hc, Ht⟩
  imodintro
  isplitl [HH]; · iexact HH
  isplitl [Hc Ht]
  · rw [ghost_deal]
    isplitl [Hc] <;> iassumption
  · rw [show (bigSep Finset.univ fun thr : Thread nD τ => bigSep Finset.univ fun q : Fin 1 => (P (F := F) m).x q thr) = iprop(emp) from
      (bigSep_congr fun thr _ => bigSep_emp_const _).trans (bigSep_emp_const _)]
    iempintro

/-! ## The TensorCore's steps -/

/-- A constant written to a buffer, whatever it held. -/
theorem wp_const (d : Dev nD) (y : Ref sig .tc) (hy) (v : y.ty.Contents (Elt F)) (W : Valuation τ sig (Elt F)) {Q : PUnit → sProp (MM F)} :
    iprop(boundary (SparseCore.T d) ∗ (((d, Proc.devRef .tc y) : Loc nD τ sig) ↦{fullShare} W (Proc.devRef .tc y))
        ∗ ((boundary (SparseCore.T d) ∗ (((d, Proc.devRef .tc y) : Loc nD τ sig) ↦{fullShare} v)) -∗ Q ⟨⟩))
      ⊢ wp frame (wpE ((K (F := F)).defs (D (F := F))) 𝒱 (SparseCore.T d) none) Set.univ (hlo rfl (StableHlo.nullary y v hy) (fun _ => .ret ⟨⟩)) Q := by
  iintro ⟨Hb, Hy, Hk⟩
  iapply (wp_hlo 𝒱 (SparseCore.T d) none Set.univ (op := StableHlo.nullary y v hy) (q := fun _ => fullShare) (F := W) (fun _ _ => rfl)) $$ [Hb Hy]
  · isplitl [Hb]; · iexact Hb
    rw [show (StableHlo.nullary y v hy : HloOp τ sig (Elt F)).bufs = {(Proc.devRef .tc y : DevRef τ sig)} from rfl, bigSep_singleton]
    iexact Hy
  rw [show (StableHlo.nullary y v hy : HloOp τ sig (Elt F)).bufs = {(Proc.devRef .tc y : DevRef τ sig)} from rfl, bigSep_singleton, StableHlo.nullary_result']
  iintro ⟨Hb, Hy⟩
  rw [wp_ret]; imodintro
  iapply Hk
  isplitl [Hb] <;> iassumption

variable (V : (c : Dev nD) → (b : Ref sig .tc) → Buf (Elt F) ((c.tc : Thread nD τ).loc b))

/-- The TensorCore's call, from its three arrays and what it may have recorded, owing nothing. -/
theorem wp_tc_entry (d : Dev nD) {Q : PUnit → sProp (MM F)} [∀ e, Nonempty (Elt F e)] :
    iprop((iprop(boundary (SparseCore.T d) ∗ (reg V).post d) -∗ Q ⟨⟩) ∗ boundary (SparseCore.T d) ∗ (reg V).pre d ∗ levAts (K (F := F)).L (K (F := F)).lev ∗ stGhost d)
      ⊢ wp frame (wpE (D (F := F)) 𝒱 (SparseCore.T d) none) Set.univ (.op (.customCall (Pipeline.entry 0) ()) .ret) Q := by
  unfold stGhost
  iintro ⟨Hk, Hb, Hp, Hl, Hg⟩
  iapply (Pipeline.RegionSeg.wp (pcfgs (F := F)) adm (pdats V) (none : HIx 1) pins_inj EP defs₀ 𝒱₀ (K (F := F)).L (K (F := F)).lev (reg V) d
    none (fun u hu => nomatch hu) Prog.ret Q)
  isplitl [Hk]
  · iintro H
    rw [wp_ret]; imodintro
    iapply Hk; iexact H
  isplitl [Hb]; · iexact Hb
  isplitl [Hp]; · iexact Hp
  isplitl [Hl]; · iexact Hl
  iexact Hg

theorem wp_tc_call (d : Dev nD) {Q : PUnit → sProp (MM F)} [∀ e, Nonempty (Elt F e)] :
    iprop((iprop(boundary (SparseCore.T d) ∗ (reg V).post d) -∗ Q ⟨⟩) ∗ boundary (SparseCore.T d) ∗ (reg V).pre d ∗ levAts (K (F := F)).L (K (F := F)).lev ∗ stGhost d)
      ⊢ wp frame (wpE ((K (F := F)).defs (D (F := F))) 𝒱 (SparseCore.T d) none) Set.univ
          (Prog.lift (.customCall (SparseCore.inner (Pipeline.entry 0)) ())) Q := by
  have e : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret) := rfl
  have h2 := (K (F := F)).wp_liftProg (D (F := F)) 𝒱 (SparseCore.T d) Set.univ none (.op (.customCall (Pipeline.entry 0) ()) .ret) Q
  rw [e]
  exact (wp_tc_entry V d).trans h2

/-! ## The program's values -/

/-- The 0/1 matrix that the host builds: 1 at row `i`, column `j` when `i / 32 = j`. -/
@[irreducible] def mat : Vec F S4096x128 .f32 :=
  uitofp .f32 (cmpi .eq (Host.divsi (iotaInDim S4096x128 32 0) (broadcastInDim S4096x128 ![] bcast_S_S4096x128 (constantI S_ 32 32#32))) (iotaInDim S4096x128 32 1))

theorem mat_eq : (mat : Vec F S4096x128 .f32)
    = uitofp .f32 (cmpi .eq (Host.divsi (iotaInDim S4096x128 32 0) (broadcastInDim S4096x128 ![] bcast_S_S4096x128 (constantI S_ 32 32#32))) (iotaInDim S4096x128 32 1)) := by
  unfold mat; rfl

/-- The operations that build it, in order. -/
abbrev opRow : HloOp τ sig (Elt F) := StableHlo.nullary main_v1 (iotaInDim S4096x128 32 0)
abbrev opWidth : HloOp τ sig (Elt F) := StableHlo.nullary main_c (constantI S_ 32 32#32)
abbrev opWidths : HloOp τ sig (Elt F) :=
  StableHlo.unary main_c main_v2 (broadcastInDim S4096x128 ![] bcast_S_S4096x128 : (⟨S_, .i32⟩ : BufTy).Contents (Elt F) → (⟨S4096x128, .i32⟩ : BufTy).Contents (Elt F))
abbrev opDiv : HloOp τ sig (Elt F) :=
  StableHlo.binary main_v1 main_v2 main_v3 (Host.divsi : (⟨S4096x128, .i32⟩ : BufTy).Contents (Elt F) → (⟨S4096x128, .i32⟩ : BufTy).Contents (Elt F) → (⟨S4096x128, .i32⟩ : BufTy).Contents (Elt F))
abbrev opCol : HloOp τ sig (Elt F) := StableHlo.nullary main_v4 (iotaInDim S4096x128 32 1)
abbrev opEq : HloOp τ sig (Elt F) :=
  StableHlo.binary main_v3 main_v4 main_v5 (cmpi .eq : (⟨S4096x128, .i32⟩ : BufTy).Contents (Elt F) → (⟨S4096x128, .i32⟩ : BufTy).Contents (Elt F) → (⟨S4096x128, .i1⟩ : BufTy).Contents (Elt F))
abbrev opMat : HloOp τ sig (Elt F) :=
  StableHlo.unary main_v5 main_v6 (uitofp .f32 : (⟨S4096x128, .i1⟩ : BufTy).Contents (Elt F) → (⟨S4096x128, .f32⟩ : BufTy).Contents (Elt F))

/-- The arrays they touch. -/
abbrev matBufs : Finset (DevRef τ sig) :=
  {Proc.devRef .tc main_v1, Proc.devRef .tc main_c, Proc.devRef .tc main_v2, Proc.devRef .tc main_v3, Proc.devRef .tc main_v4, Proc.devRef .tc main_v5, Proc.devRef .tc main_v6}

/-- What the arrays hold after them. -/
abbrev Vmat (d : Dev nD) : Valuation τ sig (Elt F) :=
  opMat.result (opEq.result (opCol.result (opDiv.result (opWidths.result (opWidth.result (opRow.result fun b => m (d, b)))))))

theorem Vmat_v6 (d : Dev nD) : Vmat m d (Proc.devRef .tc main_v6) = (mat : Vec F S4096x128 .f32) := by
  rw [mat_eq]
  rw [show Vmat m d = StableHlo.after [opRow, opWidth, opWidths, opDiv, opCol, opEq, opMat] (fun b => m (d, b)) from rfl]
  after_results <;> rfl

theorem sub_row : (opRow (F := F)).bufs ⊆ matBufs := show ({Proc.devRef .tc main_v1} : Finset (DevRef τ sig)) ⊆ matBufs by decide
theorem sub_width : (opWidth (F := F)).bufs ⊆ matBufs := show ({Proc.devRef .tc main_c} : Finset (DevRef τ sig)) ⊆ matBufs by decide
theorem sub_widths : (opWidths (F := F)).bufs ⊆ matBufs := show ({Proc.devRef .tc main_c, Proc.devRef .tc main_v2} : Finset (DevRef τ sig)) ⊆ matBufs by decide
theorem sub_div : (opDiv (F := F)).bufs ⊆ matBufs :=
  show ({Proc.devRef .tc main_v1, Proc.devRef .tc main_v2, Proc.devRef .tc main_v3} : Finset (DevRef τ sig)) ⊆ matBufs by decide
theorem sub_col : (opCol (F := F)).bufs ⊆ matBufs := show ({Proc.devRef .tc main_v4} : Finset (DevRef τ sig)) ⊆ matBufs by decide
theorem sub_eq : (opEq (F := F)).bufs ⊆ matBufs :=
  show ({Proc.devRef .tc main_v3, Proc.devRef .tc main_v4, Proc.devRef .tc main_v5} : Finset (DevRef τ sig)) ⊆ matBufs by decide
theorem sub_mat : (opMat (F := F)).bufs ⊆ matBufs := show ({Proc.devRef .tc main_v5, Proc.devRef .tc main_v6} : Finset (DevRef τ sig)) ⊆ matBufs by decide

/-- What the TensorCore's call finds: the arrays as launched, the matrix written. -/
def Vtc (c : Dev nD) : (b : Ref sig .tc) → Buf (Elt F) ((c.tc : Thread nD τ).loc b) :=
  Function.update (fun b => m ((c.tc : Thread nD τ).loc b)) main_v6 (mat : Vec F S4096x128 .f32)

theorem Vtc_x (c : Dev nD) : Vtc m c main_arg0 = m (xLoc c) := Function.update_of_ne (show (main_arg0 : Ref sig .tc) ≠ main_v6 by decide) _ _
theorem Vtc_cst (c : Dev nD) : Vtc m c main_v6 = (mat : Vec F S4096x128 .f32) := Function.update_self _ _ _
theorem Vtc_v1 (c : Dev nD) : Vtc m c main_v7 = m ((c.tc : Thread nD τ).loc main_v7) := Function.update_of_ne (show (main_v7 : Ref sig .tc) ≠ main_v6 by decide) _ _

abbrev v0' : DevRef τ sig := Proc.devRef .tc main_v0
abbrev v1' : DevRef τ sig := Proc.devRef .tc main_v7
abbrev v2' : DevRef τ sig := Proc.devRef .tc main_v8
abbrev c' : DevRef τ sig := Proc.devRef .tc main_c_0
abbrev c0' : DevRef τ sig := Proc.devRef .tc main_c_1

/-- What the last operation finds: both calls' results, and where the one goes in the other. -/
def Vend (d : Dev nD) : Valuation τ sig (Elt F) :=
  Function.update (Function.update (Function.update (Function.update (fun b => m (d, b)) v0' (outVal m d : S1024x128.Idx → F .f32))
    v1' (tcOut (Vtc m) d)) c' (constantI S_ 32 15360#32 : IVec S_ 32)) c0' (constantI S_ 32 0#32 : IVec S_ 32)

theorem Vend_c0 (d : Dev nD) : Vend m d c0' = (constantI S_ 32 0#32 : IVec S_ 32) := Function.update_self _ _ _
theorem Vend_c (d : Dev nD) : Vend m d c' = (constantI S_ 32 15360#32 : IVec S_ 32) :=
  (Function.update_of_ne (show c' ≠ c0' by decide) _ _).trans (Function.update_self _ _ _)
theorem Vend_v1 (d : Dev nD) : Vend m d v1' = tcOut (Vtc m) d :=
  (Function.update_of_ne (show v1' ≠ c0' by decide) _ _).trans ((Function.update_of_ne (show v1' ≠ c' by decide) _ _).trans (Function.update_self _ _ _))
theorem Vend_v0 (d : Dev nD) : Vend m d v0' = (outVal m d : S1024x128.Idx → F .f32) :=
  (Function.update_of_ne (show v0' ≠ c0' by decide) _ _).trans ((Function.update_of_ne (show v0' ≠ c' by decide) _ _).trans
    ((Function.update_of_ne (show v0' ≠ v1' by decide) _ _).trans (Function.update_self _ _ _)))
theorem Vend_v2 (d : Dev nD) : Vend m d v2' = m (d, v2') :=
  (Function.update_of_ne (show v2' ≠ c0' by decide) _ _).trans ((Function.update_of_ne (show v2' ≠ c' by decide) _ _).trans
    ((Function.update_of_ne (show v2' ≠ v1' by decide) _ _).trans (Function.update_of_ne (show v2' ≠ v0' by decide) _ _)))

/-- The last operation: the SparseCores' rows laid over the TensorCore's. -/
abbrev opUpd : HloOp τ sig (Elt F) :=
  StableHlo.binaryIndexed main_v7 main_v0 ![main_c_0, main_c_1] ⟨S_, .i32⟩ main_v8 ((fun x u i => Host.dynamicUpdateSlice x u (fun k => (i k (Shape.Idx.first h_S_)).toInt) updateFits_S16384x128_S1024x128) : (⟨S16384x128, .f32⟩ : BufTy).Contents (Elt F) → (⟨S1024x128, .f32⟩ : BufTy).Contents (Elt F) → (Fin 2 → (⟨S_, .i32⟩ : BufTy).Contents (Elt F)) → (⟨S16384x128, .f32⟩ : BufTy).Contents (Elt F))

/-- The result's value. -/
def resVal (d : Dev nD) : Buf (Elt F) ((d, v2') : Loc nD τ sig) := (opUpd (F := F)).result (Vend m d) v2'

theorem upd_bufs : (opUpd (F := F)).bufs = ({v1', v0', c', c0', v2'} : Finset (DevRef τ sig)) :=
  show insert v1' (insert v0' (insert v2' (Finset.univ.image fun k : Fin 2 => (Proc.devRef .tc (![main_c_0, main_c_1] k : Ref sig .tc) : DevRef τ sig)))) = _ by decide

/-- The arrays of the last operation, one after another. -/
theorem upd_held (d : Dev nD) (W : Valuation τ sig (Elt F)) : (bigSep (opUpd (F := F)).bufs fun b => ((d, b) : Loc nD τ sig) ↦{fullShare} W b : sProp (MM F))
    = iprop((((d, v1') : Loc nD τ sig) ↦{fullShare} W v1') ∗ (((d, v0') : Loc nD τ sig) ↦{fullShare} W v0') ∗ (((d, c') : Loc nD τ sig) ↦{fullShare} W c')
      ∗ (((d, c0') : Loc nD τ sig) ↦{fullShare} W c0') ∗ (((d, v2') : Loc nD τ sig) ↦{fullShare} W v2')) := by
  rw [upd_bufs, SparseCore.bigSep_insert' (by decide), SparseCore.bigSep_insert' (by decide), SparseCore.bigSep_insert' (by decide),
    SparseCore.bigSep_insert' (by decide), bigSep_singleton]

theorem wp_upd (d : Dev nD) {Q : PUnit → sProp (MM F)} :
    iprop(boundary (SparseCore.T d) ∗ (((d, v1') : Loc nD τ sig) ↦{fullShare} tcOut (Vtc m) d) ∗ (((d, v0') : Loc nD τ sig) ↦{fullShare} (outVal m d : S1024x128.Idx → F .f32))
        ∗ (((d, c') : Loc nD τ sig) ↦{fullShare} (constantI S_ 32 15360#32 : IVec S_ 32)) ∗ (((d, c0') : Loc nD τ sig) ↦{fullShare} (constantI S_ 32 0#32 : IVec S_ 32))
        ∗ (((d, v2') : Loc nD τ sig) ↦{fullShare} m (d, v2')) ∗ ((boundary (SparseCore.T d) ∗ (((d, v2') : Loc nD τ sig) ↦{fullShare} resVal m d)) -∗ Q ⟨⟩))
      ⊢ wp frame (wpE ((K (F := F)).defs (D (F := F))) 𝒱 (SparseCore.T d) none) Set.univ (hlo rfl (opUpd (F := F)) (fun _ => .ret ⟨⟩)) Q := by
  iintro ⟨Hb, H1, H0, Hc, Hc0, H2, Hk⟩
  iapply (wp_hlo 𝒱 (SparseCore.T d) none Set.univ (op := opUpd (F := F)) (q := fun _ => fullShare) (F := Vend m d) (fun _ _ => rfl)) $$ [Hb H1 H0 Hc Hc0 H2]
  · isplitl [Hb]; · iexact Hb
    iapply (Entails.of_eq (upd_held d (Vend m d)).symm)
    rw [Vend_v1, Vend_v0, Vend_c, Vend_c0, Vend_v2]
    isplitl [H1]; · iexact H1
    isplitl [H0]; · iexact H0
    isplitl [Hc]; · iexact Hc
    isplitl [Hc0]; · iexact Hc0
    iexact H2
  iintro ⟨Hb, Hh⟩
  ihave Hh' := (Entails.of_eq (upd_held d ((opUpd (F := F)).result (Vend m d)))) $$ Hh
  icases Hh' with ⟨-, -, -, -, H2⟩
  rw [wp_ret]; imodintro
  iapply Hk
  isplitl [Hb]; · iexact Hb
  unfold resVal
  iexact H2

/-! ## The TensorCore's program -/

/-- What the TensorCore keeps of its standing after the call to the SparseCores, but for its record. -/
def tcRest (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_end (d : Dev nD) : (K (F := F)).tcSt EH d 1 = iprop(idleOwes d ∗ tcRest (F := F) d) := by
  unfold SparseCore.Cfg.tcSt idleOwes tcRest
  rw [(K (F := F)).Otc_end d (le_refl 1)]

/-- The core's arrays, one after another, those of the matrix together. -/
theorem unscopedBufs_eq (d : Dev nD) : (unscopedBufs d (fun b => m ((d.tc : Thread nD τ).loc b)) : sProp (MM F))
    = iprop((xLoc d ↦{fullShare} m (xLoc d)) ∗ (oLoc d ↦{fullShare} m (oLoc d))
      ∗ (((d.tc : Thread nD τ).loc main_v7) ↦{fullShare} m ((d.tc : Thread nD τ).loc main_v7)) ∗ (((d.tc : Thread nD τ).loc main_c_0) ↦{fullShare} m ((d.tc : Thread nD τ).loc main_c_0))
      ∗ (((d.tc : Thread nD τ).loc main_c_1) ↦{fullShare} m ((d.tc : Thread nD τ).loc main_c_1)) ∗ (((d.tc : Thread nD τ).loc main_v8) ↦{fullShare} m ((d.tc : Thread nD τ).loc main_v8))
      ∗ held (SparseCore.T d) matBufs (fun b => m (d, b))) := by
  unfold unscopedBufs held
  rw [show (Finset.univ.filter fun b : Ref sig .tc => ¬ b.isScoped)
      = {main_arg0, main_v0, main_v7, main_c_0, main_c_1, main_v8, main_v1, main_c, main_v2, main_v3, main_v4, main_v5, main_v6} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The matrix, of the arrays it was built in. -/
theorem held_mat (d : Dev nD) (W : Valuation τ sig (Elt F)) : (held (SparseCore.T d) matBufs W : sProp (MM F))
    ⊢ (((d.tc : Thread nD τ).loc main_v6) ↦{fullShare} W (Proc.devRef .tc main_v6)) := by
  unfold held
  exact bigSep_elim (Φ := fun b : DevRef τ sig => (((d, b) : Loc nD τ sig) ↦{fullShare} W b : sProp (MM F))) (show Proc.devRef .tc main_v6 ∈ matBufs by decide)

/-- What the program leaves: its argument as it was, and the result. -/
def FIN (d : Dev nD) : sProp (MM F) := iprop((xLoc d ↦{fullShare} m (xLoc d)) ∗ (((d, v2') : Loc nD τ sig) ↦{fullShare} resVal m d))

theorem pre_eq (d : Dev nD) : (reg (Vtc m)).pre d = iprop((xLoc d ↦{fullShare} m (xLoc d)) ∗ (((d.tc : Thread nD τ).loc main_v6) ↦{fullShare} (mat : Vec F S4096x128 .f32))
    ∗ (((d.tc : Thread nD τ).loc main_v7) ↦{fullShare} m ((d.tc : Thread nD τ).loc main_v7)) ∗ idleOwes d) := by
  rw [← Vtc_v1 m d, ← Vtc_x m d, ← Vtc_cst m d]; rfl

theorem post_eq (d : Dev nD) : (reg (Vtc m)).post d = iprop((xLoc d ↦{fullShare} m (xLoc d)) ∗ (((d.tc : Thread nD τ).loc main_v6) ↦{fullShare} (mat : Vec F S4096x128 .f32))
    ∗ (((d, v1') : Loc nD τ sig) ↦{fullShare} tcOut (Vtc m) d) ∗ idleOwes d) := by
  rw [← Vtc_x m d, ← Vtc_cst m d]; rfl

theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ stGhost d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscopedBufs_eq m d, tcSt_end]
  unfold FIN
  simp only [main, wp_bind, wp_pure]
  iintro ⟨#Hctx, Hst, ⟨Hb, ⟨Hx, Ho, Hv1, Hc, Hc0, Hv2, Hm⟩, Hts, -⟩, HG⟩
  -- the SparseCores' call
  ihave Hx' := (Entails.of_eq (x_split m d)) $$ Hx
  icases Hx' with ⟨Hxs, Hxh⟩
  ihave Ho' := (o_deal d (m (oLoc d))) $$ Ho
  iapply ((K (F := F)).wp_run (D (F := F)) 𝒱 (EH := EH) (P := P m) κ d 0)
  isplitl []; · iexact Hctx
  isplitl [Hst]; · iexact Hst
  isplitl [Hxs Ho']
  · iapply (Entails.of_eq (st_eq m d).symm)
    isplitl [Hxs]; · iexact Hxs
    iexact Ho'
  iintro ⟨Hst, Hdn⟩
  ihave Hdn' := (Entails.of_eq (dn_eq m d)) $$ Hdn
  icases Hdn' with ⟨Hxs, Ho⟩
  ihave Hx := (Entails.of_eq (x_split m d).symm) $$ [Hxs Hxh]
  · isplitl [Hxs]; · iexact Hxs
    iexact Hxh
  ihave Hst' := (Entails.of_eq (show (K (F := F)).tcSt EH d ((0 : Fin 1).val + 1) = _ from tcSt_end (F := F) d)) $$ Hst
  icases Hst' with ⟨Hid, Hrest⟩
  -- the matrix
  iapply (wp_hlo_within 𝒱 (SparseCore.T d) none Set.univ (op := opRow) (S := matBufs) sub_row) $$ [Hb Hm]
  · isplitl [Hb]; · iexact Hb
    iexact Hm
  iintro ⟨Hb, Hm⟩
  rw [wp_ret]; imodintro
  iapply (wp_hlo_within 𝒱 (SparseCore.T d) none Set.univ (op := opWidth) (S := matBufs) sub_width) $$ [Hb Hm]
  · isplitl [Hb]; · iexact Hb
    iexact Hm
  iintro ⟨Hb, Hm⟩
  rw [wp_ret]; imodintro
  iapply (wp_hlo_within 𝒱 (SparseCore.T d) none Set.univ (op := opWidths) (S := matBufs) sub_widths) $$ [Hb Hm]
  · isplitl [Hb]; · iexact Hb
    iexact Hm
  iintro ⟨Hb, Hm⟩
  rw [wp_ret]; imodintro
  iapply (wp_hlo_within 𝒱 (SparseCore.T d) none Set.univ (op := opDiv) (S := matBufs) sub_div) $$ [Hb Hm]
  · isplitl [Hb]; · iexact Hb
    iexact Hm
  iintro ⟨Hb, Hm⟩
  rw [wp_ret]; imodintro
  iapply (wp_hlo_within 𝒱 (SparseCore.T d) none Set.univ (op := opCol) (S := matBufs) sub_col) $$ [Hb Hm]
  · isplitl [Hb]; · iexact Hb
    iexact Hm
  iintro ⟨Hb, Hm⟩
  rw [wp_ret]; imodintro
  iapply (wp_hlo_within 𝒱 (SparseCore.T d) none Set.univ (op := opEq) (S := matBufs) sub_eq) $$ [Hb Hm]
  · isplitl [Hb]; · iexact Hb
    iexact Hm
  iintro ⟨Hb, Hm⟩
  rw [wp_ret]; imodintro
  iapply (wp_hlo_within 𝒱 (SparseCore.T d) none Set.univ (op := opMat) (S := matBufs) sub_mat) $$ [Hb Hm]
  · isplitl [Hb]; · iexact Hb
    iexact Hm
  iintro ⟨Hb, Hm⟩
  rw [wp_ret]; imodintro
  ihave Hcst := (held_mat d (Vmat m d)) $$ Hm
  rw [Vmat_v6]
  -- the TensorCore's call
  iapply (wp_tc_call (Vtc m) d)
  isplitl [Ho Hc Hc0 Hv2 Hts Hrest]
  swap
  · isplitl [Hb]; · iexact Hb
    isplitl [Hx Hcst Hv1 Hid]
    · iapply (Entails.of_eq (pre_eq m d).symm)
      isplitl [Hx]; · iexact Hx
      isplitl [Hcst]; · iexact Hcst
      isplitl [Hv1]; · iexact Hv1
      iexact Hid
    isplitr [HG]
    · iapply (SparseCore.Cfg.ctx_levAts κ) $$ Hctx
    iexact HG
  iintro ⟨Hb, Hpost⟩
  ihave Hpost' := (Entails.of_eq (post_eq m d)) $$ Hpost
  icases Hpost' with ⟨Hx, -, Hv1, Hid⟩
  -- where the rows go
  iapply (wp_const d main_c_0 ⟨by decide, rfl⟩ (constantI S_ 32 15360#32) (fun b => m (d, b)))
  isplitl [Hb]; · iexact Hb
  isplitl [Hc]; · iexact Hc
  iintro ⟨Hb, Hc⟩
  iapply (wp_const d main_c_1 ⟨by decide, rfl⟩ (constantI S_ 32 0#32) (fun b => m (d, b)))
  isplitl [Hb]; · iexact Hb
  isplitl [Hc0]; · iexact Hc0
  iintro ⟨Hb, Hc0⟩
  -- and there they go
  iapply (wp_upd m d)
  isplitl [Hb]; · iexact Hb
  isplitl [Hv1]; · iexact Hv1
  isplitl [Ho]; · iexact Ho
  isplitl [Hc]; · iexact Hc
  isplitl [Hc0]; · iexact Hc0
  isplitl [Hv2]; · iexact Hv2
  iintro ⟨Hb, Hv2⟩
  isplitl [Hid Hrest]
  · isplitl [Hid]; · iexact Hid
    iexact Hrest
  isplitl [Hx Hv2]
  · isplitl [Hx]; · iexact Hx
    iexact Hv2
  isplitl [Hb]; · iexact Hb
  iexact Hts

/-! ## The run -/

/-- What the final memory says of one device: the argument as it was launched, the result at its value. -/
def fq (d : Dev nD) (s : Phys nD τ sig (Elt F)) : Prop :=
  s.mem.mem (xLoc d) = m (xLoc d) ∧ s.mem.mem ((d, v2') : Loc nD τ sig) = resVal m d

theorem hfin (d : Dev nD) (s : Phys nD τ sig (Elt F)) : iprop(FIN m d ∗ SI s) ⊢ (⌜fq m d s⌝ : sProp (MM F)) := by
  unfold FIN
  iintro ⟨⟨Hx, Hr⟩, HS⟩
  ihave Hr' := (persistent_entails_right (SI_pointsTo_agree (st := s) (ℓ := ((d, v2') : Loc nD τ sig)) (I := Finset.univ) (q := fullShare) (f := resVal m d))) $$ [HS Hr]
  · isplitl [HS]; · iexact HS
    iexact Hr
  icases Hr' with ⟨%hr, HS, -⟩
  ihave Hx' := (SI_pointsTo_agree (st := s) (ℓ := xLoc d) (I := Finset.univ) (q := fullShare) (f := m (xLoc d))) $$ [HS Hx]
  · isplitl [HS]; · iexact HS
    iexact Hx
  icases Hx' with %hx
  ipureintro
  exact ⟨funext fun i => hx i (Finset.mem_univ i), funext fun i => hr i (Finset.mem_univ i)⟩

/-- The program's outcome: every device's argument kept and result at its value, every semaphore at rest. -/
def QC (r : PUnit × MemSt nD τ sig (Elt F)) : Prop :=
  (∀ d : Dev nD, r.2.mem (xLoc d) = m (xLoc d) ∧ r.2.mem ((d, v2') : Loc nD τ sig) = resVal m d) ∧ r.2.sem = fun _ => 0

theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => stGhost d) (FIN m) (u₀ (F := F)) (sep_elim_left.trans (hu₀ m)) (hmain m ρ) (fq m) (hfin m) (QC m) (fun _ h hz => ⟨h, hz⟩)

end Cert.Proof.SegSum

end
-- ==== Proof.Frames.lean ====
/-
  The three frames. The kernel's run is proved at any float values, so it serves the printed program and its ideal
  reading alike: the two are one text.
-/
module

public import proofs.«01_k».proof.Defs
public import proofs.«01_k».proof.Proof.Gen.Kernel
public import proofs.«01_k».proof.Proof.Gen.ReferenceIdeal.Run
public import proofs.«01_k».proof.Proof.Main

@[expose] public section

set_option maxRecDepth 65536

noncomputable section

namespace Cert.Proof

open Idealize.ShloMosaic Idealize.SL.Sem

variable {F : FTy → Type} [FloatOps F]

set_option maxHeartbeats 4000000 in
/-- The two programs' kernel bodies are one text. -/
theorem bodies_printed : (Cert.Kernel.defs₀ (F := F)) = Cert.KernelIdeal.defs₀ (F := F) := by
  funext p l a
  unfold Cert.Kernel.defs₀ Cert.KernelIdeal.defs₀
  cases p with
  | tc => match l with
    | 0 => rfl
    | 1 => rfl
  | scScalar c => match l with
    | 0 => rfl
    | 1 => rfl
  | scVector c s => match l with
    | 0 => rfl
    | 1 => rfl

theorem defs_printed : (Cert.Kernel.defs (F := F)) = Cert.KernelIdeal.defs (F := F) :=
  congrArg (fun d => Cert.KernelIdeal.sc.defs (Pipeline.defs Cert.KernelIdeal.pcfgs d)) bodies_printed

theorem main_printed : (Cert.Kernel.main (F := F)) = Cert.KernelIdeal.main (F := F) := rfl

/-- The run of the printed program, read off the ideal program's. -/
theorem run_printed [∀ e, Nonempty (Elt F e)] (m : (ℓ : Loc Cert.Kernel.nD Cert.Kernel.τ Cert.Kernel.sig) → Buf (Elt F) ℓ) (ρ : Dev Cert.Kernel.nD → PrngReg) :
    θ_run (Cert.Kernel.defs (F := F)) (Cert.Kernel.threads (F := F)) ⟨m, fun _ => 0, ρ⟩ (SegSum.QC m) := by
  unfold Cert.Kernel.threads
  rw [main_printed, defs_printed]
  exact SegSum.run_main m ρ

/-- The kernel's frame: it terminates without a fault, its argument kept, every semaphore at rest. -/
theorem frame_kernel : Cert.quiescent_Kernel := fun m ρ _ =>
  (θ_run Cert.Kernel.defs _ _).mono (fun _ h => ⟨fun c => (h.1 c).1, h.2⟩) (run_printed (F := Bits) m ρ)

/-- The same of the kernel at ideal values. -/
theorem frame_kernelIdeal : Cert.quiescent_KernelIdeal := fun m ρ _ =>
  (θ_run Cert.KernelIdeal.defs _ _).mono (fun _ h => ⟨fun c => (h.1 c).1, h.2⟩) (SegSum.run_main (F := Ideal) m ρ)

/-- The reference's frame; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefValue.lean ====
/-
  The sums the program is for, over the extended reals, and that the reference forms them: entry `(r, c)` of its
  result is the sum of columns `32 c` to `32 c + 31` of row `r` of `x`.
-/
module

public import proofs.«01_k».proof.Proof.Gen.ReferenceIdeal.Run
public import Idealize.ShloMosaic.Lib.Routing.OpsPair
public import Idealize.ShloMosaic.Lib.ValueLayout
public import Idealize.ShloMosaic.PureOps.Ideal.Laws

@[expose] public section

set_option maxRecDepth 65536

noncomputable section

namespace Cert.Proof.SegSum

open Idealize.ShloMosaic Idealize.ShloMosaic.ValueIdx
open scoped BigOperators

/-! ## The sums -/

/-- Column `32 c + g`: the `g`-th column of segment `c`. -/
def segCol (c : Fin 128) (g : Fin 32) : Fin 4096 := ⟨32 * c.val + g.val, by have := c.isLt; have := g.isLt; omega⟩

/-- The sum of segment `c` of row `r`. -/
def segSum (X : (⟨2, ![16384, 4096]⟩ : Shape).Idx → EReal) (r : Fin 16384) (c : Fin 128) : EReal :=
  ∑ g : Fin 32, X (ix2 r (segCol c g))

theorem segCol_div (c : Fin 128) (g : Fin 32) : (segCol c g).val / 32 = c.val := by
  show (32 * c.val + g.val) / 32 = c.val
  have := g.isLt; omega

theorem segCol_inj (c : Fin 128) (g g' : Fin 32) (h : segCol c g = segCol c g') : g = g' := by
  have h' : 32 * c.val + g.val = 32 * c.val + g'.val := congrArg Fin.val h
  exact Fin.ext (by omega)

/-- A column of segment `c` is one of the thirty-two. -/
theorem segCol_surj (c : Fin 128) (k : Fin 4096) (h : k.val / 32 = c.val) : ∃ g, segCol c g = k :=
  ⟨⟨k.val % 32, Nat.mod_lt _ (by decide)⟩, Fin.ext (by show 32 * c.val + k.val % 32 = k.val; omega)⟩

/-! ## The reference -/

section Reference

open Cert.ReferenceIdeal Cert.ReferenceIdeal.Gen

/-- The segment the reference's table gives column `k`. -/
theorem lit_eq : ∀ k : Fin 4096, (lit0 k).toInt = ((k.val / 32 : ℕ) : Int) := by decide +kernel

/-- The table as the scatter reads it: column `k`'s segment at `(k, 0)`. -/
abbrev segTable : IVec S4096x1 32 := broadcastInDim S4096x1 ![0] bcast_S4096_S4096x1_0 (fun i => lit0 (S4096.rowMajor i))

theorem segTable_eq (y : S4096x1.Idx) : (segTable y).toInt = (((y 0).val / 32 : ℕ) : Int) := by
  refine (lit_eq _).trans (congrArg (fun n : ℕ => ((n / 32 : ℕ) : Int)) ?_)
  exact (Shape.rowMajor_val_one _).trans rfl

abbrev scat := scatter_S128x16384_S4096x1_S4096x16384_1_0_0_1

/-- Entry `(k, r')` of the transposed argument is added to entry `(c, r)` exactly when column `k` is of segment `c` and `r'` is `r`. -/
theorem scat_lands (j : S4096x16384.Idx) (c : Fin 128) (r : Fin 16384) :
    scat.resultIdx? j segTable = some (ix2 c r) ↔ (j 0).val / 32 = c.val ∧ (j 1).val = r.val := by
  have h0 : scat.start j segTable 0 = (((j 0).val / 32 : ℕ) : Int) := by
    refine (show _ = (segTable (ix2 (j 0) (0 : Fin 1))).toInt from ?_).trans (segTable_eq _)
    refine congrArg (fun y => (segTable y).toInt) (funext fun b => ?_)
    match b with
    | 0 => rfl
    | 1 => rfl
  have h1 : scat.start j segTable 1 = 0 := rfl
  have w0 : scat.window j 0 = 0 := rfl
  have w1 : scat.window j 1 = (j 1).val := rfl
  rw [Routing.resultIdx?_ix2, h0, h1, w0, w1]
  omega

/-- The reference's result is the sums. -/
theorem ref_value (X : S16384x4096.Idx → EReal) (r : Fin 16384) (c : Fin 128) :
    (transpose S16384x128 [1, 0] (Host.scatterAdd (F := Ideal) scat (broadcastInDim S128x16384 ![] bcast_S_S128x16384 (constant S_ .f32 0x00000000#32)) segTable
      (transpose S4096x16384 [1, 0] X transposes_S16384x4096_S4096x16384_1_0)) transposes_S128x16384_S16384x128_1_0 : S16384x128.Idx → EReal) (ix2 r c)
    = segSum X r c := by
  refine (transpose_ix2_apply _ _ r c).trans ?_
  refine (show _ = (0 : EReal) + ∑ j ∈ Finset.univ.filter (fun j => scat.resultIdx? j segTable = some (ix2 c r)), X (ix2 (j 1) (j 0)) from ?_).trans ?_
  · exact congrArg₂ (· + ·) Ideal.ofBits_zero_f32 (Finset.sum_congr rfl fun j _ =>
      (congrArg (transpose S4096x16384 [1, 0] X transposes_S16384x4096_S4096x16384_1_0) (eq_ix2 j)).trans (transpose_ix2_apply _ _ (j 0) (j 1)))
  · rw [zero_add]
    refine (Finset.sum_bij (fun g _ => (ix2 (segCol c g) r : S4096x16384.Idx)) (fun g _ => ?_) (fun g _ g' _ h => segCol_inj c g g' (congrFun h 0)) (fun j hj => ?_) (fun g _ => rfl)).symm
    · exact Finset.mem_filter.2 ⟨Finset.mem_univ _, (scat_lands _ c r).2 ⟨segCol_div c g, rfl⟩⟩
    · obtain ⟨h0, h1⟩ := (scat_lands j c r).1 (Finset.mem_filter.1 hj).2
      obtain ⟨g, hg⟩ := segCol_surj c (j 0) h0
      refine ⟨g, Finset.mem_univ _, ?_⟩
      funext a
      match a with
      | 0 => exact hg
      | 1 => exact Fin.ext h1.symm

end Reference

end Cert.Proof.SegSum

end
-- ==== Proof.Value.lean ====
/-
  What the program computes, over the extended reals: entry `(r, c)` of its result is the sum of columns `32 c` to
  `32 c + 31` of row `r` of `x`. The TensorCore's rows form it as a product with the 0/1 matrix, the SparseCores' rows
  by adding the same thirty-two numbers in another order.
-/
module

public import proofs.«01_k».proof.Proof.Main
public import proofs.«01_k».proof.Proof.RefValue
public import Idealize.ShloMosaic.Lib.MatmulPlain
public import Idealize.ShloMosaic.Lib.WordCmp

@[expose] public section

set_option maxRecDepth 65536

noncomputable section

namespace Cert.Proof.SegSum

open Cert.KernelIdeal Cert.KernelIdeal.Gen
open Idealize.ShloMosaic hiding ix2 eq_ix2
open Idealize.ShloMosaic.ValueIdx (ix2 eq_ix2)
open scoped BigOperators

/-! ## The SparseCores' rows -/

/-- `33 l xor j` is `32 l + (l xor j)`: the numbers of one lane's sum are those of its own segment, in another order. -/
theorem lane_col : ∀ l : Fin 16, ∀ j : Fin 32, ((33 * l.val) ^^^ j.val) = 32 * l.val + ((l.val ^^^ j.val) % 32) := by decide +kernel

/-- `l xor j`, as a number below 32. -/
def flip (l : Fin 16) (j : Fin 32) : Fin 32 := ⟨(l.val ^^^ j.val) % 32, Nat.mod_lt _ (by decide)⟩

theorem flip_flip : ∀ l : Fin 16, ∀ j : Fin 32, flip l (flip l j) = j := by decide +kernel

/-- `xor` with a fixed number permutes the numbers below 32. -/
def flipEquiv (l : Fin 16) : Fin 32 ≃ Fin 32 := ⟨flip l, flip l, flip_flip l, flip_flip l⟩

/-- A left fold of additions over a range of numbers is a sum. -/
theorem foldl_sum (f : ℕ → EReal) (a : EReal) (k n : ℕ) :
    (List.range' k n).foldl (fun s j => s + f j) a = a + ∑ j ∈ Finset.range n, f (k + j) := by
  induction n generalizing k a with
  | zero => simp
  | succ n ih =>
    rw [List.range'_succ, List.foldl_cons, ih, Finset.sum_range_succ', add_assoc]
    congr 1
    rw [add_comm (f k)]
    exact congrArg (· + f k) (Finset.sum_congr rfl fun j _ => congrArg f (by omega))

/-- Column `c` of a chunk's row sums the thirty-two numbers of segment `c`. -/
theorem chunkSum_eq (f : Vec Ideal S8x4096 .f32) (y : S8x128.Idx) : chunkSum f y = ∑ g : Fin 32, (f (inIx (y 0) (segCol (y 1) g)) : EReal) := by
  refine (show chunkSum f y = _ from foldl_sum (fun j => term f (y 0) (y 1) j) _ 1 31).trans ?_
  have hs : ∑ j ∈ Finset.range 32, (term f (y 0) (y 1) j : EReal) = (term f (y 0) (y 1) 0 : EReal) + ∑ j ∈ Finset.range 31, (term f (y 0) (y 1) (1 + j) : EReal) := by
    rw [Finset.sum_range_succ', add_comm]
    exact congrArg (_ + ·) (Finset.sum_congr rfl fun j _ => by rw [add_comm])
  refine hs.symm.trans ((Finset.sum_range _).trans ?_)
  have hc : (y 1).val < 128 := (y 1).isLt
  refine (Finset.sum_congr rfl fun j _ => ?_).trans (Equiv.sum_comp (flipEquiv ⟨(y 1).val % 16, Nat.mod_lt _ (by decide)⟩) fun g => (f (inIx (y 0) (segCol (y 1) g)) : EReal))
  unfold term
  rw [dif_pos j.isLt]
  refine congrArg (fun k => f (inIx (y 0) k)) (Fin.ext ?_)
  have h := lane_col ⟨(y 1).val % 16, Nat.mod_lt _ (by decide)⟩ j
  show 512 * ((y 1).val / 16) + ((33 * ((y 1).val % 16)) ^^^ j.val) = 32 * (y 1).val + (((y 1).val % 16 ^^^ j.val) % 32)
  have h' : ((33 * ((y 1).val % 16)) ^^^ j.val) = 32 * ((y 1).val % 16) + (((y 1).val % 16 ^^^ j.val) % 32) := h
  omega

variable (m : (ℓ : Loc nD τ sig) → Buf (Elt Ideal) ℓ) (d : Dev nD)

/-- The argument's array on device `d`. -/
abbrev xArr : S16384x4096.Idx → EReal := m (xLoc d)

/-- The SparseCores' result: row `r` of it is row `15360 + r` of the sums. -/
theorem outVal_eq (y : S1024x128.Idx) (r : Fin 16384) (hr : r.val = 15360 + (y 0).val) :
    (outVal m d y : EReal) = segSum (xArr m d) r (y 1) := by
  unfold outVal
  refine (chunkSum_eq _ _).trans (Finset.sum_congr rfl fun g _ => ?_)
  refine congrArg (xArr m d) (funext fun a => ?_)
  match a with
  | 0 => exact Fin.ext (by show 8 * (1920 + (y 0).val / 8) + (y 0).val % 8 = r.val; omega)
  | 1 => rfl

/-! ## The TensorCore's rows -/

/-- The host's quotient by 32. -/
theorem div_word : ∀ k : Fin 4096, IntOp.divsi .host (BitVec.ofNat 32 k.val) 32#32 = BitVec.ofNat 32 (k.val / 32) := by decide +kernel

/-- Entry `(k, c)` of the 0/1 matrix: 1 when column `k` is of segment `c`. -/
theorem mat_apply (k : Fin 4096) (c : Fin 128) : ((mat : Vec Ideal S4096x128 .f32) (ix2 k c) : EReal) = if k.val / 32 = c.val then 1 else 0 := by
  have hk := k.isLt
  have hc := c.isLt
  rw [mat_eq]
  refine (show _ = (((IntOp.cmpi .eq (IntOp.divsi .host (BitVec.ofNat 32 k.val) 32#32) (BitVec.ofNat 32 c.val)).toNat : ℝ) : EReal) from rfl).trans ?_
  rw [div_word, WordCmp.cmpi_eq_ofNat (by omega) (by omega)]
  by_cases h : k.val / 32 = c.val
  · rw [if_pos h]; simp [h]
  · rw [if_neg h]; simp [h]

/-- A row's products with a column of the matrix add up to the segment's sum. -/
theorem sum_mat (f : Fin 4096 → EReal) (c : Fin 128) :
    ∑ k : Fin 4096, f k * ((mat : Vec Ideal S4096x128 .f32) (ix2 k c) : EReal) = ∑ g : Fin 32, f (segCol c g) := by
  rw [Finset.sum_congr rfl fun k _ => show f k * ((mat : Vec Ideal S4096x128 .f32) (ix2 k c) : EReal) = if k.val / 32 = c.val then f k else 0 by
    rw [mat_apply]; split
    · exact mul_one _
    · exact mul_zero _]
  rw [← Finset.sum_filter]
  refine (Finset.sum_bij (fun g _ => segCol c g) (fun g _ => Finset.mem_filter.2 ⟨Finset.mem_univ _, segCol_div c g⟩)
    (fun g _ g' _ h => segCol_inj c g g' h) (fun k hk => ?_) (fun g _ => rfl)).symm
  obtain ⟨g, hg⟩ := segCol_surj c k (Finset.mem_filter.1 hk).2
  exact ⟨g, Finset.mem_univ _, hg⟩

theorem dot_plain : dot_S1024x4096_S4096x128_S1024x128_1_0_0_1_n_n = DotDims.plain 1024 4096 128 := rfl

/-- The product of `x` with the matrix is the sums. -/
theorem tcVal_eq (X : S16384x4096.Idx → EReal) (r : Fin 16384) (c : Fin 128) :
    (tcVal (F := Ideal) X mat (ix2 r c) : EReal) = segSum X r c := by
  have hr := r.isLt
  unfold tcVal k1_pay1
  rw [shapeCast_self, dot_plain]
  refine (congrArg _ (eq_ix2 _)).trans ((Ideal.matmul_plain_apply none _ _ _ _ _).trans ?_)
  refine (congrArg₂ (· + ·) Ideal.ofBits_zero_f32 (sum_mat (fun k => xBlk (F := Ideal) X ⟨r.val / 1024, by omega⟩ (ix2 ⟨r.val % 1024, Nat.mod_lt _ (by decide)⟩ k)) c)).trans ?_
  refine (zero_add _).trans (Finset.sum_congr rfl fun g _ => congrArg X (funext fun a => ?_))
  match a with
  | 0 => exact Fin.ext (by show 1024 * (r.val / 1024) + r.val % 1024 = r.val; omega)
  | 1 => rfl

/-! ## The result -/

theorem fits : S16384x128.Slices ![15360, 0] S1024x128 := by decide

/-- The last operation lays the SparseCores' rows over the TensorCore's. -/
theorem resVal_eq : (resVal m d : S16384x128.Idx → EReal)
    = updateSlice (s := S16384x128) (u := S1024x128) (tcOut (Vtc m) d : S16384x128.Idx → EReal) (outVal m d) ![15360, 0] fits := by
  refine (StableHlo.binaryIndexed_result ..).trans ?_
  rw [show Vend m d (Proc.devRef .tc main_v7) = _ from Vend_v1 m d, show Vend m d (Proc.devRef .tc main_v0) = _ from Vend_v0 m d]
  refine WordCmp.dynamicUpdateSlice_eq_update _ _ _ _ _ fits fun a => ?_
  match a with
  | 0 => exact (show _ = ((Vend m d c' : IVec S_ 32) (Shape.Idx.first h_S_)).toInt from rfl).trans (by rw [Vend_c]; rfl)
  | 1 => exact (show _ = ((Vend m d c0' : IVec S_ 32) (Shape.Idx.first h_S_)).toInt from rfl).trans (by rw [Vend_c0]; rfl)

/-- The program's result is the sums. -/
theorem res_value (r : Fin 16384) (c : Fin 128) : (resVal m d : S16384x128.Idx → EReal) (ix2 r c) = segSum (xArr m d) r c := by
  have hr := r.isLt
  have hc := c.isLt
  rw [resVal_eq]
  unfold updateSlice
  by_cases h : r.val < 15360
  · rw [dif_neg fun hin => absurd (hin 0).1 (by show ¬ 15360 ≤ r.val; omega)]
    refine (tcOut_eq (Vtc m) d (ix2 r c)).trans ?_
    rw [if_pos (show ((ix2 r c) 0).val < 15360 from h), Vtc_x, Vtc_cst]
    exact tcVal_eq (xArr m d) r c
  · rw [dif_pos fun a => match a with
      | 0 => (show 15360 ≤ r.val ∧ r.val < 15360 + 1024 by omega)
      | 1 => (show 0 ≤ c.val ∧ c.val < 0 + 128 by omega)]
    exact outVal_eq m d _ r (by show r.val = 15360 + (r.val - 15360); omega)

end Cert.Proof.SegSum

end
-- ==== Proof.Algebraic.lean ====
/-
  Over the extended reals the program and the reference end with the same result.
-/
module

public import proofs.«01_k».proof.Defs
public import proofs.«01_k».proof.Proof.Frames
public import proofs.«01_k».proof.Proof.Value

@[expose] public section

noncomputable section

namespace Cert.Proof

open Idealize.ShloMosaic Idealize.SL.Sem

/-- From memories that agree on `x`, the program and the reference both run and end with equal results: every entry
    the sum of its segment of its row of `x`. -/
theorem algebraic : Cert.algebraic_KernelIdeal_ReferenceIdeal (hKernelIdeal := Cert.KernelIdeal.Gen.facts) (hReferenceIdeal := Cert.ReferenceIdeal.Gen.facts) := by
  intro m ρ m' ρ' _ hx
  refine ⟨fun c => SegSum.resVal m c,
    (θ_run Cert.KernelIdeal.defs _ _).mono (fun _ h c => ⟨(h.1 c).2, (h.1 c).1⟩) (SegSum.run_main (F := Ideal) m ρ),
    (θ_run Cert.ReferenceIdeal.defs _ _).mono (fun _ h c => ⟨(h c).1.trans ?_, (h c).2⟩) (Cert.ReferenceIdeal.Value.run (F := Ideal) m' ρ')⟩
  funext i
  rw [hx c]
  refine (congrArg _ (ValueIdx.eq_ix2 i)).trans ((SegSum.ref_value (m (SegSum.xLoc c)) (i 0) (i 1)).trans ?_)
  exact (SegSum.res_value m c (i 0) (i 1)).symm.trans (congrArg (SegSum.resVal m c) (ValueIdx.eq_ix2 i).symm)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, all of them. -/
theorem claim : Cert.Claim := ⟨Cert.Kernel.Gen.facts, Cert.KernelIdeal.Gen.facts, Cert.ReferenceIdeal.Gen.facts, by
  exact ⟨frame_kernel, frame_kernelIdeal, frame_referenceIdeal, trivial, algebraic⟩⟩

end Cert.Proof

end
